-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Gather [hPre_in_table : Cert.Pre_in_table.Facts] (m : (ℓ : Loc Cert.Gather.nD Cert.Gather.τ Cert.Gather.sig) → Buf (Elt Bits) ℓ) : Prop :=
  ∀ c : Dev Cert.Gather.nD,
    (Cert.Pre_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_table : Cert.Pre_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal [hPre_in_table : Cert.Pre_in_table.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_table.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_GatherReference [hPre_in_table : Cert.Pre_in_table.Facts] (m : (ℓ : Loc Cert.GatherReference.nD Cert.GatherReference.τ Cert.GatherReference.sig) → Buf (Elt Bits) ℓ) : Prop :=
  ∀ c : Dev Cert.GatherReference.nD,
    (Cert.Pre_in_table.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_in_table : Cert.Pre_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_table : Cert.Pre_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] [hPre_in_table : Cert.Pre_in_table.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] [hPre_in_table : Cert.Pre_in_table.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_cst_0)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_cst_9) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def bitexact_Gather_GatherReference [hGather : Cert.Gather.Facts] [hGatherReference : Cert.GatherReference.Facts] [hPre_in_table : Cert.Pre_in_table.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v7) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def algebraic_GatherIdeal_GatherReferenceIdeal [hGatherIdeal : Cert.GatherIdeal.Facts] [hGatherReferenceIdeal : Cert.GatherReferenceIdeal.Facts] [hPre_in_table : Cert.Pre_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v7) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hGatherReference : Cert.GatherReference.Facts) (hPre_finite : Cert.Pre_finite.Facts) (hPre_in_table : Cert.Pre_in_table.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_in_table := hPre_in_table)
    ∧ quiescent_GatherIdeal (hGatherIdeal := hGatherIdeal) (hPre_in_table := hPre_in_table)
    ∧ quiescent_GatherReferenceIdeal (hGatherReferenceIdeal := hGatherReferenceIdeal) (hPre_in_table := hPre_in_table)
    ∧ quiescent_GatherReference (hGatherReference := hGatherReference) (hPre_in_table := hPre_in_table)
    ∧ algebraic_KernelIdeal_ReferenceIdeal_pre_finite (hKernelIdeal := hKernelIdeal) (hReferenceIdeal := hReferenceIdeal) (hPre_finite := hPre_finite)
    ∧ preserves_Gather_GatherIdeal
    ∧ bitexact_Gather_GatherReference (hGather := hGather) (hGatherReference := hGatherReference) (hPre_in_table := hPre_in_table)
    ∧ algebraic_GatherIdeal_GatherReferenceIdeal (hGatherIdeal := hGatherIdeal) (hGatherReferenceIdeal := hGatherReferenceIdeal) (hPre_in_table := hPre_in_table)
-- ==== Pre_finite.lean ====
abbrev S32x196x256 : Shape := ⟨3, ![32, 196, 256]⟩
abbrev S2048x64 : Shape := ⟨2, ![2048, 64]⟩
abbrev S_ : Shape := ⟨0, ![]⟩

class Facts : Prop where
  bcast_S_S32x196x256 : S_.BroadcastsInDim S32x196x256 (![] : Fin 0 → Fin S32x196x256.rank)
  reducesTo_S32x196x256_S_d0_1_2 : S32x196x256.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S32x196x256 .f32) (main_arg1 : FVec F S2048x64 .f32) : IVec S_ 1 × IVec S_ 1 :=
  let main_v0 : FVec F S32x196x256 .f32 := Host.absf main_arg0
  let main_cst : FVec F S_ .f32 := constant S_ .f32 0x7F800000#32
  let main_v1 : FVec F S32x196x256 .f32 := broadcastInDim S32x196x256 ![] bcast_S_S32x196x256 main_cst
  let main_v2 : IVec S32x196x256 1 := cmpf .olt main_v0 main_v1
  let main_c : IVec S_ 1 := constantI S_ 1 1#1
  let main_v3 : IVec S_ 1 := (fun x v => Host.reduce IntOp.andi x v reducesTo_S32x196x256_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  (main_v3, main_v7)
-- ==== Pre_in_table.lean ====
abbrev S2048x64 : Shape := ⟨2, ![2048, 64]⟩
abbrev S32x196x4 : Shape := ⟨3, ![32, 196, 4]⟩
abbrev S_ : Shape := ⟨0, ![]⟩

class Facts : Prop where
  bcast_S_S32x196x4 : S_.BroadcastsInDim S32x196x4 (![] : Fin 0 → Fin S32x196x4.rank)
  reducesTo_S32x196x4_S_d0_1_2 : S32x196x4.ReducesTo [0, 1, 2] S_
  h_S_ : 0 < S_.numel

variable [Facts]

def fn {F : FTy → Type} [FloatOps F] (main_arg0 : FVec F S2048x64 .f32) (main_arg1 : IVec S32x196x4 32) : IVec S_ 1 :=
  let main_c : IVec S_ 32 := constantI S_ 32 0#32
  let main_v0 : IVec S32x196x4 32 := broadcastInDim S32x196x4 ![] bcast_S_S32x196x4 main_c
  let main_v1 : IVec S32x196x4 1 := cmpi .sge main_arg1 main_v0
  let main_c_0 : IVec S_ 1 := constantI S_ 1 1#1
  let main_v2 : IVec S_ 1 := (fun x v => Host.reduce IntOp.andi x v reducesTo_S32x196x4_S_d0_1_2 h_S_) main_v1 main_c_0
  let main_c_1 : IVec S_ 32 := constantI S_ 32 2048#32
  let main_v3 : IVec S32x196x4 32 := broadcastInDim S32x196x4 ![] bcast_S_S32x196x4 main_c_1
  let main_v4 : IVec S32x196x4 1 := cmpi .slt main_arg1 main_v3
  let main_c_2 : IVec S_ 1 := constantI S_ 1 1#1
  let main_v5 : IVec S_ 1 := (fun x v => Host.reduce IntOp.andi x v reducesTo_S32x196x4_S_d0_1_2 h_S_) main_v4 main_c_2
  let main_v6 : IVec S_ 1 := andi main_v2 main_v5
  main_v6
-- ==== KernelIdeal.lean ====
abbrev S32x196x256 : Shape := ⟨3, ![32, 196, 256]⟩
abbrev S2048x64 : Shape := ⟨2, ![2048, 64]⟩
abbrev S6272x256 : Shape := ⟨2, ![6272, 256]⟩
abbrev S64x2048 : Shape := ⟨2, ![64, 2048]⟩
abbrev S6272x4 : Shape := ⟨2, ![6272, 4]⟩
abbrev S1x1 : Shape := ⟨2, ![1, 1]⟩
abbrev S784x256 : Shape := ⟨2, ![784, 256]⟩
abbrev S784x4 : Shape := ⟨2, ![784, 4]⟩
abbrev S784x64 : Shape := ⟨2, ![784, 64]⟩
abbrev S64x512 : Shape := ⟨2, ![64, 512]⟩
abbrev S512 : Shape := ⟨1, ![512]⟩
abbrev S784x512 : Shape := ⟨2, ![784, 512]⟩
abbrev S784 : Shape := ⟨1, ![784]⟩
abbrev S784x1 : Shape := ⟨2, ![784, 1]⟩
abbrev S1x512 : Shape := ⟨2, ![1, 512]⟩
abbrev S1x784x1 : Shape := ⟨3, ![1, 784, 1]⟩
abbrev S1 : Shape := ⟨1, ![1]⟩
abbrev S1x1x1 : Shape := ⟨3, ![1, 1, 1]⟩
abbrev S_ : Shape := ⟨0, ![]⟩
abbrev S2048x128 : Shape := ⟨2, ![2048, 128]⟩
abbrev S25088 : Shape := ⟨1, ![25088]⟩
abbrev S200x128 : Shape := ⟨2, ![200, 128]⟩
abbrev S196x256 : Shape := ⟨2, ![196, 256]⟩
abbrev S200 : Shape := ⟨1, ![200]⟩
abbrev S1x16 : Shape := ⟨2, ![1, 16]⟩
abbrev S16 : Shape := ⟨1, ![16]⟩
abbrev S184x128 : Shape := ⟨2, ![184, 128]⟩
abbrev S184 : Shape := ⟨1, ![184]⟩
abbrev S1x196x256 : Shape := ⟨3, ![1, 196, 256]⟩
abbrev S32x196x4 : Shape := ⟨3, ![32, 196, 4]⟩

abbrev nBuf : Table → Nat
  | .hbm => 16
  | .local .tc .vmem => 6
  | .local .scVector .vmem => 4
  | _ => 0

abbrev bufTy : (tb : Table) → Fin (nBuf tb) → BufTy
  | .hbm, ⟨0, _⟩ => ⟨S32x196x256, .f32⟩
  | .hbm, ⟨1, _⟩ => ⟨S2048x64, .f32⟩
  | .hbm, ⟨2, _⟩ => ⟨S6272x256, .f32⟩
  | .hbm, ⟨3, _⟩ => ⟨S64x2048, .f32⟩
  | .hbm, ⟨4, _⟩ => ⟨S6272x4, .i32⟩
  | .hbm, ⟨5, _⟩ => ⟨S1x1, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S25088, .i32⟩
  | .hbm, ⟨10, _⟩ => ⟨S32x196x256, .f32⟩
  | .hbm, ⟨11, _⟩ => ⟨S32x196x4, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local .tc .vmem, ⟨0, _⟩ => ⟨S784x256, .f32⟩
  | .local .tc .vmem, ⟨1, _⟩ => ⟨S784x256, .f32⟩
  | .local .tc .vmem, ⟨2, _⟩ => ⟨S64x2048, .f32⟩
  | .local .tc .vmem, ⟨3, _⟩ => ⟨S784x4, .i32⟩
  | .local .tc .vmem, ⟨4, _⟩ => ⟨S784x4, .i32⟩
  | .local .tc .vmem, ⟨5, _⟩ => ⟨S1x1, .f32⟩
  | .local .scVector .vmem, ⟨0, _⟩ => ⟨S784, .i32⟩
  | .local .scVector .vmem, ⟨1, _⟩ => ⟨S200x128, .f32⟩
  | .local .scVector .vmem, ⟨2, _⟩ => ⟨S200x128, .f32⟩
  | .local .scVector .vmem, ⟨3, _⟩ => ⟨S196x256, .f32⟩
  | _, _ => ⟨S32x196x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v3_scv : Ref sig .scVector := ⟨.hbm, 8, rfl⟩
abbrev main_v4_scv : Ref sig .scVector := ⟨.hbm, 9, rfl⟩
abbrev main_v5_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S784x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S784x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  ![v2.toNat]
@[reducible] def k1_t1_loop : Scf.Loop 32 :=
  let c0_i32_14 : BitVec 32 := 0#32
  let c50_i32 : BitVec 32 := 50#32
  let v12 : BitVec 32 := Scalar.addi c0_i32_14 c50_i32
  let c1_i32 : BitVec 32 := 1#32
  ⟨c0_i32_14, v12, c1_i32⟩
def k1_off2 (k1_t1 : Fin k1_t1_loop.trips) (c0_i32_53 : BitVec 32) : Fin 2 → Nat :=
  let c4_i32 : BitVec 32 := 4#32
  let c0_i32_14 : BitVec 32 := 0#32
  let c1_i32 : BitVec 32 := 1#32
  let arg12 : BitVec 32 := Scf.iv c0_i32_14 c1_i32 k1_t1
  let v35 : BitVec 32 := Scalar.muli c4_i32 arg12
  let v36 : BitVec 32 := Scalar.addi v35 c0_i32_53
  let v37 : Index := Scalar.indexCast v36
  let c0 : Index := 0#32
  ![v37.toNat, 0]
def k1_off3 (k1_t1 : Fin k1_t1_loop.trips) : Fin 2 → Nat :=
  let c0_i32_54 : BitVec 32 := 0#32
  let c0_i32_14 : BitVec 32 := 0#32
  let c1_i32 : BitVec 32 := 1#32
  let arg12 : BitVec 32 := Scf.iv c0_i32_14 c1_i32 k1_t1
  let v40 : BitVec 32 := Scalar.addi c0_i32_54 arg12
  let v41 : Index := Scalar.indexCast v40
  let c0_55 : Index := 0#32
  ![v41.toNat, 0]
def k1_off4 (k1_t1 : Fin k1_t1_loop.trips) (c0_i32_57 : BitVec 32) : Fin 2 → Nat :=
  let c4_i32_56 : BitVec 32 := 4#32
  let c0_i32_14 : BitVec 32 := 0#32
  let c1_i32 : BitVec 32 := 1#32
  let arg12 : BitVec 32 := Scf.iv c0_i32_14 c1_i32 k1_t1
  let v45 : BitVec 32 := Scalar.muli c4_i32_56 arg12
  let v46 : BitVec 32 := Scalar.addi v45 c0_i32_57
  let v47 : Index := Scalar.indexCast v46
  let c16 : Index := 16#32
  ![v47.toNat, 16]
def k1_off5 (k1_t1 : Fin k1_t1_loop.trips) : Fin 2 → Nat :=
  let c0_i32_58 : BitVec 32 := 0#32
  let c0_i32_14 : BitVec 32 := 0#32
  let c1_i32 : BitVec 32 := 1#32
  let arg12 : BitVec 32 := Scf.iv c0_i32_14 c1_i32 k1_t1
  let v50 : BitVec 32 := Scalar.addi c0_i32_58 arg12
  let v51 : Index := Scalar.indexCast v50
  let c16_59 : Index := 16#32
  ![v51.toNat, 16]
def k1_off6 (k1_t1 : Fin k1_t1_loop.trips) (c0_i32_61 : BitVec 32) : Fin 2 → Nat :=
  let c4_i32_60 : BitVec 32 := 4#32
  let c0_i32_14 : BitVec 32 := 0#32
  let c1_i32 : BitVec 32 := 1#32
  let arg12 : BitVec 32 := Scf.iv c0_i32_14 c1_i32 k1_t1
  let v55 : BitVec 32 := Scalar.muli c4_i32_60 arg12
  let v56 : BitVec 32 := Scalar.addi v55 c0_i32_61
  let v57 : Index := Scalar.indexCast v56
  let c32 : Index := 32#32
  ![v57.toNat, 32]
def k1_off7 (k1_t1 : Fin k1_t1_loop.trips) : Fin 2 → Nat :=
  let c0_i32_62 : BitVec 32 := 0#32
  let c0_i32_14 : BitVec 32 := 0#32
  let c1_i32 : BitVec 32 := 1#32
  let arg12 : BitVec 32 := Scf.iv c0_i32_14 c1_i32 k1_t1
  let v60 : BitVec 32 := Scalar.addi c0_i32_62 arg12
  let v61 : Index := Scalar.indexCast v60
  let c32_63 : Index := 32#32
  ![v61.toNat, 32]
def k1_off8 (k1_t1 : Fin k1_t1_loop.trips) (c0_i32_65 : BitVec 32) : Fin 2 → Nat :=
  let c4_i32_64 : BitVec 32 := 4#32
  let c0_i32_14 : BitVec 32 := 0#32
  let c1_i32 : BitVec 32 := 1#32
  let arg12 : BitVec 32 := Scf.iv c0_i32_14 c1_i32 k1_t1
  let v65 : BitVec 32 := Scalar.muli c4_i32_64 arg12
  let v66 : BitVec 32 := Scalar.addi v65 c0_i32_65
  let v67 : Index := Scalar.indexCast v66
  let c48 : Index := 48#32
  ![v67.toNat, 48]
def k1_off9 (k1_t1 : Fin k1_t1_loop.trips) : Fin 2 → Nat :=
  let c0_i32_66 : BitVec 32 := 0#32
  let c0_i32_14 : BitVec 32 := 0#32
  let c1_i32 : BitVec 32 := 1#32
  let arg12 : BitVec 32 := Scf.iv c0_i32_14 c1_i32 k1_t1
  let v70 : BitVec 32 := Scalar.addi c0_i32_66 arg12
  let v71 : Index := Scalar.indexCast v70
  let c48_67 : Index := 48#32
  ![v71.toNat, 48]
def k1_off10 (k1_t1 : Fin k1_t1_loop.trips) : Fin 2 → Nat :=
  let c0_i32_71 : BitVec 32 := 0#32
  let c0_i32_14 : BitVec 32 := 0#32
  let c1_i32 : BitVec 32 := 1#32
  let arg12 : BitVec 32 := Scf.iv c0_i32_14 c1_i32 k1_t1
  let v80 : BitVec 32 := Scalar.addi c0_i32_71 arg12
  let v81 : Index := Scalar.indexCast v80
  let c64 : Index := 64#32
  ![v81.toNat, 64]
def k1_off11 (k1_t1 : Fin k1_t1_loop.trips) : Fin 2 → Nat :=
  let c0_i32_75 : BitVec 32 := 0#32
  let c0_i32_14 : BitVec 32 := 0#32
  let c1_i32 : BitVec 32 := 1#32
  let arg12 : BitVec 32 := Scf.iv c0_i32_14 c1_i32 k1_t1
  let v90 : BitVec 32 := Scalar.addi c0_i32_75 arg12
  let v91 : Index := Scalar.indexCast v90
  let c80 : Index := 80#32
  ![v91.toNat, 80]
def k1_off12 (k1_t1 : Fin k1_t1_loop.trips) : Fin 2 → Nat :=
  let c0_i32_79 : BitVec 32 := 0#32
  let c0_i32_14 : BitVec 32 := 0#32
  let c1_i32 : BitVec 32 := 1#32
  let arg12 : BitVec 32 := Scf.iv c0_i32_14 c1_i32 k1_t1
  let v100 : BitVec 32 := Scalar.addi c0_i32_79 arg12
  let v101 : Index := Scalar.indexCast v100
  let c96 : Index := 96#32
  ![v101.toNat, 96]
def k1_off13 (k1_t1 : Fin k1_t1_loop.trips) : Fin 2 → Nat :=
  let c0_i32_83 : BitVec 32 := 0#32
  let c0_i32_14 : BitVec 32 := 0#32
  let c1_i32 : BitVec 32 := 1#32
  let arg12 : BitVec 32 := Scf.iv c0_i32_14 c1_i32 k1_t1
  let v110 : BitVec 32 := Scalar.addi c0_i32_83 arg12
  let v111 : Index := Scalar.indexCast v110
  let c112 : Index := 112#32
  ![v111.toNat, 112]
def k1_off14 (k1_t1 : Fin k1_t1_loop.trips) : Fin 2 → Nat :=
  let c0_i32_87 : BitVec 32 := 0#32
  let c0_i32_14 : BitVec 32 := 0#32
  let c1_i32 : BitVec 32 := 1#32
  let arg12 : BitVec 32 := Scf.iv c0_i32_14 c1_i32 k1_t1
  let v120 : BitVec 32 := Scalar.addi c0_i32_87 arg12
  let v121 : Index := Scalar.indexCast v120
  let c128 : Index := 128#32
  ![v121.toNat, 128]
def k1_off15 (k1_t1 : Fin k1_t1_loop.trips) : Fin 2 → Nat :=
  let c0_i32_91 : BitVec 32 := 0#32
  let c0_i32_14 : BitVec 32 := 0#32
  let c1_i32 : BitVec 32 := 1#32
  let arg12 : BitVec 32 := Scf.iv c0_i32_14 c1_i32 k1_t1
  let v130 : BitVec 32 := Scalar.addi c0_i32_91 arg12
  let v131 : Index := Scalar.indexCast v130
  let c144 : Index := 144#32
  ![v131.toNat, 144]
def k1_off16 (k1_t1 : Fin k1_t1_loop.trips) : Fin 2 → Nat :=
  let c0_i32_95 : BitVec 32 := 0#32
  let c0_i32_14 : BitVec 32 := 0#32
  let c1_i32 : BitVec 32 := 1#32
  let arg12 : BitVec 32 := Scf.iv c0_i32_14 c1_i32 k1_t1
  let v140 : BitVec 32 := Scalar.addi c0_i32_95 arg12
  let v141 : Index := Scalar.indexCast v140
  let c160 : Index := 160#32
  ![v141.toNat, 160]
def k1_off17 (k1_t1 : Fin k1_t1_loop.trips) : Fin 2 → Nat :=
  let c0_i32_99 : BitVec 32 := 0#32
  let c0_i32_14 : BitVec 32 := 0#32
  let c1_i32 : BitVec 32 := 1#32
  let arg12 : BitVec 32 := Scf.iv c0_i32_14 c1_i32 k1_t1
  let v150 : BitVec 32 := Scalar.addi c0_i32_99 arg12
  let v151 : Index := Scalar.indexCast v150
  let c176 : Index := 176#32
  ![v151.toNat, 176]
def k1_off18 (k1_t1 : Fin k1_t1_loop.trips) : Fin 2 → Nat :=
  let c0_i32_102 : BitVec 32 := 0#32
  let c0_i32_14 : BitVec 32 := 0#32
  let c1_i32 : BitVec 32 := 1#32
  let arg12 : BitVec 32 := Scf.iv c0_i32_14 c1_i32 k1_t1
  let v160 : BitVec 32 := Scalar.addi c0_i32_102 arg12
  let v161 : Index := Scalar.indexCast v160
  let c192 : Index := 192#32
  ![v161.toNat, 192]
def k1_off19 (k1_t1 : Fin k1_t1_loop.trips) : Fin 2 → Nat :=
  let c0_i32_106 : BitVec 32 := 0#32
  let c0_i32_14 : BitVec 32 := 0#32
  let c1_i32 : BitVec 32 := 1#32
  let arg12 : BitVec 32 := Scf.iv c0_i32_14 c1_i32 k1_t1
  let v170 : BitVec 32 := Scalar.addi c0_i32_106 arg12
  let v171 : Index := Scalar.indexCast v170
  let c208 : Index := 208#32
  ![v171.toNat, 208]
def k1_off20 (k1_t1 : Fin k1_t1_loop.trips) : Fin 2 → Nat :=
  let c0_i32_110 : BitVec 32 := 0#32
  let c0_i32_14 : BitVec 32 := 0#32
  let c1_i32 : BitVec 32 := 1#32
  let arg12 : BitVec 32 := Scf.iv c0_i32_14 c1_i32 k1_t1
  let v180 : BitVec 32 := Scalar.addi c0_i32_110 arg12
  let v181 : Index := Scalar.indexCast v180
  let c224 : Index := 224#32
  ![v181.toNat, 224]
def k1_off21 (k1_t1 : Fin k1_t1_loop.trips) : Fin 2 → Nat :=
  let c0_i32_114 : BitVec 32 := 0#32
  let c0_i32_14 : BitVec 32 := 0#32
  let c1_i32 : BitVec 32 := 1#32
  let arg12 : BitVec 32 := Scf.iv c0_i32_14 c1_i32 k1_t1
  let v190 : BitVec 32 := Scalar.addi c0_i32_114 arg12
  let v191 : Index := Scalar.indexCast v190
  let c240 : Index := 240#32
  ![v191.toNat, 240]
@[reducible] def k1_t2_loop : Scf.Loop 32 :=
  let c0_i32_26 : BitVec 32 := 0#32
  let c50_i32_27 : BitVec 32 := 50#32
  let v20 : BitVec 32 := Scalar.addi c0_i32_26 c50_i32_27
  let c1_i32_28 : BitVec 32 := 1#32
  ⟨c0_i32_26, v20, c1_i32_28⟩
def k1_off22 (k1_t2 : Fin k1_t2_loop.trips) (c0_i32_53 : BitVec 32) : Fin 2 → Nat :=
  let c4_i32 : BitVec 32 := 4#32
  let c0_i32_26 : BitVec 32 := 0#32
  let c1_i32_28 : BitVec 32 := 1#32
  let arg12 : BitVec 32 := Scf.iv c0_i32_26 c1_i32_28 k1_t2
  let v35 : BitVec 32 := Scalar.muli c4_i32 arg12
  let v36 : BitVec 32 := Scalar.addi v35 c0_i32_53
  let v37 : Index := Scalar.indexCast v36
  let c0 : Index := 0#32
  ![v37.toNat, 0]
def k1_off23 (k1_t2 : Fin k1_t2_loop.trips) : Fin 2 → Nat :=
  let c50_i32_54 : BitVec 32 := 50#32
  let c0_i32_26 : BitVec 32 := 0#32
  let c1_i32_28 : BitVec 32 := 1#32
  let arg12 : BitVec 32 := Scf.iv c0_i32_26 c1_i32_28 k1_t2
  let v40 : BitVec 32 := Scalar.addi c50_i32_54 arg12
  let v41 : Index := Scalar.indexCast v40
  let c0_55 : Index := 0#32
  ![v41.toNat, 0]
def k1_off24 (k1_t2 : Fin k1_t2_loop.trips) (c0_i32_57 : BitVec 32) : Fin 2 → Nat :=
  let c4_i32_56 : BitVec 32 := 4#32
  let c0_i32_26 : BitVec 32 := 0#32
  let c1_i32_28 : BitVec 32 := 1#32
  let arg12 : BitVec 32 := Scf.iv c0_i32_26 c1_i32_28 k1_t2
  let v45 : BitVec 32 := Scalar.muli c4_i32_56 arg12
  let v46 : BitVec 32 := Scalar.addi v45 c0_i32_57
  let v47 : Index := Scalar.indexCast v46
  let c16 : Index := 16#32
  ![v47.toNat, 16]
def k1_off25 (k1_t2 : Fin k1_t2_loop.trips) : Fin 2 → Nat :=
  let c50_i32_58 : BitVec 32 := 50#32
  let c0_i32_26 : BitVec 32 := 0#32
  let c1_i32_28 : BitVec 32 := 1#32
  let arg12 : BitVec 32 := Scf.iv c0_i32_26 c1_i32_28 k1_t2
  let v50 : BitVec 32 := Scalar.addi c50_i32_58 arg12
  let v51 : Index := Scalar.indexCast v50
  let c16_59 : Index := 16#32
  ![v51.toNat, 16]
def k1_off26 (k1_t2 : Fin k1_t2_loop.trips) (c0_i32_61 : BitVec 32) : Fin 2 → Nat :=
  let c4_i32_60 : BitVec 32 := 4#32
  let c0_i32_26 : BitVec 32 := 0#32
  let c1_i32_28 : BitVec 32 := 1#32
  let arg12 : BitVec 32 := Scf.iv c0_i32_26 c1_i32_28 k1_t2
  let v55 : BitVec 32 := Scalar.muli c4_i32_60 arg12
  let v56 : BitVec 32 := Scalar.addi v55 c0_i32_61
  let v57 : Index := Scalar.indexCast v56
  let c32 : Index := 32#32
  ![v57.toNat, 32]
def k1_off27 (k1_t2 : Fin k1_t2_loop.trips) : Fin 2 → Nat :=
  let c50_i32_62 : BitVec 32 := 50#32
  let c0_i32_26 : BitVec 32 := 0#32
  let c1_i32_28 : BitVec 32 := 1#32
  let arg12 : BitVec 32 := Scf.iv c0_i32_26 c1_i32_28 k1_t2
  let v60 : BitVec 32 := Scalar.addi c50_i32_62 arg12
  let v61 : Index := Scalar.indexCast v60
  let c32_63 : Index := 32#32
  ![v61.toNat, 32]
def k1_off28 (k1_t2 : Fin k1_t2_loop.trips) (c0_i32_65 : BitVec 32) : Fin 2 → Nat :=
  let c4_i32_64 : BitVec 32 := 4#32
  let c0_i32_26 : BitVec 32 := 0#32
  let c1_i32_28 : BitVec 32 := 1#32
  let arg12 : BitVec 32 := Scf.iv c0_i32_26 c1_i32_28 k1_t2
  let v65 : BitVec 32 := Scalar.muli c4_i32_64 arg12
  let v66 : BitVec 32 := Scalar.addi v65 c0_i32_65
  let v67 : Index := Scalar.indexCast v66
  let c48 : Index := 48#32
  ![v67.toNat, 48]
def k1_off29 (k1_t2 : Fin k1_t2_loop.trips) : Fin 2 → Nat :=
  let c50_i32_66 : BitVec 32 := 50#32
  let c0_i32_26 : BitVec 32 := 0#32
  let c1_i32_28 : BitVec 32 := 1#32
  let arg12 : BitVec 32 := Scf.iv c0_i32_26 c1_i32_28 k1_t2
  let v70 : BitVec 32 := Scalar.addi c50_i32_66 arg12
  let v71 : Index := Scalar.indexCast v70
  let c48_67 : Index := 48#32
  ![v71.toNat, 48]
def k1_off30 (k1_t2 : Fin k1_t2_loop.trips) : Fin 2 → Nat :=
  let c50_i32_71 : BitVec 32 := 50#32
  let c0_i32_26 : BitVec 32 := 0#32
  let c1_i32_28 : BitVec 32 := 1#32
  let arg12 : BitVec 32 := Scf.iv c0_i32_26 c1_i32_28 k1_t2
  let v80 : BitVec 32 := Scalar.addi c50_i32_71 arg12
  let v81 : Index := Scalar.indexCast v80
  let c64 : Index := 64#32
  ![v81.toNat, 64]
def k1_off31 (k1_t2 : Fin k1_t2_loop.trips) : Fin 2 → Nat :=
  let c50_i32_75 : BitVec 32 := 50#32
  let c0_i32_26 : BitVec 32 := 0#32
  let c1_i32_28 : BitVec 32 := 1#32
  let arg12 : BitVec 32 := Scf.iv c0_i32_26 c1_i32_28 k1_t2
  let v90 : BitVec 32 := Scalar.addi c50_i32_75 arg12
  let v91 : Index := Scalar.indexCast v90
  let c80 : Index := 80#32
  ![v91.toNat, 80]
def k1_off32 (k1_t2 : Fin k1_t2_loop.trips) : Fin 2 → Nat :=
  let c50_i32_79 : BitVec 32 := 50#32
  let c0_i32_26 : BitVec 32 := 0#32
  let c1_i32_28 : BitVec 32 := 1#32
  let arg12 : BitVec 32 := Scf.iv c0_i32_26 c1_i32_28 k1_t2
  let v100 : BitVec 32 := Scalar.addi c50_i32_79 arg12
  let v101 : Index := Scalar.indexCast v100
  let c96 : Index := 96#32
  ![v101.toNat, 96]
def k1_off33 (k1_t2 : Fin k1_t2_loop.trips) : Fin 2 → Nat :=
  let c50_i32_83 : BitVec 32 := 50#32
  let c0_i32_26 : BitVec 32 := 0#32
  let c1_i32_28 : BitVec 32 := 1#32
  let arg12 : BitVec 32 := Scf.iv c0_i32_26 c1_i32_28 k1_t2
  let v110 : BitVec 32 := Scalar.addi c50_i32_83 arg12
  let v111 : Index := Scalar.indexCast v110
  let c112 : Index := 112#32
  ![v111.toNat, 112]
def k1_off34 (k1_t2 : Fin k1_t2_loop.trips) : Fin 2 → Nat :=
  let c50_i32_87 : BitVec 32 := 50#32
  let c0_i32_26 : BitVec 32 := 0#32
  let c1_i32_28 : BitVec 32 := 1#32
  let arg12 : BitVec 32 := Scf.iv c0_i32_26 c1_i32_28 k1_t2
  let v120 : BitVec 32 := Scalar.addi c50_i32_87 arg12
  let v121 : Index := Scalar.indexCast v120
  let c128 : Index := 128#32
  ![v121.toNat, 128]
def k1_off35 (k1_t2 : Fin k1_t2_loop.trips) : Fin 2 → Nat :=
  let c50_i32_91 : BitVec 32 := 50#32
  let c0_i32_26 : BitVec 32 := 0#32
  let c1_i32_28 : BitVec 32 := 1#32
  let arg12 : BitVec 32 := Scf.iv c0_i32_26 c1_i32_28 k1_t2
  let v130 : BitVec 32 := Scalar.addi c50_i32_91 arg12
  let v131 : Index := Scalar.indexCast v130
  let c144 : Index := 144#32
  ![v131.toNat, 144]
def k1_off36 (k1_t2 : Fin k1_t2_loop.trips) : Fin 2 → Nat :=
  let c50_i32_95 : BitVec 32 := 50#32
  let c0_i32_26 : BitVec 32 := 0#32
  let c1_i32_28 : BitVec 32 := 1#32
  let arg12 : BitVec 32 := Scf.iv c0_i32_26 c1_i32_28 k1_t2
  let v140 : BitVec 32 := Scalar.addi c50_i32_95 arg12
  let v141 : Index := Scalar.indexCast v140
  let c160 : Index := 160#32
  ![v141.toNat, 160]
def k1_off37 (k1_t2 : Fin k1_t2_loop.trips) : Fin 2 → Nat :=
  let c50_i32_99 : BitVec 32 := 50#32
  let c0_i32_26 : BitVec 32 := 0#32
  let c1_i32_28 : BitVec 32 := 1#32
  let arg12 : BitVec 32 := Scf.iv c0_i32_26 c1_i32_28 k1_t2
  let v150 : BitVec 32 := Scalar.addi c50_i32_99 arg12
  let v151 : Index := Scalar.indexCast v150
  let c176 : Index := 176#32
  ![v151.toNat, 176]
def k1_off38 (k1_t2 : Fin k1_t2_loop.trips) : Fin 2 → Nat :=
  let c50_i32_102 : BitVec 32 := 50#32
  let c0_i32_26 : BitVec 32 := 0#32
  let c1_i32_28 : BitVec 32 := 1#32
  let arg12 : BitVec 32 := Scf.iv c0_i32_26 c1_i32_28 k1_t2
  let v160 : BitVec 32 := Scalar.addi c50_i32_102 arg12
  let v161 : Index := Scalar.indexCast v160
  let c192 : Index := 192#32
  ![v161.toNat, 192]
def k1_off39 (k1_t2 : Fin k1_t2_loop.trips) : Fin 2 → Nat :=
  let c50_i32_106 : BitVec 32 := 50#32
  let c0_i32_26 : BitVec 32 := 0#32
  let c1_i32_28 : BitVec 32 := 1#32
  let arg12 : BitVec 32 := Scf.iv c0_i32_26 c1_i32_28 k1_t2
  let v170 : BitVec 32 := Scalar.addi c50_i32_106 arg12
  let v171 : Index := Scalar.indexCast v170
  let c208 : Index := 208#32
  ![v171.toNat, 208]
def k1_off40 (k1_t2 : Fin k1_t2_loop.trips) : Fin 2 → Nat :=
  let c50_i32_110 : BitVec 32 := 50#32
  let c0_i32_26 : BitVec 32 := 0#32
  let c1_i32_28 : BitVec 32 := 1#32
  let arg12 : BitVec 32 := Scf.iv c0_i32_26 c1_i32_28 k1_t2
  let v180 : BitVec 32 := Scalar.addi c50_i32_110 arg12
  let v181 : Index := Scalar.indexCast v180
  let c224 : Index := 224#32
  ![v181.toNat, 224]
def k1_off41 (k1_t2 : Fin k1_t2_loop.trips) : Fin 2 → Nat :=
  let c50_i32_114 : BitVec 32 := 50#32
  let c0_i32_26 : BitVec 32 := 0#32
  let c1_i32_28 : BitVec 32 := 1#32
  let arg12 : BitVec 32 := Scf.iv c0_i32_26 c1_i32_28 k1_t2
  let v190 : BitVec 32 := Scalar.addi c50_i32_114 arg12
  let v191 : Index := Scalar.indexCast v190
  let c240 : Index := 240#32
  ![v191.toNat, 240]
@[reducible] def k1_t3_loop : Scf.Loop 32 :=
  let c0_i32_40 : BitVec 32 := 0#32
  let c50_i32_41 : BitVec 32 := 50#32
  let v28 : BitVec 32 := Scalar.addi c0_i32_40 c50_i32_41
  let c1_i32_42 : BitVec 32 := 1#32
  ⟨c0_i32_40, v28, c1_i32_42⟩
def k1_off42 (k1_t3 : Fin k1_t3_loop.trips) (c0_i32_53 : BitVec 32) : Fin 2 → Nat :=
  let c4_i32 : BitVec 32 := 4#32
  let c0_i32_40 : BitVec 32 := 0#32
  let c1_i32_42 : BitVec 32 := 1#32
  let arg12 : BitVec 32 := Scf.iv c0_i32_40 c1_i32_42 k1_t3
  let v35 : BitVec 32 := Scalar.muli c4_i32 arg12
  let v36 : BitVec 32 := Scalar.addi v35 c0_i32_53
  let v37 : Index := Scalar.indexCast v36
  let c0 : Index := 0#32
  ![v37.toNat, 0]
def k1_off43 (k1_t3 : Fin k1_t3_loop.trips) : Fin 2 → Nat :=
  let c100_i32 : BitVec 32 := 100#32
  let c0_i32_40 : BitVec 32 := 0#32
  let c1_i32_42 : BitVec 32 := 1#32
  let arg12 : BitVec 32 := Scf.iv c0_i32_40 c1_i32_42 k1_t3
  let v40 : BitVec 32 := Scalar.addi c100_i32 arg12
  let v41 : Index := Scalar.indexCast v40
  let c0_54 : Index := 0#32
  ![v41.toNat, 0]
def k1_off44 (k1_t3 : Fin k1_t3_loop.trips) (c0_i32_56 : BitVec 32) : Fin 2 → Nat :=
  let c4_i32_55 : BitVec 32 := 4#32
  let c0_i32_40 : BitVec 32 := 0#32
  let c1_i32_42 : BitVec 32 := 1#32
  let arg12 : BitVec 32 := Scf.iv c0_i32_40 c1_i32_42 k1_t3
  let v45 : BitVec 32 := Scalar.muli c4_i32_55 arg12
  let v46 : BitVec 32 := Scalar.addi v45 c0_i32_56
  let v47 : Index := Scalar.indexCast v46
  let c16 : Index := 16#32
  ![v47.toNat, 16]
def k1_off45 (k1_t3 : Fin k1_t3_loop.trips) : Fin 2 → Nat :=
  let c100_i32_57 : BitVec 32 := 100#32
  let c0_i32_40 : BitVec 32 := 0#32
  let c1_i32_42 : BitVec 32 := 1#32
  let arg12 : BitVec 32 := Scf.iv c0_i32_40 c1_i32_42 k1_t3
  let v50 : BitVec 32 := Scalar.addi c100_i32_57 arg12
  let v51 : Index := Scalar.indexCast v50
  let c16_58 : Index := 16#32
  ![v51.toNat, 16]
def k1_off46 (k1_t3 : Fin k1_t3_loop.trips) (c0_i32_60 : BitVec 32) : Fin 2 → Nat :=
  let c4_i32_59 : BitVec 32 := 4#32
  let c0_i32_40 : BitVec 32 := 0#32
  let c1_i32_42 : BitVec 32 := 1#32
  let arg12 : BitVec 32 := Scf.iv c0_i32_40 c1_i32_42 k1_t3
  let v55 : BitVec 32 := Scalar.muli c4_i32_59 arg12
  let v56 : BitVec 32 := Scalar.addi v55 c0_i32_60
  let v57 : Index := Scalar.indexCast v56
  let c32 : Index := 32#32
  ![v57.toNat, 32]
def k1_off47 (k1_t3 : Fin k1_t3_loop.trips) : Fin 2 → Nat :=
  let c100_i32_61 : BitVec 32 := 100#32
  let c0_i32_40 : BitVec 32 := 0#32
  let c1_i32_42 : BitVec 32 := 1#32
  let arg12 : BitVec 32 := Scf.iv c0_i32_40 c1_i32_42 k1_t3
  let v60 : BitVec 32 := Scalar.addi c100_i32_61 arg12
  let v61 : Index := Scalar.indexCast v60
  let c32_62 : Index := 32#32
  ![v61.toNat, 32]
def k1_off48 (k1_t3 : Fin k1_t3_loop.trips) (c0_i32_64 : BitVec 32) : Fin 2 → Nat :=
  let c4_i32_63 : BitVec 32 := 4#32
  let c0_i32_40 : BitVec 32 := 0#32
  let c1_i32_42 : BitVec 32 := 1#32
  let arg12 : BitVec 32 := Scf.iv c0_i32_40 c1_i32_42 k1_t3
  let v65 : BitVec 32 := Scalar.muli c4_i32_63 arg12
  let v66 : BitVec 32 := Scalar.addi v65 c0_i32_64
  let v67 : Index := Scalar.indexCast v66
  let c48 : Index := 48#32
  ![v67.toNat, 48]
def k1_off49 (k1_t3 : Fin k1_t3_loop.trips) : Fin 2 → Nat :=
  let c100_i32_65 : BitVec 32 := 100#32
  let c0_i32_40 : BitVec 32 := 0#32
  let c1_i32_42 : BitVec 32 := 1#32
  let arg12 : BitVec 32 := Scf.iv c0_i32_40 c1_i32_42 k1_t3
  let v70 : BitVec 32 := Scalar.addi c100_i32_65 arg12
  let v71 : Index := Scalar.indexCast v70
  let c48_66 : Index := 48#32
  ![v71.toNat, 48]
def k1_off50 (k1_t3 : Fin k1_t3_loop.trips) : Fin 2 → Nat :=
  let c100_i32_70 : BitVec 32 := 100#32
  let c0_i32_40 : BitVec 32 := 0#32
  let c1_i32_42 : BitVec 32 := 1#32
  let arg12 : BitVec 32 := Scf.iv c0_i32_40 c1_i32_42 k1_t3
  let v80 : BitVec 32 := Scalar.addi c100_i32_70 arg12
  let v81 : Index := Scalar.indexCast v80
  let c64 : Index := 64#32
  ![v81.toNat, 64]
def k1_off51 (k1_t3 : Fin k1_t3_loop.trips) : Fin 2 → Nat :=
  let c100_i32_74 : BitVec 32 := 100#32
  let c0_i32_40 : BitVec 32 := 0#32
  let c1_i32_42 : BitVec 32 := 1#32
  let arg12 : BitVec 32 := Scf.iv c0_i32_40 c1_i32_42 k1_t3
  let v90 : BitVec 32 := Scalar.addi c100_i32_74 arg12
  let v91 : Index := Scalar.indexCast v90
  let c80 : Index := 80#32
  ![v91.toNat, 80]
def k1_off52 (k1_t3 : Fin k1_t3_loop.trips) : Fin 2 → Nat :=
  let c100_i32_78 : BitVec 32 := 100#32
  let c0_i32_40 : BitVec 32 := 0#32
  let c1_i32_42 : BitVec 32 := 1#32
  let arg12 : BitVec 32 := Scf.iv c0_i32_40 c1_i32_42 k1_t3
  let v100 : BitVec 32 := Scalar.addi c100_i32_78 arg12
  let v101 : Index := Scalar.indexCast v100
  let c96 : Index := 96#32
  ![v101.toNat, 96]
def k1_off53 (k1_t3 : Fin k1_t3_loop.trips) : Fin 2 → Nat :=
  let c100_i32_82 : BitVec 32 := 100#32
  let c0_i32_40 : BitVec 32 := 0#32
  let c1_i32_42 : BitVec 32 := 1#32
  let arg12 : BitVec 32 := Scf.iv c0_i32_40 c1_i32_42 k1_t3
  let v110 : BitVec 32 := Scalar.addi c100_i32_82 arg12
  let v111 : Index := Scalar.indexCast v110
  let c112 : Index := 112#32
  ![v111.toNat, 112]
def k1_off54 (k1_t3 : Fin k1_t3_loop.trips) : Fin 2 → Nat :=
  let c100_i32_86 : BitVec 32 := 100#32
  let c0_i32_40 : BitVec 32 := 0#32
  let c1_i32_42 : BitVec 32 := 1#32
  let arg12 : BitVec 32 := Scf.iv c0_i32_40 c1_i32_42 k1_t3
  let v120 : BitVec 32 := Scalar.addi c100_i32_86 arg12
  let v121 : Index := Scalar.indexCast v120
  let c128 : Index := 128#32
  ![v121.toNat, 128]
def k1_off55 (k1_t3 : Fin k1_t3_loop.trips) : Fin 2 → Nat :=
  let c100_i32_90 : BitVec 32 := 100#32
  let c0_i32_40 : BitVec 32 := 0#32
  let c1_i32_42 : BitVec 32 := 1#32
  let arg12 : BitVec 32 := Scf.iv c0_i32_40 c1_i32_42 k1_t3
  let v130 : BitVec 32 := Scalar.addi c100_i32_90 arg12
  let v131 : Index := Scalar.indexCast v130
  let c144 : Index := 144#32
  ![v131.toNat, 144]
def k1_off56 (k1_t3 : Fin k1_t3_loop.trips) : Fin 2 → Nat :=
  let c100_i32_94 : BitVec 32 := 100#32
  let c0_i32_40 : BitVec 32 := 0#32
  let c1_i32_42 : BitVec 32 := 1#32
  let arg12 : BitVec 32 := Scf.iv c0_i32_40 c1_i32_42 k1_t3
  let v140 : BitVec 32 := Scalar.addi c100_i32_94 arg12
  let v141 : Index := Scalar.indexCast v140
  let c160 : Index := 160#32
  ![v141.toNat, 160]
def k1_off57 (k1_t3 : Fin k1_t3_loop.trips) : Fin 2 → Nat :=
  let c100_i32_98 : BitVec 32 := 100#32
  let c0_i32_40 : BitVec 32 := 0#32
  let c1_i32_42 : BitVec 32 := 1#32
  let arg12 : BitVec 32 := Scf.iv c0_i32_40 c1_i32_42 k1_t3
  let v150 : BitVec 32 := Scalar.addi c100_i32_98 arg12
  let v151 : Index := Scalar.indexCast v150
  let c176 : Index := 176#32
  ![v151.toNat, 176]
def k1_off58 (k1_t3 : Fin k1_t3_loop.trips) : Fin 2 → Nat :=
  let c100_i32_101 : BitVec 32 := 100#32
  let c0_i32_40 : BitVec 32 := 0#32
  let c1_i32_42 : BitVec 32 := 1#32
  let arg12 : BitVec 32 := Scf.iv c0_i32_40 c1_i32_42 k1_t3
  let v160 : BitVec 32 := Scalar.addi c100_i32_101 arg12
  let v161 : Index := Scalar.indexCast v160
  let c192 : Index := 192#32
  ![v161.toNat, 192]
def k1_off59 (k1_t3 : Fin k1_t3_loop.trips) : Fin 2 → Nat :=
  let c100_i32_105 : BitVec 32 := 100#32
  let c0_i32_40 : BitVec 32 := 0#32
  let c1_i32_42 : BitVec 32 := 1#32
  let arg12 : BitVec 32 := Scf.iv c0_i32_40 c1_i32_42 k1_t3
  let v170 : BitVec 32 := Scalar.addi c100_i32_105 arg12
  let v171 : Index := Scalar.indexCast v170
  let c208 : Index := 208#32
  ![v171.toNat, 208]
def k1_off60 (k1_t3 : Fin k1_t3_loop.trips) : Fin 2 → Nat :=
  let c100_i32_109 : BitVec 32 := 100#32
  let c0_i32_40 : BitVec 32 := 0#32
  let c1_i32_42 : BitVec 32 := 1#32
  let arg12 : BitVec 32 := Scf.iv c0_i32_40 c1_i32_42 k1_t3
  let v180 : BitVec 32 := Scalar.addi c100_i32_109 arg12
  let v181 : Index := Scalar.indexCast v180
  let c224 : Index := 224#32
  ![v181.toNat, 224]
def k1_off61 (k1_t3 : Fin k1_t3_loop.trips) : Fin 2 → Nat :=
  let c100_i32_113 : BitVec 32 := 100#32
  let c0_i32_40 : BitVec 32 := 0#32
  let c1_i32_42 : BitVec 32 := 1#32
  let arg12 : BitVec 32 := Scf.iv c0_i32_40 c1_i32_42 k1_t3
  let v190 : BitVec 32 := Scalar.addi c100_i32_113 arg12
  let v191 : Index := Scalar.indexCast v190
  let c240 : Index := 240#32
  ![v191.toNat, 240]
@[reducible] def k1_t4_loop : Scf.Loop 32 :=
  let c0_i32_50 : BitVec 32 := 0#32
  let c46_i32 : BitVec 32 := 46#32
  let v33 : BitVec 32 := Scalar.addi c0_i32_50 c46_i32
  let c1_i32_51 : BitVec 32 := 1#32
  ⟨c0_i32_50, v33, c1_i32_51⟩
def k1_off62 (k1_t4 : Fin k1_t4_loop.trips) (c0_i32_53 : BitVec 32) : Fin 2 → Nat :=
  let c4_i32 : BitVec 32 := 4#32
  let c0_i32_50 : BitVec 32 := 0#32
  let c1_i32_51 : BitVec 32 := 1#32
  let arg12 : BitVec 32 := Scf.iv c0_i32_50 c1_i32_51 k1_t4
  let v35 : BitVec 32 := Scalar.muli c4_i32 arg12
  let v36 : BitVec 32 := Scalar.addi v35 c0_i32_53
  let v37 : Index := Scalar.indexCast v36
  let c0 : Index := 0#32
  ![v37.toNat, 0]
def k1_off63 (k1_t4 : Fin k1_t4_loop.trips) : Fin 2 → Nat :=
  let c150_i32 : BitVec 32 := 150#32
  let c0_i32_50 : BitVec 32 := 0#32
  let c1_i32_51 : BitVec 32 := 1#32
  let arg12 : BitVec 32 := Scf.iv c0_i32_50 c1_i32_51 k1_t4
  let v40 : BitVec 32 := Scalar.addi c150_i32 arg12
  let v41 : Index := Scalar.indexCast v40
  let c0_54 : Index := 0#32
  ![v41.toNat, 0]
def k1_off64 (k1_t4 : Fin k1_t4_loop.trips) (c0_i32_56 : BitVec 32) : Fin 2 → Nat :=
  let c4_i32_55 : BitVec 32 := 4#32
  let c0_i32_50 : BitVec 32 := 0#32
  let c1_i32_51 : BitVec 32 := 1#32
  let arg12 : BitVec 32 := Scf.iv c0_i32_50 c1_i32_51 k1_t4
  let v45 : BitVec 32 := Scalar.muli c4_i32_55 arg12
  let v46 : BitVec 32 := Scalar.addi v45 c0_i32_56
  let v47 : Index := Scalar.indexCast v46
  let c16 : Index := 16#32
  ![v47.toNat, 16]
def k1_off65 (k1_t4 : Fin k1_t4_loop.trips) : Fin 2 → Nat :=
  let c150_i32_57 : BitVec 32 := 150#32
  let c0_i32_50 : BitVec 32 := 0#32
  let c1_i32_51 : BitVec 32 := 1#32
  let arg12 : BitVec 32 := Scf.iv c0_i32_50 c1_i32_51 k1_t4
  let v50 : BitVec 32 := Scalar.addi c150_i32_57 arg12
  let v51 : Index := Scalar.indexCast v50
  let c16_58 : Index := 16#32
  ![v51.toNat, 16]
def k1_off66 (k1_t4 : Fin k1_t4_loop.trips) (c0_i32_60 : BitVec 32) : Fin 2 → Nat :=
  let c4_i32_59 : BitVec 32 := 4#32
  let c0_i32_50 : BitVec 32 := 0#32
  let c1_i32_51 : BitVec 32 := 1#32
  let arg12 : BitVec 32 := Scf.iv c0_i32_50 c1_i32_51 k1_t4
  let v55 : BitVec 32 := Scalar.muli c4_i32_59 arg12
  let v56 : BitVec 32 := Scalar.addi v55 c0_i32_60
  let v57 : Index := Scalar.indexCast v56
  let c32 : Index := 32#32
  ![v57.toNat, 32]
def k1_off67 (k1_t4 : Fin k1_t4_loop.trips) : Fin 2 → Nat :=
  let c150_i32_61 : BitVec 32 := 150#32
  let c0_i32_50 : BitVec 32 := 0#32
  let c1_i32_51 : BitVec 32 := 1#32
  let arg12 : BitVec 32 := Scf.iv c0_i32_50 c1_i32_51 k1_t4
  let v60 : BitVec 32 := Scalar.addi c150_i32_61 arg12
  let v61 : Index := Scalar.indexCast v60
  let c32_62 : Index := 32#32
  ![v61.toNat, 32]
def k1_off68 (k1_t4 : Fin k1_t4_loop.trips) (c0_i32_64 : BitVec 32) : Fin 2 → Nat :=
  let c4_i32_63 : BitVec 32 := 4#32
  let c0_i32_50 : BitVec 32 := 0#32
  let c1_i32_51 : BitVec 32 := 1#32
  let arg12 : BitVec 32 := Scf.iv c0_i32_50 c1_i32_51 k1_t4
  let v65 : BitVec 32 := Scalar.muli c4_i32_63 arg12
  let v66 : BitVec 32 := Scalar.addi v65 c0_i32_64
  let v67 : Index := Scalar.indexCast v66
  let c48 : Index := 48#32
  ![v67.toNat, 48]
def k1_off69 (k1_t4 : Fin k1_t4_loop.trips) : Fin 2 → Nat :=
  let c150_i32_65 : BitVec 32 := 150#32
  let c0_i32_50 : BitVec 32 := 0#32
  let c1_i32_51 : BitVec 32 := 1#32
  let arg12 : BitVec 32 := Scf.iv c0_i32_50 c1_i32_51 k1_t4
  let v70 : BitVec 32 := Scalar.addi c150_i32_65 arg12
  let v71 : Index := Scalar.indexCast v70
  let c48_66 : Index := 48#32
  ![v71.toNat, 48]
def k1_off70 (k1_t4 : Fin k1_t4_loop.trips) : Fin 2 → Nat :=
  let c150_i32_70 : BitVec 32 := 150#32
  let c0_i32_50 : BitVec 32 := 0#32
  let c1_i32_51 : BitVec 32 := 1#32
  let arg12 : BitVec 32 := Scf.iv c0_i32_50 c1_i32_51 k1_t4
  let v80 : BitVec 32 := Scalar.addi c150_i32_70 arg12
  let v81 : Index := Scalar.indexCast v80
  let c64 : Index := 64#32
  ![v81.toNat, 64]
def k1_off71 (k1_t4 : Fin k1_t4_loop.trips) : Fin 2 → Nat :=
  let c150_i32_74 : BitVec 32 := 150#32
  let c0_i32_50 : BitVec 32 := 0#32
  let c1_i32_51 : BitVec 32 := 1#32
  let arg12 : BitVec 32 := Scf.iv c0_i32_50 c1_i32_51 k1_t4
  let v90 : BitVec 32 := Scalar.addi c150_i32_74 arg12
  let v91 : Index := Scalar.indexCast v90
  let c80 : Index := 80#32
  ![v91.toNat, 80]
def k1_off72 (k1_t4 : Fin k1_t4_loop.trips) : Fin 2 → Nat :=
  let c150_i32_78 : BitVec 32 := 150#32
  let c0_i32_50 : BitVec 32 := 0#32
  let c1_i32_51 : BitVec 32 := 1#32
  let arg12 : BitVec 32 := Scf.iv c0_i32_50 c1_i32_51 k1_t4
  let v100 : BitVec 32 := Scalar.addi c150_i32_78 arg12
  let v101 : Index := Scalar.indexCast v100
  let c96 : Index := 96#32
  ![v101.toNat, 96]
def k1_off73 (k1_t4 : Fin k1_t4_loop.trips) : Fin 2 → Nat :=
  let c150_i32_82 : BitVec 32 := 150#32
  let c0_i32_50 : BitVec 32 := 0#32
  let c1_i32_51 : BitVec 32 := 1#32
  let arg12 : BitVec 32 := Scf.iv c0_i32_50 c1_i32_51 k1_t4
  let v110 : BitVec 32 := Scalar.addi c150_i32_82 arg12
  let v111 : Index := Scalar.indexCast v110
  let c112 : Index := 112#32
  ![v111.toNat, 112]
def k1_off74 (k1_t4 : Fin k1_t4_loop.trips) : Fin 2 → Nat :=
  let c150_i32_86 : BitVec 32 := 150#32
  let c0_i32_50 : BitVec 32 := 0#32
  let c1_i32_51 : BitVec 32 := 1#32
  let arg12 : BitVec 32 := Scf.iv c0_i32_50 c1_i32_51 k1_t4
  let v120 : BitVec 32 := Scalar.addi c150_i32_86 arg12
  let v121 : Index := Scalar.indexCast v120
  let c128 : Index := 128#32
  ![v121.toNat, 128]
def k1_off75 (k1_t4 : Fin k1_t4_loop.trips) : Fin 2 → Nat :=
  let c150_i32_90 : BitVec 32 := 150#32
  let c0_i32_50 : BitVec 32 := 0#32
  let c1_i32_51 : BitVec 32 := 1#32
  let arg12 : BitVec 32 := Scf.iv c0_i32_50 c1_i32_51 k1_t4
  let v130 : BitVec 32 := Scalar.addi c150_i32_90 arg12
  let v131 : Index := Scalar.indexCast v130
  let c144 : Index := 144#32
  ![v131.toNat, 144]
def k1_off76 (k1_t4 : Fin k1_t4_loop.trips) : Fin 2 → Nat :=
  let c150_i32_94 : BitVec 32 := 150#32
  let c0_i32_50 : BitVec 32 := 0#32
  let c1_i32_51 : BitVec 32 := 1#32
  let arg12 : BitVec 32 := Scf.iv c0_i32_50 c1_i32_51 k1_t4
  let v140 : BitVec 32 := Scalar.addi c150_i32_94 arg12
  let v141 : Index := Scalar.indexCast v140
  let c160 : Index := 160#32
  ![v141.toNat, 160]
def k1_off77 (k1_t4 : Fin k1_t4_loop.trips) : Fin 2 → Nat :=
  let c150_i32_98 : BitVec 32 := 150#32
  let c0_i32_50 : BitVec 32 := 0#32
  let c1_i32_51 : BitVec 32 := 1#32
  let arg12 : BitVec 32 := Scf.iv c0_i32_50 c1_i32_51 k1_t4
  let v150 : BitVec 32 := Scalar.addi c150_i32_98 arg12
  let v151 : Index := Scalar.indexCast v150
  let c176 : Index := 176#32
  ![v151.toNat, 176]
def k1_off78 (k1_t4 : Fin k1_t4_loop.trips) : Fin 2 → Nat :=
  let c150_i32_101 : BitVec 32 := 150#32
  let c0_i32_50 : BitVec 32 := 0#32
  let c1_i32_51 : BitVec 32 := 1#32
  let arg12 : BitVec 32 := Scf.iv c0_i32_50 c1_i32_51 k1_t4
  let v160 : BitVec 32 := Scalar.addi c150_i32_101 arg12
  let v161 : Index := Scalar.indexCast v160
  let c192 : Index := 192#32
  ![v161.toNat, 192]
def k1_off79 (k1_t4 : Fin k1_t4_loop.trips) : Fin 2 → Nat :=
  let c150_i32_105 : BitVec 32 := 150#32
  let c0_i32_50 : BitVec 32 := 0#32
  let c1_i32_51 : BitVec 32 := 1#32
  let arg12 : BitVec 32 := Scf.iv c0_i32_50 c1_i32_51 k1_t4
  let v170 : BitVec 32 := Scalar.addi c150_i32_105 arg12
  let v171 : Index := Scalar.indexCast v170
  let c208 : Index := 208#32
  ![v171.toNat, 208]
def k1_off80 (k1_t4 : Fin k1_t4_loop.trips) : Fin 2 → Nat :=
  let c150_i32_109 : BitVec 32 := 150#32
  let c0_i32_50 : BitVec 32 := 0#32
  let c1_i32_51 : BitVec 32 := 1#32
  let arg12 : BitVec 32 := Scf.iv c0_i32_50 c1_i32_51 k1_t4
  let v180 : BitVec 32 := Scalar.addi c150_i32_109 arg12
  let v181 : Index := Scalar.indexCast v180
  let c224 : Index := 224#32
  ![v181.toNat, 224]
def k1_off81 (k1_t4 : Fin k1_t4_loop.trips) : Fin 2 → Nat :=
  let c150_i32_113 : BitVec 32 := 150#32
  let c0_i32_50 : BitVec 32 := 0#32
  let c1_i32_51 : BitVec 32 := 1#32
  let arg12 : BitVec 32 := Scf.iv c0_i32_50 c1_i32_51 k1_t4
  let v190 : BitVec 32 := Scalar.addi c150_i32_113 arg12
  let v191 : Index := Scalar.indexCast v190
  let c240 : Index := 240#32
  ![v191.toNat, 240]
def k1_off82 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r1 : BitVec 32 := 0#32
  let c0_i32_54_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x196x256 : Shape := ⟨3, ![32, 196, 256]⟩
abbrev S2048x64 : Shape := ⟨2, ![2048, 64]⟩
abbrev S25088x64 : Shape := ⟨2, ![25088, 64]⟩
abbrev S_ : Shape := ⟨0, ![]⟩
abbrev S25088 : Shape := ⟨1, ![25088]⟩
abbrev S25088x1 : Shape := ⟨2, ![25088, 1]⟩
abbrev S2048 : Shape := ⟨1, ![2048]⟩
abbrev S1x2048 : Shape := ⟨2, ![1, 2048]⟩
abbrev S64x2048 : Shape := ⟨2, ![64, 2048]⟩
abbrev S25088x2048 : Shape := ⟨2, ![25088, 2048]⟩
abbrev S6272x4x4x512 : Shape := ⟨4, ![6272, 4, 4, 512]⟩
abbrev S4x6272x4x512 : Shape := ⟨4, ![4, 6272, 4, 512]⟩
abbrev S1x6272x1x512 : Shape := ⟨4, ![1, 6272, 1, 512]⟩
abbrev S6272x512 : Shape := ⟨2, ![6272, 512]⟩
abbrev S6272 : Shape := ⟨1, ![6272]⟩
abbrev S1x6272 : Shape := ⟨2, ![1, 6272]⟩
abbrev S4x6272 : Shape := ⟨2, ![4, 6272]⟩
abbrev S6272x4 : Shape := ⟨2, ![6272, 4]⟩
abbrev S32x196x4 : Shape := ⟨3, ![32, 196, 4]⟩
abbrev S32x196x4x1 : Shape := ⟨4, ![32, 196, 4, 1]⟩
abbrev S32x196x4x64 : Shape := ⟨4, ![32, 196, 4, 64]⟩

abbrev nBuf : Space → Nat
  | .hbm => 92
  | .vmem => 0
  | .smem => 0
  | _ => 0

abbrev bufTy : (tb : Table) → Fin (tcTables nBuf tb) → BufTy
  | .hbm, ⟨0, _⟩ => ⟨S32x196x256, .f32⟩
  | .hbm, ⟨1, _⟩ => ⟨S2048x64, .f32⟩
  | .hbm, ⟨2, _⟩ => ⟨S25088x64, .f32⟩
  | .hbm, ⟨3, _⟩ => ⟨S25088x64, .f32⟩
  | .hbm, ⟨4, _⟩ => ⟨S_, .f32⟩
  | .hbm, ⟨5, _⟩ => ⟨S25088, .f32⟩
  | .hbm, ⟨6, _⟩ => ⟨S25088x1, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S64x2048, .f32⟩
  | .hbm, ⟨12, _⟩ => ⟨S25088x2048, .f32⟩
  | .hbm, ⟨13, _⟩ => ⟨S_, .f32⟩
  | .hbm, ⟨14, _⟩ => ⟨S25088x2048, .f32⟩
  | .hbm, ⟨15, _⟩ => ⟨S25088x2048, .f32⟩
  | .hbm, ⟨16, _⟩ => ⟨S25088x2048, .f32⟩
  | .hbm, ⟨17, _⟩ => ⟨S25088x2048, .f32⟩
  | .hbm, ⟨18, _⟩ => ⟨S25088x2048, .f32⟩
  | .hbm, ⟨19, _⟩ => ⟨S25088x2048, .f32⟩
  | .hbm, ⟨20, _⟩ => ⟨S6272x4x4x512, .f32⟩
  | .hbm, ⟨21, _⟩ => ⟨S4x6272x4x512, .f32⟩
  | .hbm, ⟨22, _⟩ => ⟨S1x6272x1x512, .f32⟩
  | .hbm, ⟨23, _⟩ => ⟨S6272x512, .f32⟩
  | .hbm, ⟨24, _⟩ => ⟨S6272x512, .f32⟩
  | .hbm, ⟨25, _⟩ => ⟨S6272x512, .i32⟩
  | .hbm, ⟨26, _⟩ => ⟨S_, .f32⟩
  | .hbm, ⟨27, _⟩ => ⟨S_, .i32⟩
  | .hbm, ⟨28, _⟩ => ⟨S6272, .f32⟩
  | .hbm, ⟨29, _⟩ => ⟨S6272, .i32⟩
  | .hbm, ⟨30, _⟩ => ⟨S_, .i32⟩
  | .hbm, ⟨31, _⟩ => ⟨S6272, .i32⟩
  | .hbm, ⟨32, _⟩ => ⟨S6272, .i32⟩
  | .hbm, ⟨33, _⟩ => ⟨S1x6272x1x512, .f32⟩
  | .hbm, ⟨34, _⟩ => ⟨S6272x512, .f32⟩
  | .hbm, ⟨35, _⟩ => ⟨S6272x512, .f32⟩
  | .hbm, ⟨36, _⟩ => ⟨S6272x512, .i32⟩
  | .hbm, ⟨37, _⟩ => ⟨S_, .f32⟩
  | .hbm, ⟨38, _⟩ => ⟨S_, .i32⟩
  | .hbm, ⟨39, _⟩ => ⟨S6272, .f32⟩
  | .hbm, ⟨40, _⟩ => ⟨S6272, .i32⟩
  | .hbm, ⟨41, _⟩ => ⟨S_, .i32⟩
  | .hbm, ⟨42, _⟩ => ⟨S6272, .i32⟩
  | .hbm, ⟨43, _⟩ => ⟨S6272, .i32⟩
  | .hbm, ⟨44, _⟩ => ⟨S1x6272x1x512, .f32⟩
  | .hbm, ⟨45, _⟩ => ⟨S6272x512, .f32⟩
  | .hbm, ⟨46, _⟩ => ⟨S6272x512, .f32⟩
  | .hbm, ⟨47, _⟩ => ⟨S6272x512, .i32⟩
  | .hbm, ⟨48, _⟩ => ⟨S_, .f32⟩
  | .hbm, ⟨49, _⟩ => ⟨S_, .i32⟩
  | .hbm, ⟨50, _⟩ => ⟨S6272, .f32⟩
  | .hbm, ⟨51, _⟩ => ⟨S6272, .i32⟩
  | .hbm, ⟨52, _⟩ => ⟨S_, .i32⟩
  | .hbm, ⟨53, _⟩ => ⟨S6272, .i32⟩
  | .hbm, ⟨54, _⟩ => ⟨S6272, .i32⟩
  | .hbm, ⟨55, _⟩ => ⟨S1x6272x1x512, .f32⟩
  | .hbm, ⟨56, _⟩ => ⟨S6272x512, .f32⟩
  | .hbm, ⟨57, _⟩ => ⟨S6272x512, .f32⟩
  | .hbm, ⟨58, _⟩ => ⟨S6272x512, .i32⟩
  | .hbm, ⟨59, _⟩ => ⟨S_, .f32⟩
  | .hbm, ⟨60, _⟩ => ⟨S_, .i32⟩
  | .hbm, ⟨61, _⟩ => ⟨S6272, .f32⟩
  | .hbm, ⟨62, _⟩ => ⟨S6272, .i32⟩
  | .hbm, ⟨63, _⟩ => ⟨S_, .i32⟩
  | .hbm, ⟨64, _⟩ => ⟨S6272, .i32⟩
  | .hbm, ⟨65, _⟩ => ⟨S6272, .i32⟩
  | .hbm, ⟨66, _⟩ => ⟨S1x6272, .i32⟩
  | .hbm, ⟨67, _⟩ => ⟨S1x6272, .i32⟩
  | .hbm, ⟨68, _⟩ => ⟨S1x6272, .i32⟩
  | .hbm, ⟨69, _⟩ => ⟨S1x6272, .i32⟩
  | .hbm, ⟨70, _⟩ => ⟨S4x6272, .i32⟩
  | .hbm, ⟨71, _⟩ => ⟨S6272x4, .i32⟩
  | .hbm, ⟨72, _⟩ => ⟨S32x196x4, .i32⟩
  | .hbm, ⟨73, _⟩ => ⟨S_, .i32⟩
  | .hbm, ⟨74, _⟩ => ⟨S32x196x4, .i32⟩
  | .hbm, ⟨75, _⟩ => ⟨S32x196x4, .i1⟩
  | .hbm, ⟨76, _⟩ => ⟨S_, .i32⟩
  | .hbm, ⟨77, _⟩ => ⟨S32x196x4, .i32⟩
  | .hbm, ⟨78, _⟩ => ⟨S32x196x4, .i32⟩
  | .hbm, ⟨79, _⟩ => ⟨S32x196x4, .i32⟩
  | .hbm, ⟨80, _⟩ => ⟨S32x196x4x1, .i32⟩
  | .hbm, ⟨81, _⟩ => ⟨S32x196x4x64, .f32⟩
  | .hbm, ⟨82, _⟩ => ⟨S32x196x256, .f32⟩
  | .hbm, ⟨83, _⟩ => ⟨S32x196x256, .f32⟩
  | .hbm, ⟨84, _⟩ => ⟨S32x196x256, .f32⟩
  | .hbm, ⟨85, _⟩ => ⟨S32x196x256, .f32⟩
  | .hbm, ⟨86, _⟩ => ⟨S32x196x256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S32x196x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_v0 : Ref sig .tc := ⟨.hbm, 36, rfl⟩
abbrev main_call1_cst : Ref sig .tc := ⟨.hbm, 37, rfl⟩
abbrev main_call1_c : Ref sig .tc := ⟨.hbm, 38, rfl⟩
abbrev main_call1_v1_0 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call2_v0 : Ref sig .tc := ⟨.hbm, 47, rfl⟩
abbrev main_call2_cst : Ref sig .tc := ⟨.hbm, 48, rfl⟩
abbrev main_call2_c : Ref sig .tc := ⟨.hbm, 49, rfl⟩
abbrev main_call2_v1_0 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call3_v0 : Ref sig .tc := ⟨.hbm, 58, rfl⟩
abbrev main_call3_cst : Ref sig .tc := ⟨.hbm, 59, rfl⟩
abbrev main_call3_c : Ref sig .tc := ⟨.hbm, 60, rfl⟩
abbrev main_call3_v1_0 : Ref sig .tc := ⟨.hbm, 61, rfl⟩
abbrev main_v38 : Ref sig .tc := ⟨.hbm, 62, rfl⟩
abbrev main_c_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_5 : Ref sig .tc := ⟨.hbm, 73, rfl⟩
abbrev main_v48 : Ref sig .tc := ⟨.hbm, 74, rfl⟩
abbrev main_v49 : Ref sig .tc := ⟨.hbm, 75, rfl⟩
abbrev main_c_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_7 : Ref sig .tc := ⟨.hbm, 87, rfl⟩
abbrev main_v60 : Ref sig .tc := ⟨.hbm, 88, rfl⟩
abbrev main_cst_8 : Ref sig .tc := ⟨.hbm, 89, rfl⟩
abbrev main_v61 : Ref sig .tc := ⟨.hbm, 90, rfl⟩
abbrev main_cst_9 : Ref sig .tc := ⟨.hbm, 91, rfl⟩

abbrev nD : Nat := 1
abbrev τ : Topo := Topo.v7x

variable {F : FTy → Type} [FloatOps F]
-- ==== Gather.lean ====
abbrev S2048x64 : Shape := ⟨2, ![2048, 64]⟩
abbrev S32x196x4 : Shape := ⟨3, ![32, 196, 4]⟩
abbrev S_ : Shape := ⟨0, ![]⟩
abbrev S2048x128 : Shape := ⟨2, ![2048, 128]⟩
abbrev S25088 : Shape := ⟨1, ![25088]⟩
abbrev S32x196x256 : Shape := ⟨3, ![32, 196, 256]⟩
abbrev S784 : Shape := ⟨1, ![784]⟩
abbrev S200x128 : Shape := ⟨2, ![200, 128]⟩
abbrev S196x256 : Shape := ⟨2, ![196, 256]⟩
abbrev S200 : Shape := ⟨1, ![200]⟩
abbrev S1x16 : Shape := ⟨2, ![1, 16]⟩
abbrev S16 : Shape := ⟨1, ![16]⟩
abbrev S184x128 : Shape := ⟨2, ![184, 128]⟩
abbrev S184 : Shape := ⟨1, ![184]⟩
abbrev S1x196x256 : Shape := ⟨3, ![1, 196, 256]⟩

abbrev nBuf : Table → Nat
  | .hbm => 7
  | .local .scVector .vmem => 4
  | _ => 0

abbrev bufTy : (tb : Table) → Fin (nBuf tb) → BufTy
  | .hbm, ⟨0, _⟩ => ⟨S2048x64, .f32⟩
  | .hbm, ⟨1, _⟩ => ⟨S32x196x4, .i32⟩
  | .hbm, ⟨2, _⟩ => ⟨S_, .i32⟩
  | .hbm, ⟨3, _⟩ => ⟨S_, .f32⟩
  | .hbm, ⟨4, _⟩ => ⟨S2048x128, .f32⟩
  | .hbm, ⟨5, _⟩ => ⟨S25088, .i32⟩
  | .hbm, ⟨6, _⟩ => ⟨S32x196x256, .f32⟩
  | .local .scVector .vmem, ⟨0, _⟩ => ⟨S784, .i32⟩
  | .local .scVector .vmem, ⟨1, _⟩ => ⟨S200x128, .f32⟩
  | .local .scVector .vmem, ⟨2, _⟩ => ⟨S200x128, .f32⟩
  | .local .scVector .vmem, ⟨3, _⟩ => ⟨S196x256, .f32⟩
  | _, _ => ⟨S2048x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c784_i32 : BitVec 32 := 784#32
  let v2 : BitVec 32 := Scalar.muli v1 c784_i32
  ![v2.toNat]
@[reducible] def k0_t1_loop : Scf.Loop 32 :=
  let c0_i32_14 : BitVec 32 := 0#32
  let c50_i32 : BitVec 32 := 50#32
  let v12 : BitVec 32 := Scalar.addi c0_i32_14 c50_i32
  let c1_i32 : BitVec 32 := 1#32
  ⟨c0_i32_14, v12, c1_i32⟩
def k0_off2 (k0_t1 : Fin k0_t1_loop.trips) (c0_i32_53 : BitVec 32) : Fin 2 → Nat :=
  let c4_i32 : BitVec 32 := 4#32
  let c0_i32_14 : BitVec 32 := 0#32
  let c1_i32 : BitVec 32 := 1#32
  let arg12 : BitVec 32 := Scf.iv c0_i32_14 c1_i32 k0_t1
  let v35 : BitVec 32 := Scalar.muli c4_i32 arg12
  let v36 : BitVec 32 := Scalar.addi v35 c0_i32_53
  let v37 : Index := Scalar.indexCast v36
  let c0 : Index := 0#32
  ![v37.toNat, 0]
def k0_off3 (k0_t1 : Fin k0_t1_loop.trips) : Fin 2 → Nat :=
  let c0_i32_54 : BitVec 32 := 0#32
  let c0_i32_14 : BitVec 32 := 0#32
  let c1_i32 : BitVec 32 := 1#32
  let arg12 : BitVec 32 := Scf.iv c0_i32_14 c1_i32 k0_t1
  let v40 : BitVec 32 := Scalar.addi c0_i32_54 arg12
  let v41 : Index := Scalar.indexCast v40
  let c0_55 : Index := 0#32
  ![v41.toNat, 0]
def k0_off4 (k0_t1 : Fin k0_t1_loop.trips) (c0_i32_57 : BitVec 32) : Fin 2 → Nat :=
  let c4_i32_56 : BitVec 32 := 4#32
  let c0_i32_14 : BitVec 32 := 0#32
  let c1_i32 : BitVec 32 := 1#32
  let arg12 : BitVec 32 := Scf.iv c0_i32_14 c1_i32 k0_t1
  let v45 : BitVec 32 := Scalar.muli c4_i32_56 arg12
  let v46 : BitVec 32 := Scalar.addi v45 c0_i32_57
  let v47 : Index := Scalar.indexCast v46
  let c16 : Index := 16#32
  ![v47.toNat, 16]
def k0_off5 (k0_t1 : Fin k0_t1_loop.trips) : Fin 2 → Nat :=
  let c0_i32_58 : BitVec 32 := 0#32
  let c0_i32_14 : BitVec 32 := 0#32
  let c1_i32 : BitVec 32 := 1#32
  let arg12 : BitVec 32 := Scf.iv c0_i32_14 c1_i32 k0_t1
  let v50 : BitVec 32 := Scalar.addi c0_i32_58 arg12
  let v51 : Index := Scalar.indexCast v50
  let c16_59 : Index := 16#32
  ![v51.toNat, 16]
def k0_off6 (k0_t1 : Fin k0_t1_loop.trips) (c0_i32_61 : BitVec 32) : Fin 2 → Nat :=
  let c4_i32_60 : BitVec 32 := 4#32
  let c0_i32_14 : BitVec 32 := 0#32
  let c1_i32 : BitVec 32 := 1#32
  let arg12 : BitVec 32 := Scf.iv c0_i32_14 c1_i32 k0_t1
  let v55 : BitVec 32 := Scalar.muli c4_i32_60 arg12
  let v56 : BitVec 32 := Scalar.addi v55 c0_i32_61
  let v57 : Index := Scalar.indexCast v56
  let c32 : Index := 32#32
  ![v57.toNat, 32]
def k0_off7 (k0_t1 : Fin k0_t1_loop.trips) : Fin 2 → Nat :=
  let c0_i32_62 : BitVec 32 := 0#32
  let c0_i32_14 : BitVec 32 := 0#32
  let c1_i32 : BitVec 32 := 1#32
  let arg12 : BitVec 32 := Scf.iv c0_i32_14 c1_i32 k0_t1
  let v60 : BitVec 32 := Scalar.addi c0_i32_62 arg12
  let v61 : Index := Scalar.indexCast v60
  let c32_63 : Index := 32#32
  ![v61.toNat, 32]
def k0_off8 (k0_t1 : Fin k0_t1_loop.trips) (c0_i32_65 : BitVec 32) : Fin 2 → Nat :=
  let c4_i32_64 : BitVec 32 := 4#32
  let c0_i32_14 : BitVec 32 := 0#32
  let c1_i32 : BitVec 32 := 1#32
  let arg12 : BitVec 32 := Scf.iv c0_i32_14 c1_i32 k0_t1
  let v65 : BitVec 32 := Scalar.muli c4_i32_64 arg12
  let v66 : BitVec 32 := Scalar.addi v65 c0_i32_65
  let v67 : Index := Scalar.indexCast v66
  let c48 : Index := 48#32
  ![v67.toNat, 48]
def k0_off9 (k0_t1 : Fin k0_t1_loop.trips) : Fin 2 → Nat :=
  let c0_i32_66 : BitVec 32 := 0#32
  let c0_i32_14 : BitVec 32 := 0#32
  let c1_i32 : BitVec 32 := 1#32
  let arg12 : BitVec 32 := Scf.iv c0_i32_14 c1_i32 k0_t1
  let v70 : BitVec 32 := Scalar.addi c0_i32_66 arg12
  let v71 : Index := Scalar.indexCast v70
  let c48_67 : Index := 48#32
  ![v71.toNat, 48]
def k0_off10 (k0_t1 : Fin k0_t1_loop.trips) : Fin 2 → Nat :=
  let c0_i32_71 : BitVec 32 := 0#32
  let c0_i32_14 : BitVec 32 := 0#32
  let c1_i32 : BitVec 32 := 1#32
  let arg12 : BitVec 32 := Scf.iv c0_i32_14 c1_i32 k0_t1
  let v80 : BitVec 32 := Scalar.addi c0_i32_71 arg12
  let v81 : Index := Scalar.indexCast v80
  let c64 : Index := 64#32
  ![v81.toNat, 64]
def k0_off11 (k0_t1 : Fin k0_t1_loop.trips) : Fin 2 → Nat :=
  let c0_i32_75 : BitVec 32 := 0#32
  let c0_i32_14 : BitVec 32 := 0#32
  let c1_i32 : BitVec 32 := 1#32
  let arg12 : BitVec 32 := Scf.iv c0_i32_14 c1_i32 k0_t1
  let v90 : BitVec 32 := Scalar.addi c0_i32_75 arg12
  let v91 : Index := Scalar.indexCast v90
  let c80 : Index := 80#32
  ![v91.toNat, 80]
def k0_off12 (k0_t1 : Fin k0_t1_loop.trips) : Fin 2 → Nat :=
  let c0_i32_79 : BitVec 32 := 0#32
  let c0_i32_14 : BitVec 32 := 0#32
  let c1_i32 : BitVec 32 := 1#32
  let arg12 : BitVec 32 := Scf.iv c0_i32_14 c1_i32 k0_t1
  let v100 : BitVec 32 := Scalar.addi c0_i32_79 arg12
  let v101 : Index := Scalar.indexCast v100
  let c96 : Index := 96#32
  ![v101.toNat, 96]
def k0_off13 (k0_t1 : Fin k0_t1_loop.trips) : Fin 2 → Nat :=
  let c0_i32_83 : BitVec 32 := 0#32
  let c0_i32_14 : BitVec 32 := 0#32
  let c1_i32 : BitVec 32 := 1#32
  let arg12 : BitVec 32 := Scf.iv c0_i32_14 c1_i32 k0_t1
  let v110 : BitVec 32 := Scalar.addi c0_i32_83 arg12
  let v111 : Index := Scalar.indexCast v110
  let c112 : Index := 112#32
  ![v111.toNat, 112]
def k0_off14 (k0_t1 : Fin k0_t1_loop.trips) : Fin 2 → Nat :=
  let c0_i32_87 : BitVec 32 := 0#32
  let c0_i32_14 : BitVec 32 := 0#32
  let c1_i32 : BitVec 32 := 1#32
  let arg12 : BitVec 32 := Scf.iv c0_i32_14 c1_i32 k0_t1
  let v120 : BitVec 32 := Scalar.addi c0_i32_87 arg12
  let v121 : Index := Scalar.indexCast v120
  let c128 : Index := 128#32
  ![v121.toNat, 128]
def k0_off15 (k0_t1 : Fin k0_t1_loop.trips) : Fin 2 → Nat :=
  let c0_i32_91 : BitVec 32 := 0#32
  let c0_i32_14 : BitVec 32 := 0#32
  let c1_i32 : BitVec 32 := 1#32
  let arg12 : BitVec 32 := Scf.iv c0_i32_14 c1_i32 k0_t1
  let v130 : BitVec 32 := Scalar.addi c0_i32_91 arg12
  let v131 : Index := Scalar.indexCast v130
  let c144 : Index := 144#32
  ![v131.toNat, 144]
def k0_off16 (k0_t1 : Fin k0_t1_loop.trips) : Fin 2 → Nat :=
  let c0_i32_95 : BitVec 32 := 0#32
  let c0_i32_14 : BitVec 32 := 0#32
  let c1_i32 : BitVec 32 := 1#32
  let arg12 : BitVec 32 := Scf.iv c0_i32_14 c1_i32 k0_t1
  let v140 : BitVec 32 := Scalar.addi c0_i32_95 arg12
  let v141 : Index := Scalar.indexCast v140
  let c160 : Index := 160#32
  ![v141.toNat, 160]
def k0_off17 (k0_t1 : Fin k0_t1_loop.trips) : Fin 2 → Nat :=
  let c0_i32_99 : BitVec 32 := 0#32
  let c0_i32_14 : BitVec 32 := 0#32
  let c1_i32 : BitVec 32 := 1#32
  let arg12 : BitVec 32 := Scf.iv c0_i32_14 c1_i32 k0_t1
  let v150 : BitVec 32 := Scalar.addi c0_i32_99 arg12
  let v151 : Index := Scalar.indexCast v150
  let c176 : Index := 176#32
  ![v151.toNat, 176]
def k0_off18 (k0_t1 : Fin k0_t1_loop.trips) : Fin 2 → Nat :=
  let c0_i32_102 : BitVec 32 := 0#32
  let c0_i32_14 : BitVec 32 := 0#32
  let c1_i32 : BitVec 32 := 1#32
  let arg12 : BitVec 32 := Scf.iv c0_i32_14 c1_i32 k0_t1
  let v160 : BitVec 32 := Scalar.addi c0_i32_102 arg12
  let v161 : Index := Scalar.indexCast v160
  let c192 : Index := 192#32
  ![v161.toNat, 192]
def k0_off19 (k0_t1 : Fin k0_t1_loop.trips) : Fin 2 → Nat :=
  let c0_i32_106 : BitVec 32 := 0#32
  let c0_i32_14 : BitVec 32 := 0#32
  let c1_i32 : BitVec 32 := 1#32
  let arg12 : BitVec 32 := Scf.iv c0_i32_14 c1_i32 k0_t1
  let v170 : BitVec 32 := Scalar.addi c0_i32_106 arg12
  let v171 : Index := Scalar.indexCast v170
  let c208 : Index := 208#32
  ![v171.toNat, 208]
def k0_off20 (k0_t1 : Fin k0_t1_loop.trips) : Fin 2 → Nat :=
  let c0_i32_110 : BitVec 32 := 0#32
  let c0_i32_14 : BitVec 32 := 0#32
  let c1_i32 : BitVec 32 := 1#32
  let arg12 : BitVec 32 := Scf.iv c0_i32_14 c1_i32 k0_t1
  let v180 : BitVec 32 := Scalar.addi c0_i32_110 arg12
  let v181 : Index := Scalar.indexCast v180
  let c224 : Index := 224#32
  ![v181.toNat, 224]
def k0_off21 (k0_t1 : Fin k0_t1_loop.trips) : Fin 2 → Nat :=
  let c0_i32_114 : BitVec 32 := 0#32
  let c0_i32_14 : BitVec 32 := 0#32
  let c1_i32 : BitVec 32 := 1#32
  let arg12 : BitVec 32 := Scf.iv c0_i32_14 c1_i32 k0_t1
  let v190 : BitVec 32 := Scalar.addi c0_i32_114 arg12
  let v191 : Index := Scalar.indexCast v190
  let c240 : Index := 240#32
  ![v191.toNat, 240]
@[reducible] def k0_t2_loop : Scf.Loop 32 :=
  let c0_i32_26 : BitVec 32 := 0#32
  let c50_i32_27 : BitVec 32 := 50#32
  let v20 : BitVec 32 := Scalar.addi c0_i32_26 c50_i32_27
  let c1_i32_28 : BitVec 32 := 1#32
  ⟨c0_i32_26, v20, c1_i32_28⟩
def k0_off22 (k0_t2 : Fin k0_t2_loop.trips) (c0_i32_53 : BitVec 32) : Fin 2 → Nat :=
  let c4_i32 : BitVec 32 := 4#32
  let c0_i32_26 : BitVec 32 := 0#32
  let c1_i32_28 : BitVec 32 := 1#32
  let arg12 : BitVec 32 := Scf.iv c0_i32_26 c1_i32_28 k0_t2
  let v35 : BitVec 32 := Scalar.muli c4_i32 arg12
  let v36 : BitVec 32 := Scalar.addi v35 c0_i32_53
  let v37 : Index := Scalar.indexCast v36
  let c0 : Index := 0#32
  ![v37.toNat, 0]
def k0_off23 (k0_t2 : Fin k0_t2_loop.trips) : Fin 2 → Nat :=
  let c50_i32_54 : BitVec 32 := 50#32
  let c0_i32_26 : BitVec 32 := 0#32
  let c1_i32_28 : BitVec 32 := 1#32
  let arg12 : BitVec 32 := Scf.iv c0_i32_26 c1_i32_28 k0_t2
  let v40 : BitVec 32 := Scalar.addi c50_i32_54 arg12
  let v41 : Index := Scalar.indexCast v40
  let c0_55 : Index := 0#32
  ![v41.toNat, 0]
def k0_off24 (k0_t2 : Fin k0_t2_loop.trips) (c0_i32_57 : BitVec 32) : Fin 2 → Nat :=
  let c4_i32_56 : BitVec 32 := 4#32
  let c0_i32_26 : BitVec 32 := 0#32
  let c1_i32_28 : BitVec 32 := 1#32
  let arg12 : BitVec 32 := Scf.iv c0_i32_26 c1_i32_28 k0_t2
  let v45 : BitVec 32 := Scalar.muli c4_i32_56 arg12
  let v46 : BitVec 32 := Scalar.addi v45 c0_i32_57
  let v47 : Index := Scalar.indexCast v46
  let c16 : Index := 16#32
  ![v47.toNat, 16]
def k0_off25 (k0_t2 : Fin k0_t2_loop.trips) : Fin 2 → Nat :=
  let c50_i32_58 : BitVec 32 := 50#32
  let c0_i32_26 : BitVec 32 := 0#32
  let c1_i32_28 : BitVec 32 := 1#32
  let arg12 : BitVec 32 := Scf.iv c0_i32_26 c1_i32_28 k0_t2
  let v50 : BitVec 32 := Scalar.addi c50_i32_58 arg12
  let v51 : Index := Scalar.indexCast v50
  let c16_59 : Index := 16#32
  ![v51.toNat, 16]
def k0_off26 (k0_t2 : Fin k0_t2_loop.trips) (c0_i32_61 : BitVec 32) : Fin 2 → Nat :=
  let c4_i32_60 : BitVec 32 := 4#32
  let c0_i32_26 : BitVec 32 := 0#32
  let c1_i32_28 : BitVec 32 := 1#32
  let arg12 : BitVec 32 := Scf.iv c0_i32_26 c1_i32_28 k0_t2
  let v55 : BitVec 32 := Scalar.muli c4_i32_60 arg12
  let v56 : BitVec 32 := Scalar.addi v55 c0_i32_61
  let v57 : Index := Scalar.indexCast v56
  let c32 : Index := 32#32
  ![v57.toNat, 32]
def k0_off27 (k0_t2 : Fin k0_t2_loop.trips) : Fin 2 → Nat :=
  let c50_i32_62 : BitVec 32 := 50#32
  let c0_i32_26 : BitVec 32 := 0#32
  let c1_i32_28 : BitVec 32 := 1#32
  let arg12 : BitVec 32 := Scf.iv c0_i32_26 c1_i32_28 k0_t2
  let v60 : BitVec 32 := Scalar.addi c50_i32_62 arg12
  let v61 : Index := Scalar.indexCast v60
  let c32_63 : Index := 32#32
  ![v61.toNat, 32]
def k0_off28 (k0_t2 : Fin k0_t2_loop.trips) (c0_i32_65 : BitVec 32) : Fin 2 → Nat :=
  let c4_i32_64 : BitVec 32 := 4#32
  let c0_i32_26 : BitVec 32 := 0#32
  let c1_i32_28 : BitVec 32 := 1#32
  let arg12 : BitVec 32 := Scf.iv c0_i32_26 c1_i32_28 k0_t2
  let v65 : BitVec 32 := Scalar.muli c4_i32_64 arg12
  let v66 : BitVec 32 := Scalar.addi v65 c0_i32_65
  let v67 : Index := Scalar.indexCast v66
  let c48 : Index := 48#32
  ![v67.toNat, 48]
def k0_off29 (k0_t2 : Fin k0_t2_loop.trips) : Fin 2 → Nat :=
  let c50_i32_66 : BitVec 32 := 50#32
  let c0_i32_26 : BitVec 32 := 0#32
  let c1_i32_28 : BitVec 32 := 1#32
  let arg12 : BitVec 32 := Scf.iv c0_i32_26 c1_i32_28 k0_t2
  let v70 : BitVec 32 := Scalar.addi c50_i32_66 arg12
  let v71 : Index := Scalar.indexCast v70
  let c48_67 : Index := 48#32
  ![v71.toNat, 48]
def k0_off30 (k0_t2 : Fin k0_t2_loop.trips) : Fin 2 → Nat :=
  let c50_i32_71 : BitVec 32 := 50#32
  let c0_i32_26 : BitVec 32 := 0#32
  let c1_i32_28 : BitVec 32 := 1#32
  let arg12 : BitVec 32 := Scf.iv c0_i32_26 c1_i32_28 k0_t2
  let v80 : BitVec 32 := Scalar.addi c50_i32_71 arg12
  let v81 : Index := Scalar.indexCast v80
  let c64 : Index := 64#32
  ![v81.toNat, 64]
def k0_off31 (k0_t2 : Fin k0_t2_loop.trips) : Fin 2 → Nat :=
  let c50_i32_75 : BitVec 32 := 50#32
  let c0_i32_26 : BitVec 32 := 0#32
  let c1_i32_28 : BitVec 32 := 1#32
  let arg12 : BitVec 32 := Scf.iv c0_i32_26 c1_i32_28 k0_t2
  let v90 : BitVec 32 := Scalar.addi c50_i32_75 arg12
  let v91 : Index := Scalar.indexCast v90
  let c80 : Index := 80#32
  ![v91.toNat, 80]
def k0_off32 (k0_t2 : Fin k0_t2_loop.trips) : Fin 2 → Nat :=
  let c50_i32_79 : BitVec 32 := 50#32
  let c0_i32_26 : BitVec 32 := 0#32
  let c1_i32_28 : BitVec 32 := 1#32
  let arg12 : BitVec 32 := Scf.iv c0_i32_26 c1_i32_28 k0_t2
  let v100 : BitVec 32 := Scalar.addi c50_i32_79 arg12
  let v101 : Index := Scalar.indexCast v100
  let c96 : Index := 96#32
  ![v101.toNat, 96]
def k0_off33 (k0_t2 : Fin k0_t2_loop.trips) : Fin 2 → Nat :=
  let c50_i32_83 : BitVec 32 := 50#32
  let c0_i32_26 : BitVec 32 := 0#32
  let c1_i32_28 : BitVec 32 := 1#32
  let arg12 : BitVec 32 := Scf.iv c0_i32_26 c1_i32_28 k0_t2
  let v110 : BitVec 32 := Scalar.addi c50_i32_83 arg12
  let v111 : Index := Scalar.indexCast v110
  let c112 : Index := 112#32
  ![v111.toNat, 112]
def k0_off34 (k0_t2 : Fin k0_t2_loop.trips) : Fin 2 → Nat :=
  let c50_i32_87 : BitVec 32 := 50#32
  let c0_i32_26 : BitVec 32 := 0#32
  let c1_i32_28 : BitVec 32 := 1#32
  let arg12 : BitVec 32 := Scf.iv c0_i32_26 c1_i32_28 k0_t2
  let v120 : BitVec 32 := Scalar.addi c50_i32_87 arg12
  let v121 : Index := Scalar.indexCast v120
  let c128 : Index := 128#32
  ![v121.toNat, 128]
def k0_off35 (k0_t2 : Fin k0_t2_loop.trips) : Fin 2 → Nat :=
  let c50_i32_91 : BitVec 32 := 50#32
  let c0_i32_26 : BitVec 32 := 0#32
  let c1_i32_28 : BitVec 32 := 1#32
  let arg12 : BitVec 32 := Scf.iv c0_i32_26 c1_i32_28 k0_t2
  let v130 : BitVec 32 := Scalar.addi c50_i32_91 arg12
  let v131 : Index := Scalar.indexCast v130
  let c144 : Index := 144#32
  ![v131.toNat, 144]
def k0_off36 (k0_t2 : Fin k0_t2_loop.trips) : Fin 2 → Nat :=
  let c50_i32_95 : BitVec 32 := 50#32
  let c0_i32_26 : BitVec 32 := 0#32
  let c1_i32_28 : BitVec 32 := 1#32
  let arg12 : BitVec 32 := Scf.iv c0_i32_26 c1_i32_28 k0_t2
  let v140 : BitVec 32 := Scalar.addi c50_i32_95 arg12
  let v141 : Index := Scalar.indexCast v140
  let c160 : Index := 160#32
  ![v141.toNat, 160]
def k0_off37 (k0_t2 : Fin k0_t2_loop.trips) : Fin 2 → Nat :=
  let c50_i32_99 : BitVec 32 := 50#32
  let c0_i32_26 : BitVec 32 := 0#32
  let c1_i32_28 : BitVec 32 := 1#32
  let arg12 : BitVec 32 := Scf.iv c0_i32_26 c1_i32_28 k0_t2
  let v150 : BitVec 32 := Scalar.addi c50_i32_99 arg12
  let v151 : Index := Scalar.indexCast v150
  let c176 : Index := 176#32
  ![v151.toNat, 176]
def k0_off38 (k0_t2 : Fin k0_t2_loop.trips) : Fin 2 → Nat :=
  let c50_i32_102 : BitVec 32 := 50#32
  let c0_i32_26 : BitVec 32 := 0#32
  let c1_i32_28 : BitVec 32 := 1#32
  let arg12 : BitVec 32 := Scf.iv c0_i32_26 c1_i32_28 k0_t2
  let v160 : BitVec 32 := Scalar.addi c50_i32_102 arg12
  let v161 : Index := Scalar.indexCast v160
  let c192 : Index := 192#32
  ![v161.toNat, 192]
def k0_off39 (k0_t2 : Fin k0_t2_loop.trips) : Fin 2 → Nat :=
  let c50_i32_106 : BitVec 32 := 50#32
  let c0_i32_26 : BitVec 32 := 0#32
  let c1_i32_28 : BitVec 32 := 1#32
  let arg12 : BitVec 32 := Scf.iv c0_i32_26 c1_i32_28 k0_t2
  let v170 : BitVec 32 := Scalar.addi c50_i32_106 arg12
  let v171 : Index := Scalar.indexCast v170
  let c208 : Index := 208#32
  ![v171.toNat, 208]
def k0_off40 (k0_t2 : Fin k0_t2_loop.trips) : Fin 2 → Nat :=
  let c50_i32_110 : BitVec 32 := 50#32
  let c0_i32_26 : BitVec 32 := 0#32
  let c1_i32_28 : BitVec 32 := 1#32
  let arg12 : BitVec 32 := Scf.iv c0_i32_26 c1_i32_28 k0_t2
  let v180 : BitVec 32 := Scalar.addi c50_i32_110 arg12
  let v181 : Index := Scalar.indexCast v180
  let c224 : Index := 224#32
  ![v181.toNat, 224]
def k0_off41 (k0_t2 : Fin k0_t2_loop.trips) : Fin 2 → Nat :=
  let c50_i32_114 : BitVec 32 := 50#32
  let c0_i32_26 : BitVec 32 := 0#32
  let c1_i32_28 : BitVec 32 := 1#32
  let arg12 : BitVec 32 := Scf.iv c0_i32_26 c1_i32_28 k0_t2
  let v190 : BitVec 32 := Scalar.addi c50_i32_114 arg12
  let v191 : Index := Scalar.indexCast v190
  let c240 : Index := 240#32
  ![v191.toNat, 240]
@[reducible] def k0_t3_loop : Scf.Loop 32 :=
  let c0_i32_40 : BitVec 32 := 0#32
  let c50_i32_41 : BitVec 32 := 50#32
  let v28 : BitVec 32 := Scalar.addi c0_i32_40 c50_i32_41
  let c1_i32_42 : BitVec 32 := 1#32
  ⟨c0_i32_40, v28, c1_i32_42⟩
def k0_off42 (k0_t3 : Fin k0_t3_loop.trips) (c0_i32_53 : BitVec 32) : Fin 2 → Nat :=
  let c4_i32 : BitVec 32 := 4#32
  let c0_i32_40 : BitVec 32 := 0#32
  let c1_i32_42 : BitVec 32 := 1#32
  let arg12 : BitVec 32 := Scf.iv c0_i32_40 c1_i32_42 k0_t3
  let v35 : BitVec 32 := Scalar.muli c4_i32 arg12
  let v36 : BitVec 32 := Scalar.addi v35 c0_i32_53
  let v37 : Index := Scalar.indexCast v36
  let c0 : Index := 0#32
  ![v37.toNat, 0]
def k0_off43 (k0_t3 : Fin k0_t3_loop.trips) : Fin 2 → Nat :=
  let c100_i32 : BitVec 32 := 100#32
  let c0_i32_40 : BitVec 32 := 0#32
  let c1_i32_42 : BitVec 32 := 1#32
  let arg12 : BitVec 32 := Scf.iv c0_i32_40 c1_i32_42 k0_t3
  let v40 : BitVec 32 := Scalar.addi c100_i32 arg12
  let v41 : Index := Scalar.indexCast v40
  let c0_54 : Index := 0#32
  ![v41.toNat, 0]
def k0_off44 (k0_t3 : Fin k0_t3_loop.trips) (c0_i32_56 : BitVec 32) : Fin 2 → Nat :=
  let c4_i32_55 : BitVec 32 := 4#32
  let c0_i32_40 : BitVec 32 := 0#32
  let c1_i32_42 : BitVec 32 := 1#32
  let arg12 : BitVec 32 := Scf.iv c0_i32_40 c1_i32_42 k0_t3
  let v45 : BitVec 32 := Scalar.muli c4_i32_55 arg12
  let v46 : BitVec 32 := Scalar.addi v45 c0_i32_56
  let v47 : Index := Scalar.indexCast v46
  let c16 : Index := 16#32
  ![v47.toNat, 16]
def k0_off45 (k0_t3 : Fin k0_t3_loop.trips) : Fin 2 → Nat :=
  let c100_i32_57 : BitVec 32 := 100#32
  let c0_i32_40 : BitVec 32 := 0#32
  let c1_i32_42 : BitVec 32 := 1#32
  let arg12 : BitVec 32 := Scf.iv c0_i32_40 c1_i32_42 k0_t3
  let v50 : BitVec 32 := Scalar.addi c100_i32_57 arg12
  let v51 : Index := Scalar.indexCast v50
  let c16_58 : Index := 16#32
  ![v51.toNat, 16]
def k0_off46 (k0_t3 : Fin k0_t3_loop.trips) (c0_i32_60 : BitVec 32) : Fin 2 → Nat :=
  let c4_i32_59 : BitVec 32 := 4#32
  let c0_i32_40 : BitVec 32 := 0#32
  let c1_i32_42 : BitVec 32 := 1#32
  let arg12 : BitVec 32 := Scf.iv c0_i32_40 c1_i32_42 k0_t3
  let v55 : BitVec 32 := Scalar.muli c4_i32_59 arg12
  let v56 : BitVec 32 := Scalar.addi v55 c0_i32_60
  let v57 : Index := Scalar.indexCast v56
  let c32 : Index := 32#32
  ![v57.toNat, 32]
def k0_off47 (k0_t3 : Fin k0_t3_loop.trips) : Fin 2 → Nat :=
  let c100_i32_61 : BitVec 32 := 100#32
  let c0_i32_40 : BitVec 32 := 0#32
  let c1_i32_42 : BitVec 32 := 1#32
  let arg12 : BitVec 32 := Scf.iv c0_i32_40 c1_i32_42 k0_t3
  let v60 : BitVec 32 := Scalar.addi c100_i32_61 arg12
  let v61 : Index := Scalar.indexCast v60
  let c32_62 : Index := 32#32
  ![v61.toNat, 32]
def k0_off48 (k0_t3 : Fin k0_t3_loop.trips) (c0_i32_64 : BitVec 32) : Fin 2 → Nat :=
  let c4_i32_63 : BitVec 32 := 4#32
  let c0_i32_40 : BitVec 32 := 0#32
  let c1_i32_42 : BitVec 32 := 1#32
  let arg12 : BitVec 32 := Scf.iv c0_i32_40 c1_i32_42 k0_t3
  let v65 : BitVec 32 := Scalar.muli c4_i32_63 arg12
  let v66 : BitVec 32 := Scalar.addi v65 c0_i32_64
  let v67 : Index := Scalar.indexCast v66
  let c48 : Index := 48#32
  ![v67.toNat, 48]
def k0_off49 (k0_t3 : Fin k0_t3_loop.trips) : Fin 2 → Nat :=
  let c100_i32_65 : BitVec 32 := 100#32
  let c0_i32_40 : BitVec 32 := 0#32
  let c1_i32_42 : BitVec 32 := 1#32
  let arg12 : BitVec 32 := Scf.iv c0_i32_40 c1_i32_42 k0_t3
  let v70 : BitVec 32 := Scalar.addi c100_i32_65 arg12
  let v71 : Index := Scalar.indexCast v70
  let c48_66 : Index := 48#32
  ![v71.toNat, 48]
def k0_off50 (k0_t3 : Fin k0_t3_loop.trips) : Fin 2 → Nat :=
  let c100_i32_70 : BitVec 32 := 100#32
  let c0_i32_40 : BitVec 32 := 0#32
  let c1_i32_42 : BitVec 32 := 1#32
  let arg12 : BitVec 32 := Scf.iv c0_i32_40 c1_i32_42 k0_t3
  let v80 : BitVec 32 := Scalar.addi c100_i32_70 arg12
  let v81 : Index := Scalar.indexCast v80
  let c64 : Index := 64#32
  ![v81.toNat, 64]
def k0_off51 (k0_t3 : Fin k0_t3_loop.trips) : Fin 2 → Nat :=
  let c100_i32_74 : BitVec 32 := 100#32
  let c0_i32_40 : BitVec 32 := 0#32
  let c1_i32_42 : BitVec 32 := 1#32
  let arg12 : BitVec 32 := Scf.iv c0_i32_40 c1_i32_42 k0_t3
  let v90 : BitVec 32 := Scalar.addi c100_i32_74 arg12
  let v91 : Index := Scalar.indexCast v90
  let c80 : Index := 80#32
  ![v91.toNat, 80]
def k0_off52 (k0_t3 : Fin k0_t3_loop.trips) : Fin 2 → Nat :=
  let c100_i32_78 : BitVec 32 := 100#32
  let c0_i32_40 : BitVec 32 := 0#32
  let c1_i32_42 : BitVec 32 := 1#32
  let arg12 : BitVec 32 := Scf.iv c0_i32_40 c1_i32_42 k0_t3
  let v100 : BitVec 32 := Scalar.addi c100_i32_78 arg12
  let v101 : Index := Scalar.indexCast v100
  let c96 : Index := 96#32
  ![v101.toNat, 96]
def k0_off53 (k0_t3 : Fin k0_t3_loop.trips) : Fin 2 → Nat :=
  let c100_i32_82 : BitVec 32 := 100#32
  let c0_i32_40 : BitVec 32 := 0#32
  let c1_i32_42 : BitVec 32 := 1#32
  let arg12 : BitVec 32 := Scf.iv c0_i32_40 c1_i32_42 k0_t3
  let v110 : BitVec 32 := Scalar.addi c100_i32_82 arg12
  let v111 : Index := Scalar.indexCast v110
  let c112 : Index := 112#32
  ![v111.toNat, 112]
def k0_off54 (k0_t3 : Fin k0_t3_loop.trips) : Fin 2 → Nat :=
  let c100_i32_86 : BitVec 32 := 100#32
  let c0_i32_40 : BitVec 32 := 0#32
  let c1_i32_42 : BitVec 32 := 1#32
  let arg12 : BitVec 32 := Scf.iv c0_i32_40 c1_i32_42 k0_t3
  let v120 : BitVec 32 := Scalar.addi c100_i32_86 arg12
  let v121 : Index := Scalar.indexCast v120
  let c128 : Index := 128#32
  ![v121.toNat, 128]
def k0_off55 (k0_t3 : Fin k0_t3_loop.trips) : Fin 2 → Nat :=
  let c100_i32_90 : BitVec 32 := 100#32
  let c0_i32_40 : BitVec 32 := 0#32
  let c1_i32_42 : BitVec 32 := 1#32
  let arg12 : BitVec 32 := Scf.iv c0_i32_40 c1_i32_42 k0_t3
  let v130 : BitVec 32 := Scalar.addi c100_i32_90 arg12
  let v131 : Index := Scalar.indexCast v130
  let c144 : Index := 144#32
  ![v131.toNat, 144]
def k0_off56 (k0_t3 : Fin k0_t3_loop.trips) : Fin 2 → Nat :=
  let c100_i32_94 : BitVec 32 := 100#32
  let c0_i32_40 : BitVec 32 := 0#32
  let c1_i32_42 : BitVec 32 := 1#32
  let arg12 : BitVec 32 := Scf.iv c0_i32_40 c1_i32_42 k0_t3
  let v140 : BitVec 32 := Scalar.addi c100_i32_94 arg12
  let v141 : Index := Scalar.indexCast v140
  let c160 : Index := 160#32
  ![v141.toNat, 160]
def k0_off57 (k0_t3 : Fin k0_t3_loop.trips) : Fin 2 → Nat :=
  let c100_i32_98 : BitVec 32 := 100#32
  let c0_i32_40 : BitVec 32 := 0#32
  let c1_i32_42 : BitVec 32 := 1#32
  let arg12 : BitVec 32 := Scf.iv c0_i32_40 c1_i32_42 k0_t3
  let v150 : BitVec 32 := Scalar.addi c100_i32_98 arg12
  let v151 : Index := Scalar.indexCast v150
  let c176 : Index := 176#32
  ![v151.toNat, 176]
def k0_off58 (k0_t3 : Fin k0_t3_loop.trips) : Fin 2 → Nat :=
  let c100_i32_101 : BitVec 32 := 100#32
  let c0_i32_40 : BitVec 32 := 0#32
  let c1_i32_42 : BitVec 32 := 1#32
  let arg12 : BitVec 32 := Scf.iv c0_i32_40 c1_i32_42 k0_t3
  let v160 : BitVec 32 := Scalar.addi c100_i32_101 arg12
  let v161 : Index := Scalar.indexCast v160
  let c192 : Index := 192#32
  ![v161.toNat, 192]
def k0_off59 (k0_t3 : Fin k0_t3_loop.trips) : Fin 2 → Nat :=
  let c100_i32_105 : BitVec 32 := 100#32
  let c0_i32_40 : BitVec 32 := 0#32
  let c1_i32_42 : BitVec 32 := 1#32
  let arg12 : BitVec 32 := Scf.iv c0_i32_40 c1_i32_42 k0_t3
  let v170 : BitVec 32 := Scalar.addi c100_i32_105 arg12
  let v171 : Index := Scalar.indexCast v170
  let c208 : Index := 208#32
  ![v171.toNat, 208]
def k0_off60 (k0_t3 : Fin k0_t3_loop.trips) : Fin 2 → Nat :=
  let c100_i32_109 : BitVec 32 := 100#32
  let c0_i32_40 : BitVec 32 := 0#32
  let c1_i32_42 : BitVec 32 := 1#32
  let arg12 : BitVec 32 := Scf.iv c0_i32_40 c1_i32_42 k0_t3
  let v180 : BitVec 32 := Scalar.addi c100_i32_109 arg12
  let v181 : Index := Scalar.indexCast v180
  let c224 : Index := 224#32
  ![v181.toNat, 224]
def k0_off61 (k0_t3 : Fin k0_t3_loop.trips) : Fin 2 → Nat :=
  let c100_i32_113 : BitVec 32 := 100#32
  let c0_i32_40 : BitVec 32 := 0#32
  let c1_i32_42 : BitVec 32 := 1#32
  let arg12 : BitVec 32 := Scf.iv c0_i32_40 c1_i32_42 k0_t3
  let v190 : BitVec 32 := Scalar.addi c100_i32_113 arg12
  let v191 : Index := Scalar.indexCast v190
  let c240 : Index := 240#32
  ![v191.toNat, 240]
@[reducible] def k0_t4_loop : Scf.Loop 32 :=
  let c0_i32_50 : BitVec 32 := 0#32
  let c46_i32 : BitVec 32 := 46#32
  let v33 : BitVec 32 := Scalar.addi c0_i32_50 c46_i32
  let c1_i32_51 : BitVec 32 := 1#32
  ⟨c0_i32_50, v33, c1_i32_51⟩
def k0_off62 (k0_t4 : Fin k0_t4_loop.trips) (c0_i32_53 : BitVec 32) : Fin 2 → Nat :=
  let c4_i32 : BitVec 32 := 4#32
  let c0_i32_50 : BitVec 32 := 0#32
  let c1_i32_51 : BitVec 32 := 1#32
  let arg12 : BitVec 32 := Scf.iv c0_i32_50 c1_i32_51 k0_t4
  let v35 : BitVec 32 := Scalar.muli c4_i32 arg12
  let v36 : BitVec 32 := Scalar.addi v35 c0_i32_53
  let v37 : Index := Scalar.indexCast v36
  let c0 : Index := 0#32
  ![v37.toNat, 0]
def k0_off63 (k0_t4 : Fin k0_t4_loop.trips) : Fin 2 → Nat :=
  let c150_i32 : BitVec 32 := 150#32
  let c0_i32_50 : BitVec 32 := 0#32
  let c1_i32_51 : BitVec 32 := 1#32
  let arg12 : BitVec 32 := Scf.iv c0_i32_50 c1_i32_51 k0_t4
  let v40 : BitVec 32 := Scalar.addi c150_i32 arg12
  let v41 : Index := Scalar.indexCast v40
  let c0_54 : Index := 0#32
  ![v41.toNat, 0]
def k0_off64 (k0_t4 : Fin k0_t4_loop.trips) (c0_i32_56 : BitVec 32) : Fin 2 → Nat :=
  let c4_i32_55 : BitVec 32 := 4#32
  let c0_i32_50 : BitVec 32 := 0#32
  let c1_i32_51 : BitVec 32 := 1#32
  let arg12 : BitVec 32 := Scf.iv c0_i32_50 c1_i32_51 k0_t4
  let v45 : BitVec 32 := Scalar.muli c4_i32_55 arg12
  let v46 : BitVec 32 := Scalar.addi v45 c0_i32_56
  let v47 : Index := Scalar.indexCast v46
  let c16 : Index := 16#32
  ![v47.toNat, 16]
def k0_off65 (k0_t4 : Fin k0_t4_loop.trips) : Fin 2 → Nat :=
  let c150_i32_57 : BitVec 32 := 150#32
  let c0_i32_50 : BitVec 32 := 0#32
  let c1_i32_51 : BitVec 32 := 1#32
  let arg12 : BitVec 32 := Scf.iv c0_i32_50 c1_i32_51 k0_t4
  let v50 : BitVec 32 := Scalar.addi c150_i32_57 arg12
  let v51 : Index := Scalar.indexCast v50
  let c16_58 : Index := 16#32
  ![v51.toNat, 16]
def k0_off66 (k0_t4 : Fin k0_t4_loop.trips) (c0_i32_60 : BitVec 32) : Fin 2 → Nat :=
  let c4_i32_59 : BitVec 32 := 4#32
  let c0_i32_50 : BitVec 32 := 0#32
  let c1_i32_51 : BitVec 32 := 1#32
  let arg12 : BitVec 32 := Scf.iv c0_i32_50 c1_i32_51 k0_t4
  let v55 : BitVec 32 := Scalar.muli c4_i32_59 arg12
  let v56 : BitVec 32 := Scalar.addi v55 c0_i32_60
  let v57 : Index := Scalar.indexCast v56
  let c32 : Index := 32#32
  ![v57.toNat, 32]
def k0_off67 (k0_t4 : Fin k0_t4_loop.trips) : Fin 2 → Nat :=
  let c150_i32_61 : BitVec 32 := 150#32
  let c0_i32_50 : BitVec 32 := 0#32
  let c1_i32_51 : BitVec 32 := 1#32
  let arg12 : BitVec 32 := Scf.iv c0_i32_50 c1_i32_51 k0_t4
  let v60 : BitVec 32 := Scalar.addi c150_i32_61 arg12
  let v61 : Index := Scalar.indexCast v60
  let c32_62 : Index := 32#32
  ![v61.toNat, 32]
def k0_off68 (k0_t4 : Fin k0_t4_loop.trips) (c0_i32_64 : BitVec 32) : Fin 2 → Nat :=
  let c4_i32_63 : BitVec 32 := 4#32
  let c0_i32_50 : BitVec 32 := 0#32
  let c1_i32_51 : BitVec 32 := 1#32
  let arg12 : BitVec 32 := Scf.iv c0_i32_50 c1_i32_51 k0_t4
  let v65 : BitVec 32 := Scalar.muli c4_i32_63 arg12
  let v66 : BitVec 32 := Scalar.addi v65 c0_i32_64
  let v67 : Index := Scalar.indexCast v66
  let c48 : Index := 48#32
  ![v67.toNat, 48]
def k0_off69 (k0_t4 : Fin k0_t4_loop.trips) : Fin 2 → Nat :=
  let c150_i32_65 : BitVec 32 := 150#32
  let c0_i32_50 : BitVec 32 := 0#32
  let c1_i32_51 : BitVec 32 := 1#32
  let arg12 : BitVec 32 := Scf.iv c0_i32_50 c1_i32_51 k0_t4
  let v70 : BitVec 32 := Scalar.addi c150_i32_65 arg12
  let v71 : Index := Scalar.indexCast v70
  let c48_66 : Index := 48#32
  ![v71.toNat, 48]
def k0_off70 (k0_t4 : Fin k0_t4_loop.trips) : Fin 2 → Nat :=
  let c150_i32_70 : BitVec 32 := 150#32
  let c0_i32_50 : BitVec 32 := 0#32
  let c1_i32_51 : BitVec 32 := 1#32
  let arg12 : BitVec 32 := Scf.iv c0_i32_50 c1_i32_51 k0_t4
  let v80 : BitVec 32 := Scalar.addi c150_i32_70 arg12
  let v81 : Index := Scalar.indexCast v80
  let c64 : Index := 64#32
  ![v81.toNat, 64]
def k0_off71 (k0_t4 : Fin k0_t4_loop.trips) : Fin 2 → Nat :=
  let c150_i32_74 : BitVec 32 := 150#32
  let c0_i32_50 : BitVec 32 := 0#32
  let c1_i32_51 : BitVec 32 := 1#32
  let arg12 : BitVec 32 := Scf.iv c0_i32_50 c1_i32_51 k0_t4
  let v90 : BitVec 32 := Scalar.addi c150_i32_74 arg12
  let v91 : Index := Scalar.indexCast v90
  let c80 : Index := 80#32
  ![v91.toNat, 80]
def k0_off72 (k0_t4 : Fin k0_t4_loop.trips) : Fin 2 → Nat :=
  let c150_i32_78 : BitVec 32 := 150#32
  let c0_i32_50 : BitVec 32 := 0#32
  let c1_i32_51 : BitVec 32 := 1#32
  let arg12 : BitVec 32 := Scf.iv c0_i32_50 c1_i32_51 k0_t4
  let v100 : BitVec 32 := Scalar.addi c150_i32_78 arg12
  let v101 : Index := Scalar.indexCast v100
  let c96 : Index := 96#32
  ![v101.toNat, 96]
def k0_off73 (k0_t4 : Fin k0_t4_loop.trips) : Fin 2 → Nat :=
  let c150_i32_82 : BitVec 32 := 150#32
  let c0_i32_50 : BitVec 32 := 0#32
  let c1_i32_51 : BitVec 32 := 1#32
  let arg12 : BitVec 32 := Scf.iv c0_i32_50 c1_i32_51 k0_t4
  let v110 : BitVec 32 := Scalar.addi c150_i32_82 arg12
  let v111 : Index := Scalar.indexCast v110
  let c112 : Index := 112#32
  ![v111.toNat, 112]
def k0_off74 (k0_t4 : Fin k0_t4_loop.trips) : Fin 2 → Nat :=
  let c150_i32_86 : BitVec 32 := 150#32
  let c0_i32_50 : BitVec 32 := 0#32
  let c1_i32_51 : BitVec 32 := 1#32
  let arg12 : BitVec 32 := Scf.iv c0_i32_50 c1_i32_51 k0_t4
  let v120 : BitVec 32 := Scalar.addi c150_i32_86 arg12
  let v121 : Index := Scalar.indexCast v120
  let c128 : Index := 128#32
  ![v121.toNat, 128]
def k0_off75 (k0_t4 : Fin k0_t4_loop.trips) : Fin 2 → Nat :=
  let c150_i32_90 : BitVec 32 := 150#32
  let c0_i32_50 : BitVec 32 := 0#32
  let c1_i32_51 : BitVec 32 := 1#32
  let arg12 : BitVec 32 := Scf.iv c0_i32_50 c1_i32_51 k0_t4
  let v130 : BitVec 32 := Scalar.addi c150_i32_90 arg12
  let v131 : Index := Scalar.indexCast v130
  let c144 : Index := 144#32
  ![v131.toNat, 144]
def k0_off76 (k0_t4 : Fin k0_t4_loop.trips) : Fin 2 → Nat :=
  let c150_i32_94 : BitVec 32 := 150#32
  let c0_i32_50 : BitVec 32 := 0#32
  let c1_i32_51 : BitVec 32 := 1#32
  let arg12 : BitVec 32 := Scf.iv c0_i32_50 c1_i32_51 k0_t4
  let v140 : BitVec 32 := Scalar.addi c150_i32_94 arg12
  let v141 : Index := Scalar.indexCast v140
  let c160 : Index := 160#32
  ![v141.toNat, 160]
def k0_off77 (k0_t4 : Fin k0_t4_loop.trips) : Fin 2 → Nat :=
  let c150_i32_98 : BitVec 32 := 150#32
  let c0_i32_50 : BitVec 32 := 0#32
  let c1_i32_51 : BitVec 32 := 1#32
  let arg12 : BitVec 32 := Scf.iv c0_i32_50 c1_i32_51 k0_t4
  let v150 : BitVec 32 := Scalar.addi c150_i32_98 arg12
  let v151 : Index := Scalar.indexCast v150
  let c176 : Index := 176#32
  ![v151.toNat, 176]
def k0_off78 (k0_t4 : Fin k0_t4_loop.trips) : Fin 2 → Nat :=
  let c150_i32_101 : BitVec 32 := 150#32
  let c0_i32_50 : BitVec 32 := 0#32
  let c1_i32_51 : BitVec 32 := 1#32
  let arg12 : BitVec 32 := Scf.iv c0_i32_50 c1_i32_51 k0_t4
  let v160 : BitVec 32 := Scalar.addi c150_i32_101 arg12
  let v161 : Index := Scalar.indexCast v160
  let c192 : Index := 192#32
  ![v161.toNat, 192]
def k0_off79 (k0_t4 : Fin k0_t4_loop.trips) : Fin 2 → Nat :=
  let c150_i32_105 : BitVec 32 := 150#32
  let c0_i32_50 : BitVec 32 := 0#32
  let c1_i32_51 : BitVec 32 := 1#32
  let arg12 : BitVec 32 := Scf.iv c0_i32_50 c1_i32_51 k0_t4
  let v170 : BitVec 32 := Scalar.addi c150_i32_105 arg12
  let v171 : Index := Scalar.indexCast v170
  let c208 : Index := 208#32
  ![v171.toNat, 208]
def k0_off80 (k0_t4 : Fin k0_t4_loop.trips) : Fin 2 → Nat :=
  let c150_i32_109 : BitVec 32 := 150#32
  let c0_i32_50 : BitVec 32 := 0#32
  let c1_i32_51 : BitVec 32 := 1#32
  let arg12 : BitVec 32 := Scf.iv c0_i32_50 c1_i32_51 k0_t4
  let v180 : BitVec 32 := Scalar.addi c150_i32_109 arg12
  let v181 : Index := Scalar.indexCast v180
  let c224 : Index := 224#32
  ![v181.toNat, 224]
def k0_off81 (k0_t4 : Fin k0_t4_loop.trips) : Fin 2 → Nat :=
  let c150_i32_113 : BitVec 32 := 150#32
  let c0_i32_50 : BitVec 32 := 0#32
  let c1_i32_51 : BitVec 32 := 1#32
  let arg12 : BitVec 32 := Scf.iv c0_i32_50 c1_i32_51 k0_t4
  let v190 : BitVec 32 := Scalar.addi c150_i32_113 arg12
  let v191 : Index := Scalar.indexCast v190
  let c240 : Index := 240#32
  ![v191.toNat, 240]
def k0_off82 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_53_r1 : BitVec 32 := 0#32
  let c0_i32_54_r1 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S2048x64 : Shape := ⟨2, ![2048, 64]⟩
abbrev S32x196x4 : Shape := ⟨3, ![32, 196, 4]⟩
abbrev S_ : Shape := ⟨0, ![]⟩
abbrev S32x196x4x1 : Shape := ⟨4, ![32, 196, 4, 1]⟩
abbrev S32x196x4x64 : Shape := ⟨4, ![32, 196, 4, 64]⟩
abbrev S32x196x256 : Shape := ⟨3, ![32, 196, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S32x196x4, .i32⟩
  | .hbm, ⟨2, _⟩ => ⟨S_, .i32⟩
  | .hbm, ⟨3, _⟩ => ⟨S32x196x4, .i32⟩
  | .hbm, ⟨4, _⟩ => ⟨S32x196x4, .i1⟩
  | .hbm, ⟨5, _⟩ => ⟨S_, .i32⟩
  | .hbm, ⟨6, _⟩ => ⟨S32x196x4, .i32⟩
  | .hbm, ⟨7, _⟩ => ⟨S32x196x4, .i32⟩
  | .hbm, ⟨8, _⟩ => ⟨S32x196x4, .i32⟩
  | .hbm, ⟨9, _⟩ => ⟨S32x196x4x1, .i32⟩
  | .hbm, ⟨10, _⟩ => ⟨S32x196x4x64, .f32⟩
  | .hbm, ⟨11, _⟩ => ⟨S32x196x256, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.RowCopy.lean ====
/-
  Copying a row of a scratch buffer piece by piece: a piece is loaded from the source, the destination's own piece is
  loaded (its value is not used), and the piece is stored. This module states the copy once, for any two buffers of
  rank 2 and any list of pieces, and proves what the destination holds afterwards.
-/
module

public import Idealize.ShloMosaic.Lib.SparseCore.Ops
public import Idealize.ShloMosaic.Lib.Pipeline.Value
public import Idealize.ShloMosaic.Lib.Writes
public import Idealize.ShloMosaic.Lib.Tactic

@[expose] public section

noncomputable section

namespace Cert.Proof.RowCopy

open Idealize.ShloMosaic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]
variable {Ix : Type} [DecidableEq Ix] {Name : Type} [DecidableEq Name] {U : Type} [URA U] {Lvl : Type} [Preorder Lvl]
variable {dS dD dt : Fin 2 → ℕ} {v : Shape} {e : EltTy}

/-- A piece of shape `dt`: where it lies in the source and where in the destination. -/
structure Piece (dS dD dt : Fin 2 → ℕ) where
  offS : Fin 2 → ℕ
  inbS : ∀ a, offS a + dt a ≤ (⟨2, dS⟩ : Shape).size a
  offD : Fin 2 → ℕ
  inbD : ∀ a, offD a + dt a ≤ (⟨2, dD⟩ : Shape).size a

abbrev Piece.rS (p : Piece dS dD dt) : Rect ⟨2, dS⟩ := Rect.unit (s := ⟨2, dS⟩) p.offS dt p.inbS
abbrev Piece.rD (p : Piece dS dD dt) : Rect ⟨2, dD⟩ := Rect.unit (s := ⟨2, dD⟩) p.offD dt p.inbD

section Prog

variable (p : Proc τ) (src : Memref sig p.kind .vmem ⟨2, dS⟩ .f32) (dst : Memref sig p.kind .vmem ⟨2, dD⟩ .f32)
  (hpos : 0 < (⟨2, dt⟩ : Shape).numel) (h₁ : (⟨2, dt⟩ : Shape).ShapeCasts v) (h₂ : v.ShapeCasts ⟨2, dt⟩)

/-- One piece copied. -/
def copyPiece (x : Piece dS dD dt) : Prog (TpuEff nD τ sig (Elt F) Λ p) PUnit := do
  let w : Vec F ⟨2, dt⟩ .f32 ← Prog.lift (.load src x.rS.toLoadRect (View.loadsAt_vmem hpos))
  let _ : Vec F ⟨2, dt⟩ .f32 ← Prog.lift (.load dst x.rD.toLoadRect (View.loadsAt_vmem hpos))
  Prog.lift (.store dst x.rD (shapeCast ⟨2, dt⟩ (shapeCast v w h₁) h₂) Finset.univ (View.stores_vmem_bits_univ hpos rfl) (.inl rfl))

/-- The pieces of a list copied, one after the other. -/
def copyAll : List (Piece dS dD dt) → Prog (TpuEff nD τ sig (Elt F) Λ p) PUnit
  | [] => pure ⟨⟩
  | x :: l => copyPiece p src dst hpos h₁ h₂ x >>= fun _ => copyAll l

end Prog

variable {defs : Defs nD τ sig (Elt F) Λ} (𝒱 : Variants) (c : Thread nD τ) (bd : Option 𝒱.V)

local notation "𝕄" => MT nD τ sig Ix (Elt F) Name U Lvl

variable (src : Memref sig c.2.kind .vmem ⟨2, dS⟩ .f32) (dst : Memref sig c.2.kind .vmem ⟨2, dD⟩ .f32)
  (hpos : 0 < (⟨2, dt⟩ : Shape).numel) (h₁ : (⟨2, dt⟩ : Shape).ShapeCasts v) (h₂ : v.ShapeCasts ⟨2, dt⟩)
  {g : Buf (Elt F) (src.view.loc c)} {W : (⟨2, dD⟩ : Shape).Idx → Elt F .f32}

/-- The piece of the source is what `W` asks of the destination's piece. -/
def Fits (g : Buf (Elt F) (src.view.loc c)) (W : (⟨2, dD⟩ : Shape).Idx → Elt F .f32) (x : Piece dS dD dt) : Prop :=
  ∀ j : (⟨2, dt⟩ : Shape).Idx, src.view.read (Elt F) g (x.rS.emb j) = W (x.rD.emb j)

variable {c src dst}

/-- One piece stored: the destination agrees with `W` where it did before, and on the piece. -/
theorem agree_store {A : (⟨2, dD⟩ : Shape).Idx → Prop} {f : Buf (Elt F) (dst.view.loc c)} {x : Piece dS dD dt}
    (hA : ∀ y, A y → dst.view.read (Elt F) f y = W y) (w : (⟨2, dt⟩ : Shape).Idx → Elt F .f32) (hw : ∀ j, w j = W (x.rD.emb j))
    (y : (⟨2, dD⟩ : Shape).Idx) (hy : A y ∨ y ∈ x.rD.set) :
    dst.view.read (Elt F) ((dst.access x.rD).write (Elt F) f w Finset.univ) y = W y := by
  by_cases hm : y ∈ Finset.univ.map x.rD.emb
  · obtain ⟨j, -, rfl⟩ := Finset.mem_map.mp hm
    exact (View.read_slice_write_emb (v := dst.view) x.rD f w (Finset.mem_univ j)).trans (hw j)
  · refine (View.read_slice_write_of_not_mem (v := dst.view) x.rD f w Finset.univ hm).trans (hA y (hy.resolve_right ?_))
    rwa [Rect.map_emb_univ] at hm

/-- The pieces of `l` copied: the source is as it was, and the destination agrees with `W` where it did before and on
    every piece of `l`. -/
theorem wp_copyAll {B : (⟨2, dD⟩ : Shape).Idx → Prop} (l : List (Piece dS dD dt)) {A : (⟨2, dD⟩ : Shape).Idx → Prop}
    (hl : ∀ x ∈ l, Fits c src g W x) (f : Buf (Elt F) (dst.view.loc c)) (hA : ∀ y, A y → dst.view.read (Elt F) f y = W y)
    (hB : ∀ y, B y → A y ∨ ∃ x ∈ l, y ∈ x.rD.set) :
    iprop((src.view.loc c ↦{fullShare} g) ∗ (dst.view.loc c ↦{fullShare} f))
      ⊢ (wp frame (wpE defs 𝒱 c bd) Set.univ (copyAll c.2 src dst hpos h₁ h₂ l)
          fun _ => iprop((src.view.loc c ↦{fullShare} g)
            ∗ ∃ f', ⌜∀ y, B y → dst.view.read (Elt F) f' y = W y⌝ ∗ (dst.view.loc c ↦{fullShare} f')) : sProp 𝕄) := by
  induction l generalizing A f with
  | nil =>
    unfold copyAll
    iintro ⟨Hs, Hd⟩
    simp only [wp_pure]
    imodintro
    isplitl [Hs]; · iexact Hs
    iexists f; isplitr
    · ipureintro; intro y hy
      rcases hB y hy with hy | ⟨_, hx, _⟩
      · exact hA y hy
      · exact absurd hx List.not_mem_nil
    · iexact Hd
  | cons x l ih =>
    unfold copyAll copyPiece
    iintro ⟨Hs, Hd⟩
    iapply (wp_load_rect 𝒱 c bd Set.univ (m := src) (r := x.rS) (Finset.subset_univ _)) $$ Hs
    iintro Hs
    iapply (wp_load_rect 𝒱 c bd Set.univ (m := dst) (r := x.rD) (Finset.subset_univ _)) $$ Hd
    iintro Hd
    iapply (wp_store 𝒱 c bd Set.univ (m := dst) (r := x.rD) (Finset.subset_univ _)) $$ Hd
    iintro Hd
    iapply (ih (A := fun y => A y ∨ y ∈ x.rD.set) (fun x hx => hl x (List.mem_cons_of_mem _ hx)) _
      (agree_store (x := x) hA _ (fun j => (congrFun (shapeCast_shapeCast ((src.access x.rS).read (Elt F) g) h₁ h₂) j).trans (hl x List.mem_cons_self j)))
      (fun y hy => by
        rcases hB y hy with hy | ⟨z, hz, hy⟩
        · exact .inl (.inl hy)
        · rcases List.mem_cons.mp hz with rfl | hz
          · exact .inl (.inr hy)
          · exact .inr ⟨z, hz, hy⟩)) $$ [Hs Hd]
    isplitl [Hs]; · iexact Hs
    iexact Hd

end Cert.Proof.RowCopy

end
-- ==== Proof.GatherSpec.lean ====
/-
  What the gather computes, as functions of a padded table and a flat list of row numbers: row `n` of the table, word `n`
  of the list, and the result whose entry at (batch, token, column) is the table's entry at the row that the list names
  for the token's block of 64 columns.
-/
module

public import Idealize.ShloMosaic.Lib.SparseCore.Stream
public import Idealize.ShloMosaic.Lib.Writes

@[expose] public section

noncomputable section

namespace Cert.Proof.GatherSpec

open Idealize.ShloMosaic

variable {α : Type}

abbrev STab : Shape := ⟨2, ![2048, 128]⟩
abbrev SIx : Shape := ⟨1, ![25088]⟩
abbrev SOut : Shape := ⟨3, ![32, 196, 256]⟩

/-- Entry `c` of row `n` of the padded table (numbers out of range wrap around). -/
def row (t : STab.Idx → α) (n c : ℕ) : α :=
  t (Shape.pair (d := ![2048, 128]) ⟨n % 2048, Nat.mod_lt _ (by decide)⟩ ⟨c % 128, Nat.mod_lt _ (by decide)⟩)

/-- The index of the list's word `n`. -/
def at1 {d : Fin 1 → ℕ} (n : ℕ) (h : n < d 0) : (⟨1, d⟩ : Shape).Idx := fun | ⟨0, _⟩ => ⟨n, h⟩

/-- Word `n` of the list. -/
def word (ix : SIx.Idx → BitVec 32) (n : ℕ) : BitVec 32 := ix (at1 (n % 25088) (Nat.mod_lt _ (by decide)))

/-- Entry (token, column) of slab `w` of the result: the four 64-wide blocks of a token are the rows that four
    successive words of the list name. -/
def slab (t : STab.Idx → α) (ix : SIx.Idx → BitVec 32) (w tok col : ℕ) : α :=
  row t (word ix (784 * w + (4 * tok + col / 64))).toNat (col % 64)

/-- The whole result. -/
def gathered (t : STab.Idx → α) (ix : SIx.Idx → BitVec 32) : SOut.Idx → α :=
  fun y => slab t ix (y 0).val (y 1).val (y 2).val

theorem row_of_lt (t : STab.Idx → α) (y : STab.Idx) {n c : ℕ} (hn : n = (y 0).val) (hc : c = (y 1).val) : row t n c = t y := by
  subst hn hc
  refine congrArg t ?_
  rw [← Shape.pair_eta y]
  congr 1
  · exact Fin.ext (Nat.mod_eq_of_lt (y 0).isLt)
  · exact Fin.ext (Nat.mod_eq_of_lt (y 1).isLt)

theorem word_of_lt (ix : SIx.Idx → BitVec 32) (y : SIx.Idx) {n : ℕ} (hn : n = (y 0).val) : word ix n = ix y := by
  subst hn
  refine congrArg ix ?_
  funext a
  match a with
  | ⟨0, _⟩ => exact Fin.ext (Nat.mod_eq_of_lt (y 0).isLt)

/-- A gather of `R` rows of the table: row `y 0` of the payload is the table's row that the list's word `y 0` names. -/
theorem gatherPayload_eq {F : FTy → Type} {R : ℕ} (hg : STab.Gathers 0 ⟨2, ![R, 128]⟩) (t : STab.Idx → Elt F .f32)
    (l : (⟨1, ![R]⟩ : Shape).Idx → Elt F .i32) (hn : (⟨1, ![R]⟩ : Shape).numel = (⟨2, ![R, 128]⟩ : Shape).size hg.axis')
    (hin : ∀ x, (l x).toNat < STab.size hg.axis) (y : (⟨2, ![R, 128]⟩ : Shape).Idx) :
    SparseCore.gatherPayload (F := F) (e := .f32) hg t (SparseCore.rows l hn hin) y = row t (l (at1 (d := ![R]) (y 0).val (y 0).isLt)).toNat (y 1).val := by
  unfold SparseCore.gatherPayload
  refine (row_of_lt t _ ?_ ?_).symm
  · have h0 := congrArg Fin.val (hg.idx_axis (SparseCore.rows l hn hin) y)
    refine Eq.trans ?_ h0.symm
    show _ = (l _).toNat
    congr 2
    symm
    rw [Equiv.symm_apply_eq]
    apply Fin.ext
    rw [Shape.rowMajor_val_one]
    rfl
  · exact (hg.idx_of_ne (SparseCore.rows l hn hin) y 1 (by decide)).symm

end Cert.Proof.GatherSpec

end
-- ==== Proof.GatherSteps.lean ====
/-
  The steps of the gather's task on one vector subcore, for any two programs that spell them alike: a gather of a chunk of
  the table's rows into a scratch buffer started and waited for, and the loop that copies each row's first 64 entries into
  the result block.
-/
module

public import proofs.«01_k».proof.Proof.RowCopy
public import proofs.«01_k».proof.Proof.GatherSpec
public import Idealize.ShloMosaic.Lib.SparseCore.Stream
public import Idealize.ShloMosaic.Lib.Transfers

@[expose] public section

noncomputable section

namespace Cert.Proof.GatherSteps

open Cert.Proof.RowCopy Cert.Proof.GatherSpec

open Idealize.ShloMosaic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]
variable {Ix : Type} [DecidableEq Ix] {Name : Type} [DecidableEq Name] {U : Type} [URA U] {Lvl : Type} [Preorder Lvl]

local notation "𝕄" => MT nD τ sig Ix (Elt F) Name U Lvl

abbrev SBuf : Shape := ⟨2, ![200, 128]⟩
abbrev SBlk : Shape := ⟨2, ![196, 256]⟩
abbrev SLst : Shape := ⟨1, ![784]⟩

abbrev Pc : Type := Piece ![200, 128] ![196, 256] ![1, 16]

/-- Where the pieces of trip `k` lie in a loop whose first token is `o`. -/
def Places (o k : ℕ) (l : List Pc) : Prop :=
  l.map (fun p => ((p.offS 0, p.offS 1), (p.offD 0, p.offD 1)))
    = (List.range 16).map fun n => ((4 * k + n / 4, 16 * (n % 4)), (o + k, 16 * n))

instance (o k : ℕ) (l : List Pc) : Decidable (Places o k l) := inferInstanceAs (Decidable (_ = _))

/-! ## What a trip copies -/

theorem Places.offs {o k : ℕ} {l : List Pc} (h : Places o k l) {x : Pc} (hx : x ∈ l) :
    ∃ n < 16, x.offS 0 = 4 * k + n / 4 ∧ x.offS 1 = 16 * (n % 4) ∧ x.offD 0 = o + k ∧ x.offD 1 = 16 * n := by
  have := List.mem_map_of_mem (f := fun p : Pc => ((p.offS 0, p.offS 1), (p.offD 0, p.offD 1))) hx
  rw [show l.map _ = _ from h] at this
  obtain ⟨n, hn, e⟩ := List.mem_map.mp this
  simp only [Prod.mk.injEq] at e
  exact ⟨n, List.mem_range.mp hn, e.1.1.symm, e.1.2.symm, e.2.1.symm, e.2.2.symm⟩

theorem Places.piece {o k : ℕ} {l : List Pc} (h : Places o k l) {n : ℕ} (hn : n < 16) :
    ∃ x ∈ l, x.offD 0 = o + k ∧ x.offD 1 = 16 * n := by
  have := List.mem_map_of_mem (f := fun n => ((4 * k + n / 4, 16 * (n % 4)), (o + k, 16 * n))) (List.mem_range.mpr hn)
  rw [← show l.map _ = _ from h] at this
  obtain ⟨x, hx, e⟩ := List.mem_map.mp this
  simp only [Prod.mk.injEq] at e
  exact ⟨x, hx, e.2.1, e.2.2⟩

/-- Row `r < R` of a gathered chunk that starts at token `o` of slab `w` is the table's row that the list's word names. -/
def Chunk (t : STab.Idx → Elt F .f32) (ix : SIx.Idx → BitVec 32) (w o R : ℕ) (g : SBuf.Idx → Elt F .f32) : Prop :=
  ∀ y : SBuf.Idx, (y 0).val < R → g y = row t (word ix (784 * w + (4 * o + (y 0).val))).toNat (y 1).val

/-- The tokens below `n` of slab `w`'s block are done. -/
def Done (t : STab.Idx → Elt F .f32) (ix : SIx.Idx → BitVec 32) (w n : ℕ) (f : SBlk.Idx → Elt F .f32) : Prop :=
  ∀ y : SBlk.Idx, (y 0).val < n → f y = slab t ix w (y 0).val (y 1).val

section Trip

variable {t : STab.Idx → Elt F .f32} {ix : SIx.Idx → BitVec 32} {w : ℕ}
variable (c : Thread nD τ) (src : Memref sig c.2.kind .vmem SBuf .f32) (dst : Memref sig c.2.kind .vmem SBlk .f32)
variable {defs : Defs nD τ sig (Elt F) Λ} (𝒱 : Variants) (bd : Option 𝒱.V)

theorem fits {o k R : ℕ} {l : List Pc} (hP : Places o k l) (hR : 4 * k + 3 < R) {g : Buf (Elt F) (src.view.loc c)}
    (hg : Chunk t ix w o R (src.view.read (Elt F) g)) : ∀ x ∈ l, Fits c src g (fun y : SBlk.Idx => slab t ix w (y 0).val (y 1).val) x := by
  intro x hx j
  obtain ⟨n, hn, h0, h1, h2, h3⟩ := hP.offs hx
  have j0 : (j 0).val < 1 := (j 0).isLt
  have j1 : (j 1).val < 16 := (j 1).isLt
  have e0 : (x.rS.emb j 0).val = x.offS 0 + 1 * (j 0).val := rfl
  have e1 : (x.rS.emb j 1).val = x.offS 1 + 1 * (j 1).val := rfl
  have e2 : (x.rD.emb j 0).val = x.offD 0 + 1 * (j 0).val := rfl
  have e3 : (x.rD.emb j 1).val = x.offD 1 + 1 * (j 1).val := rfl
  refine (hg (x.rS.emb j) (by omega)).trans ?_
  show _ = slab t ix w _ _
  unfold slab
  congr 1
  · congr 2; omega
  · omega

theorem covers {o k : ℕ} {l : List Pc} (hP : Places o k l) (y : SBlk.Idx) (hy : (y 0).val < o + (k + 1)) :
    (y 0).val < o + k ∨ ∃ x ∈ l, y ∈ x.rD.set := by
  by_cases h : (y 0).val < o + k
  · exact .inl h
  have y1 : (y 1).val < 256 := (y 1).isLt
  obtain ⟨x, hx, h0, h1⟩ := hP.piece (n := (y 1).val / 16) (by omega)
  refine .inr ⟨x, hx, x.rD.mem_set.mpr fun a => ?_⟩
  match a with
  | ⟨0, _⟩ => exact ⟨0, Nat.zero_lt_one, by show (y 0).val = x.offD 0 + 1 * 0; omega⟩
  | ⟨1, _⟩ => exact ⟨(y 1).val % 16, by show _ < 16; omega, by show (y 1).val = x.offD 1 + 1 * ((y 1).val % 16); omega⟩

/-- What the loop over a chunk keeps: the chunk's buffer, and the block with the tokens below `o + k` done. -/
def TripInv (t : STab.Idx → Elt F .f32) (ix : SIx.Idx → BitVec 32) (w o : ℕ) (g : Buf (Elt F) (src.view.loc c)) (k : ℕ) (_ : BitVec 32) : sProp 𝕄 :=
  iprop((src.view.loc c ↦{fullShare} g) ∗ ∃ f, ⌜Done t ix w (o + k) (dst.view.read (Elt F) f)⌝ ∗ (dst.view.loc c ↦{fullShare} f))

/-- One trip: one more token done. -/
theorem trip (hpos : 0 < (⟨2, ![1, 16]⟩ : Shape).numel) {v : Shape} (h₁ : (⟨2, ![1, 16]⟩ : Shape).ShapeCasts v) (h₂ : v.ShapeCasts ⟨2, ![1, 16]⟩) {o k R : ℕ} {l : List Pc} (hP : Places o k l) (hR : 4 * k + 3 < R) {g : Buf (Elt F) (src.view.loc c)}
    (hg : Chunk t ix w o R (src.view.read (Elt F) g)) (acc : BitVec 32) :
    (TripInv c src dst t ix w o g k acc : sProp 𝕄)
      ⊢ wp frame (wpE defs 𝒱 c bd) Set.univ
          (copyAll c.2 src dst hpos h₁ h₂ l >>= fun _ => pure 0#32) (TripInv c src dst t ix w o g (k + 1)) := by
  rw [wp_bind]
  unfold TripInv
  iintro ⟨Hs, %f, %hf, Hd⟩
  iapply (wp_mono frame _ _ fun _ => ?_)
  rotate_left
  · iapply (wp_copyAll 𝒱 bd hpos h₁ h₂ (A := fun y => (y 0).val < o + k)
      (B := fun y => (y 0).val < o + (k + 1)) l (fits c src hP hR hg) f hf (covers hP)) $$ [Hs Hd]
    isplitl [Hs] <;> iassumption
  · rw [wp_pure]
    iintro ⟨Hs, %f', %hf', Hd⟩
    imodintro
    isplitl [Hs]; · iexact Hs
    iexists f'; isplitr
    · ipureintro; exact hf'
    · iexact Hd

end Trip

/-! ## A chunk gathered -/

section Chunk

variable (EC : UEmb Counters (MT nD τ sig Ix (Elt F) Name U Lvl))
variable (c : Thread nD τ) {defs : Defs nD τ sig (Elt F) Λ} (𝒱 : Variants) (bd : Option 𝒱.V) {α : Type} {Q : α → sProp (MT nD τ sig Ix (Elt F) Name U Lvl)}

/-- A transfer in flight on `sem` that, waited for, brings `B`. -/
def Pending (sem : DmaSem sig) (ι : Ix) (N : ℕ) (B : sProp 𝕄) : sProp 𝕄 :=
  iprop(∃ D : sProp 𝕄, Transfers.Flight EC c (.dma sem) ι N D ∗ (D -∗ B))

variable (tab : Memref sig c.2.kind .hbm STab .f32) (buf : Memref sig c.2.kind .vmem SBuf .f32) (lst : Memref sig c.2.kind .vmem SLst .i32)

/-- What a chunk's gather brings: the buffer with the chunk's rows, and the shares of the table and of the list. -/
def Back (q q' : PosShare TreeShare) (tb : Buf (Elt F) (tab.view.loc c)) (s : Buf (Elt F) (lst.view.loc c)) (ix : SIx.Idx → BitVec 32) (w o R : ℕ) : sProp 𝕄 :=
  iprop((∃ g, ⌜Chunk (tab.view.read (Elt F) tb) ix w o R (buf.view.read (Elt F) g)⌝ ∗ (buf.view.loc c ↦{fullShare} g))
    ∗ (tab.view.loc c ↦{q} tb) ∗ (lst.view.loc c ↦{q'} s))

abbrev tabR (inbT : ∀ a, (![0, 0] : Fin 2 → ℕ) a + STab.size a ≤ STab.size a) : Memref sig c.2.kind .hbm STab .f32 :=
  tab.slice (Rect.unit (s := STab) ![0, 0] STab.size inbT) (fun _ => rfl)
abbrev bufR {R : ℕ} (inbB : ∀ a, (![0, 0] : Fin 2 → ℕ) a + (![R, 128] : Fin 2 → ℕ) a ≤ SBuf.size a) : Memref sig c.2.kind .vmem ⟨2, ![R, 128]⟩ .f32 :=
  buf.slice (Rect.unit (s := SBuf) ![0, 0] ![R, 128] inbB) (fun _ => rfl)
abbrev lstR {R o4 : ℕ} (inbL : ∀ a, (![o4] : Fin 1 → ℕ) a + (![R] : Fin 1 → ℕ) a ≤ SLst.size a) : Memref sig c.2.kind .vmem ⟨1, ![R]⟩ .i32 :=
  lst.slice (Rect.unit (s := SLst) ![o4] ![R] inbL) (fun _ => rfl)

/-- The gather of `R` rows, from word `o4` of the list on, leaves the chunk of token `o4 / 4` in the buffer. -/
theorem chunk_write {R o4 o w : ℕ} (ho : o4 = 4 * o) (inbT : ∀ a, (![0, 0] : Fin 2 → ℕ) a + STab.size a ≤ STab.size a)
    (inbB : ∀ a, (![0, 0] : Fin 2 → ℕ) a + (![R, 128] : Fin 2 → ℕ) a ≤ SBuf.size a)
    (inbL : ∀ a, (![o4] : Fin 1 → ℕ) a + (![R] : Fin 1 → ℕ) a ≤ SLst.size a)
    (hg : STab.Gathers 0 ⟨2, ![R, 128]⟩) (hn : (⟨1, ![R]⟩ : Shape).numel = (⟨2, ![R, 128]⟩ : Shape).size hg.axis')
    {tb : Buf (Elt F) (tab.view.loc c)} {s : Buf (Elt F) (lst.view.loc c)} {f : Buf (Elt F) (buf.view.loc c)} {ix : SIx.Idx → BitVec 32}
    (hs : ∀ j, lst.view.read (Elt F) s j = word ix (784 * w + (j 0).val))
    (hin : ∀ x, ((lstR c lst inbL).view.read (Elt F) s x).toNat < STab.size hg.axis) :
    Chunk (tab.view.read (Elt F) tb) ix w o R (buf.view.read (Elt F) ((bufR c buf inbB).view.write (Elt F) f
      (SparseCore.gatherPayload hg ((tabR c tab inbT).view.read (Elt F) tb) (SparseCore.rows ((lstR c lst inbL).view.read (Elt F) s) hn hin)) Finset.univ)) := by
  intro y hy
  let z : (⟨2, ![R, 128]⟩ : Shape).Idx := Shape.pair (d := ![R, 128]) ⟨(y 0).val, hy⟩ ⟨(y 1).val, (y 1).isLt⟩
  have e : y = (Rect.unit (s := SBuf) ![0, 0] ![R, 128] inbB).emb z := by
    funext a
    match a with
    | ⟨0, _⟩ => exact Fin.ext (by show (y 0).val = 0 + 1 * (y 0).val; omega)
    | ⟨1, _⟩ => exact Fin.ext (by show (y 1).val = 0 + 1 * (y 1).val; omega)
  conv_lhs => rw [e]
  refine (View.read_slice_write_emb (v := buf.view) (Rect.unit (s := SBuf) ![0, 0] ![R, 128] inbB) f _ (Finset.mem_univ z)).trans ?_
  refine (gatherPayload_eq hg _ _ hn hin z).trans ?_
  have ht : (tabR c tab inbT).view.read (Elt F) tb = tab.view.read (Elt F) tb := by
    funext x
    have ex : (Rect.unit (s := STab) ![0, 0] STab.size inbT).emb x = x := by
      funext a
      match a with
      | ⟨0, _⟩ => exact Fin.ext (by show 0 + 1 * (x 0).val = (x 0).val; omega)
      | ⟨1, _⟩ => exact Fin.ext (by show 0 + 1 * (x 1).val = (x 1).val; omega)
    exact congrArg (tab.view.read (Elt F) tb) ex
  rw [ht]
  congr 2
  refine (hs ((Rect.unit (s := SLst) ![o4] ![R] inbL).emb (at1 (d := ![R]) (z 0).val (z 0).isLt))).trans ?_
  congr 2
  show o4 + 1 * (y 0).val = _
  omega

/-- A chunk's gather started. -/
theorem wp_start [Infinite Name] [EC.LandsIn (upEmb : UEmb _ 𝕄)] {R o4 o w : ℕ} (ho : o4 = 4 * o)
    (inbT : ∀ a, (![0, 0] : Fin 2 → ℕ) a + STab.size a ≤ STab.size a)
    (inbB : ∀ a, (![0, 0] : Fin 2 → ℕ) a + (![R, 128] : Fin 2 → ℕ) a ≤ SBuf.size a)
    (inbL : ∀ a, (![o4] : Fin 1 → ℕ) a + (![R] : Fin 1 → ℕ) a ≤ SLst.size a)
    {hg : STab.Gathers 0 ⟨2, ![R, 128]⟩} {hn : (⟨1, ![R]⟩ : Shape).numel = (⟨2, ![R, 128]⟩ : Shape).size hg.axis'} {sem : DmaSem sig}
    {hp : c.2.kind = .scVector} {hsrc : (tabR c tab inbT).view.WordExact} {he : (EltTy.f32 : EltTy).bits = 32} {hsp : (Space.hbm = .hbm ∨ Space.hbm = .shared)} {hr : STab.StreamRows 0}
    {k : PUnit → Prog (TpuEff nD τ sig (Elt F) Λ c.2) α} {q q' : PosShare TreeShare}
    {tb : Buf (Elt F) (tab.view.loc c)} {s : Buf (Elt F) (lst.view.loc c)} {f : Buf (Elt F) (buf.view.loc c)} {ix : SIx.Idx → BitVec 32}
    (ι : Ix) (hN : ∑ j, ((bufR c buf inbB).slice ((⟨2, ![R, 128]⟩ : Shape).rowRect hg.axis' j) ((⟨2, ![R, 128]⟩ : Shape).stride_rowRect hg.axis' j)).view.dmaCredit
      = (bufR c buf inbB).view.dmaCredit) (hpos : 0 < (⟨2, ![R, 128]⟩ : Shape).numel)
    (hs : ∀ j, lst.view.read (Elt F) s j = word ix (784 * w + (j 0).val)) (hix : ∀ n, (word ix n).toNat < 2048) :
    iprop((tab.view.loc c ↦{q} tb) ∗ (lst.view.loc c ↦{q'} s) ∗ (buf.view.loc c ↦{fullShare} f) ∗ semVal (c, SemLoc.dma sem) 0)
      ⊢ iprop((Pending EC c sem ι (bufR c buf inbB).view.dmaCredit (Back c tab buf lst q q' tb s ix w o R) -∗ wp frame (wpE defs 𝒱 c bd) Set.univ (k ⟨⟩) Q)
          -∗ wp frame (wpE defs 𝒱 c bd) Set.univ
            (SparseCore.enqueueIndirectGather hp (tabR c tab inbT) (bufR c buf inbB) hg (lstR c lst inbL) hn sem hsrc he hsp hr >>= k) Q) := by
  have hin : ∀ x, ((lstR c lst inbL).view.read (Elt F) s x).toNat < STab.size hg.axis := by
    intro x
    have e := hs ((Rect.unit (s := SLst) ![o4] ![R] inbL).emb x)
    rw [show (lstR c lst inbL).view.read (Elt F) s x = _ from e]
    exact hix _
  iintro ⟨Ht, Hl, Hb, Hsem⟩ Hk
  ihave Ht2 := (pointsTo_split_subset (q := q) (f := tb) (S := Finset.univ) (Finset.subset_univ (tabR c tab inbT).view.set)).1 $$ Ht
  icases Ht2 with ⟨Ht, Htr⟩
  ihave Hl2 := (pointsTo_split_subset (q := q') (f := s) (S := Finset.univ) (Finset.subset_univ (lstR c lst inbL).view.set)).1 $$ Hl
  icases Hl2 with ⟨Hl, Hlr⟩
  ihave Hb2 := (pointsTo_split_subset (q := fullShare) (f := f) (S := Finset.univ) (Finset.subset_univ (bufR c buf inbB).view.set)).1 $$ Hb
  icases Hb2 with ⟨Hb, Hbr⟩
  iapply (SparseCore.wp_indirectGatherLocal EC 𝒱 c bd (src := tabR c tab inbT) (dst := bufR c buf inbB) (offs := lstR c lst inbL) (hg := hg) (hn := hn) ι _ hN hpos hin) $$ [Ht Hl Hb Hsem]
  · isplitl [Ht]; · iexact Ht
    isplitl [Hb]; · iexact Hb
    isplitl [Hl]; · iexact Hl
    iexact Hsem
  iintro Hfl
  iapply Hk
  unfold Pending
  iexists _
  isplitl [Hfl]; · iexact Hfl
  iintro ⟨Hb, Ht, Hl⟩
  unfold Back
  isplitl [Hb Hbr]
  · iexists _
    isplitr
    · ipureintro
      exact chunk_write c tab buf lst ho inbT inbB inbL hg hn (f := f) hs hin
    · iapply (pointsTo_split_subset (q := fullShare) (S := Finset.univ) (Finset.subset_univ (bufR c buf inbB).view.set)).2
      isplitl [Hb]; · iexact Hb
      iapply (Entails.of_eq (pointsTo_congr fun i hi => (View.write_of_not_mem _ _ _ (by
        have := (Finset.mem_sdiff.mp hi).2
        rwa [← View.setOn_univ] at this)).symm)) $$ Hbr
  isplitl [Ht Htr]
  · iapply (pointsTo_split_subset (q := q) (f := tb) (S := Finset.univ) (Finset.subset_univ (tabR c tab inbT).view.set)).2
    isplitl [Ht] <;> iassumption
  · iapply (pointsTo_split_subset (q := q') (f := s) (S := Finset.univ) (Finset.subset_univ (lstR c lst inbL).view.set)).2
    isplitl [Hl] <;> iassumption

/-- What is pending, waited for. -/
theorem wp_end [EC.LandsIn (upEmb : UEmb _ 𝕄)] {sp sp' : Space} {sh sh' : Shape} {e e' : EltTy} {κ' : Kind} {sem : DmaSem sig}
    {srcw : Memref sig c.2.kind sp' sh' e'} {dstw : Memref sig κ' sp sh e} {hsrc : srcw.view.WordExact} {hdst : dstw.view.WordExact}
    {k : PUnit → Prog (TpuEff nD τ sig (Elt F) Λ c.2) α} (ι : Ix) {B : sProp 𝕄} {O : CellTallies nD τ sig Ix} {W : Waits sig Ix} :
    iprop(Pending EC c sem ι dstw.view.dmaCredit B ∗ owes c O W ∗ MayWait c (.dma sem) ι O)
      ⊢ iprop((iprop(B ∗ semVal (c, .dma sem) 0 ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold Pending
  iintro ⟨⟨%D, Hfl, HD⟩, HO, Hmw⟩ Hk
  iapply (Transfers.wp_waitLocalO EC 𝒱 c bd ι rfl) $$ [Hfl HO Hmw]
  · isplitl [Hfl]; · iexact Hfl
    isplitl [HO] <;> iassumption
  iintro ⟨Hd, Hs, HO⟩
  iapply Hk
  isplitl [HD Hd]; · iapply HD; iexact Hd
  isplitl [Hs] <;> iassumption

end Chunk

end Cert.Proof.GatherSteps

end
-- ==== Proof.GatherTile.lean ====
/-
  The gather kernel's task on one vector subcore: it fetches its 784 row numbers, gathers the table's rows in four chunks
  into two scratch buffers, copies each row's first 64 entries into its 196×256 result block, and writes that out.
-/
module

public import proofs.«01_k».proof.Proof.GatherSteps
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen
open Cert.Proof.RowCopy Cert.Proof.GatherSpec Cert.Proof.GatherSteps

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UU : Type := UH × Counters

local notation "𝕄" => MT nD τ sig (HIx 1) (Elt F) ℕ UU ℕ
abbrev tV : Memref Cert.GatherIdeal.sig Kind.scVector Space.hbm Cert.GatherIdeal.S2048x128 EltTy.f32 := Memref.whole Cert.GatherIdeal.main_v0_scv
abbrev iV : Memref Cert.GatherIdeal.sig Kind.scVector Space.hbm Cert.GatherIdeal.S25088 EltTy.i32 := Memref.whole Cert.GatherIdeal.main_v1_scv
abbrev oV : Memref Cert.GatherIdeal.sig Kind.scVector Space.hbm Cert.GatherIdeal.S32x196x256 EltTy.f32 := Memref.whole Cert.GatherIdeal.main_v2_scv
abbrev sV : Memref Cert.GatherIdeal.sig Kind.scVector Space.vmem Cert.GatherIdeal.S784 EltTy.i32 := Memref.whole Cert.GatherIdeal.cc0_scratch0
abbrev aV : Memref Cert.GatherIdeal.sig Kind.scVector Space.vmem Cert.GatherIdeal.S200x128 EltTy.f32 := Memref.whole Cert.GatherIdeal.cc0_scratch1
abbrev bV : Memref Cert.GatherIdeal.sig Kind.scVector Space.vmem Cert.GatherIdeal.S200x128 EltTy.f32 := Memref.whole Cert.GatherIdeal.cc0_scratch2
abbrev cV : Memref Cert.GatherIdeal.sig Kind.scVector Space.vmem Cert.GatherIdeal.S196x256 EltTy.f32 := Memref.whole Cert.GatherIdeal.cc0_scratch3

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The sixteen pieces of trip `k` of the first loop: for each of a token's four rows the four pieces of its first 64 entries. -/
def pieces1 (k : Fin k0_t1_loop.trips) : List Pc :=
  [⟨k0_off2 k 0#32, k0_off2_inb k 0, k0_off3 k, k0_off3_inb k⟩, ⟨k0_off4 k 0#32, k0_off4_inb k 0, k0_off5 k, k0_off5_inb k⟩,
   ⟨k0_off6 k 0#32, k0_off6_inb k 0, k0_off7 k, k0_off7_inb k⟩, ⟨k0_off8 k 0#32, k0_off8_inb k 0, k0_off9 k, k0_off9_inb k⟩,
   ⟨k0_off2 k 1#32, k0_off2_inb k 1, k0_off10 k, k0_off10_inb k⟩, ⟨k0_off4 k 1#32, k0_off4_inb k 1, k0_off11 k, k0_off11_inb k⟩,
   ⟨k0_off6 k 1#32, k0_off6_inb k 1, k0_off12 k, k0_off12_inb k⟩, ⟨k0_off8 k 1#32, k0_off8_inb k 1, k0_off13 k, k0_off13_inb k⟩,
   ⟨k0_off2 k 2#32, k0_off2_inb k 2, k0_off14 k, k0_off14_inb k⟩, ⟨k0_off4 k 2#32, k0_off4_inb k 2, k0_off15 k, k0_off15_inb k⟩,
   ⟨k0_off6 k 2#32, k0_off6_inb k 2, k0_off16 k, k0_off16_inb k⟩, ⟨k0_off8 k 2#32, k0_off8_inb k 2, k0_off17 k, k0_off17_inb k⟩,
   ⟨k0_off2 k 3#32, k0_off2_inb k 3, k0_off18 k, k0_off18_inb k⟩, ⟨k0_off4 k 3#32, k0_off4_inb k 3, k0_off19 k, k0_off19_inb k⟩,
   ⟨k0_off6 k 3#32, k0_off6_inb k 3, k0_off20 k, k0_off20_inb k⟩, ⟨k0_off8 k 3#32, k0_off8_inb k 3, k0_off21 k, k0_off21_inb k⟩]

/-- The pieces of trip `k` of the second loop. -/
def pieces2 (k : Fin k0_t2_loop.trips) : List Pc :=
  [⟨k0_off22 k 0#32, k0_off22_inb k 0, k0_off23 k, k0_off23_inb k⟩, ⟨k0_off24 k 0#32, k0_off24_inb k 0, k0_off25 k, k0_off25_inb k⟩,
   ⟨k0_off26 k 0#32, k0_off26_inb k 0, k0_off27 k, k0_off27_inb k⟩, ⟨k0_off28 k 0#32, k0_off28_inb k 0, k0_off29 k, k0_off29_inb k⟩,
   ⟨k0_off22 k 1#32, k0_off22_inb k 1, k0_off30 k, k0_off30_inb k⟩, ⟨k0_off24 k 1#32, k0_off24_inb k 1, k0_off31 k, k0_off31_inb k⟩,
   ⟨k0_off26 k 1#32, k0_off26_inb k 1, k0_off32 k, k0_off32_inb k⟩, ⟨k0_off28 k 1#32, k0_off28_inb k 1, k0_off33 k, k0_off33_inb k⟩,
   ⟨k0_off22 k 2#32, k0_off22_inb k 2, k0_off34 k, k0_off34_inb k⟩, ⟨k0_off24 k 2#32, k0_off24_inb k 2, k0_off35 k, k0_off35_inb k⟩,
   ⟨k0_off26 k 2#32, k0_off26_inb k 2, k0_off36 k, k0_off36_inb k⟩, ⟨k0_off28 k 2#32, k0_off28_inb k 2, k0_off37 k, k0_off37_inb k⟩,
   ⟨k0_off22 k 3#32, k0_off22_inb k 3, k0_off38 k, k0_off38_inb k⟩, ⟨k0_off24 k 3#32, k0_off24_inb k 3, k0_off39 k, k0_off39_inb k⟩,
   ⟨k0_off26 k 3#32, k0_off26_inb k 3, k0_off40 k, k0_off40_inb k⟩, ⟨k0_off28 k 3#32, k0_off28_inb k 3, k0_off41 k, k0_off41_inb k⟩]

/-- The pieces of trip `k` of the third loop. -/
def pieces3 (k : Fin k0_t3_loop.trips) : List Pc :=
  [⟨k0_off42 k 0#32, k0_off42_inb k 0, k0_off43 k, k0_off43_inb k⟩, ⟨k0_off44 k 0#32, k0_off44_inb k 0, k0_off45 k, k0_off45_inb k⟩,
   ⟨k0_off46 k 0#32, k0_off46_inb k 0, k0_off47 k, k0_off47_inb k⟩, ⟨k0_off48 k 0#32, k0_off48_inb k 0, k0_off49 k, k0_off49_inb k⟩,
   ⟨k0_off42 k 1#32, k0_off42_inb k 1, k0_off50 k, k0_off50_inb k⟩, ⟨k0_off44 k 1#32, k0_off44_inb k 1, k0_off51 k, k0_off51_inb k⟩,
   ⟨k0_off46 k 1#32, k0_off46_inb k 1, k0_off52 k, k0_off52_inb k⟩, ⟨k0_off48 k 1#32, k0_off48_inb k 1, k0_off53 k, k0_off53_inb k⟩,
   ⟨k0_off42 k 2#32, k0_off42_inb k 2, k0_off54 k, k0_off54_inb k⟩, ⟨k0_off44 k 2#32, k0_off44_inb k 2, k0_off55 k, k0_off55_inb k⟩,
   ⟨k0_off46 k 2#32, k0_off46_inb k 2, k0_off56 k, k0_off56_inb k⟩, ⟨k0_off48 k 2#32, k0_off48_inb k 2, k0_off57 k, k0_off57_inb k⟩,
   ⟨k0_off42 k 3#32, k0_off42_inb k 3, k0_off58 k, k0_off58_inb k⟩, ⟨k0_off44 k 3#32, k0_off44_inb k 3, k0_off59 k, k0_off59_inb k⟩,
   ⟨k0_off46 k 3#32, k0_off46_inb k 3, k0_off60 k, k0_off60_inb k⟩, ⟨k0_off48 k 3#32, k0_off48_inb k 3, k0_off61 k, k0_off61_inb k⟩]

/-- The pieces of trip `k` of the fourth loop. -/
def pieces4 (k : Fin k0_t4_loop.trips) : List Pc :=
  [⟨k0_off62 k 0#32, k0_off62_inb k 0, k0_off63 k, k0_off63_inb k⟩, ⟨k0_off64 k 0#32, k0_off64_inb k 0, k0_off65 k, k0_off65_inb k⟩,
   ⟨k0_off66 k 0#32, k0_off66_inb k 0, k0_off67 k, k0_off67_inb k⟩, ⟨k0_off68 k 0#32, k0_off68_inb k 0, k0_off69 k, k0_off69_inb k⟩,
   ⟨k0_off62 k 1#32, k0_off62_inb k 1, k0_off70 k, k0_off70_inb k⟩, ⟨k0_off64 k 1#32, k0_off64_inb k 1, k0_off71 k, k0_off71_inb k⟩,
   ⟨k0_off66 k 1#32, k0_off66_inb k 1, k0_off72 k, k0_off72_inb k⟩, ⟨k0_off68 k 1#32, k0_off68_inb k 1, k0_off73 k, k0_off73_inb k⟩,
   ⟨k0_off62 k 2#32, k0_off62_inb k 2, k0_off74 k, k0_off74_inb k⟩, ⟨k0_off64 k 2#32, k0_off64_inb k 2, k0_off75 k, k0_off75_inb k⟩,
   ⟨k0_off66 k 2#32, k0_off66_inb k 2, k0_off76 k, k0_off76_inb k⟩, ⟨k0_off68 k 2#32, k0_off68_inb k 2, k0_off77 k, k0_off77_inb k⟩,
   ⟨k0_off62 k 3#32, k0_off62_inb k 3, k0_off78 k, k0_off78_inb k⟩, ⟨k0_off64 k 3#32, k0_off64_inb k 3, k0_off79 k, k0_off79_inb k⟩,
   ⟨k0_off66 k 3#32, k0_off66_inb k 3, k0_off80 k, k0_off80_inb k⟩, ⟨k0_off68 k 3#32, k0_off68_inb k 3, k0_off81 k, k0_off81_inb k⟩]

theorem places1 : ∀ k : Fin k0_t1_loop.trips, Places 0 k.val (pieces1 k) := by decide +kernel
theorem places2 : ∀ k : Fin k0_t2_loop.trips, Places 50 k.val (pieces2 k) := by decide +kernel
theorem places3 : ∀ k : Fin k0_t3_loop.trips, Places 100 k.val (pieces3 k) := by decide +kernel
theorem places4 : ∀ k : Fin k0_t4_loop.trips, Places 150 k.val (pieces4 k) := by decide +kernel

variable [FloatOps F]

/-- The vector subcore that runs the task at grid point `L`. -/
abbrev pV (L : grid0.Coords) : Proc τ := .scVector ((L 0).castLE hcore0) ((L 1).castLE hsub0)

section Loops

variable (L : grid0.Coords)

set_option maxRecDepth 65536 in
theorem body1_eq (k : Fin k0_t1_loop.trips) (acc : BitVec 32) :
    k0_t1_body (F := F) L tV (Memref.isWhole_whole _) iV (Memref.isWhole_whole _) oV (Memref.isWhole_whole _) sV (Memref.isWhole_whole _)
        aV (Memref.isWhole_whole _) bV (Memref.isWhole_whole _) cV (Memref.isWhole_whole _) cc0_scratch4 cc0_scratch5 cc0_scratch6 cc0_scoped0 cc0_scoped1 k acc
      = (copyAll (pV L) aV cV h_S1x16 shapeCasts_S1x16_S16 shapeCasts_S16_S1x16 (pieces1 k) >>= fun _ => pure 0#32) := rfl

set_option maxRecDepth 65536 in
theorem body2_eq (k : Fin k0_t2_loop.trips) (acc : BitVec 32) :
    k0_t2_body (F := F) L tV (Memref.isWhole_whole _) iV (Memref.isWhole_whole _) oV (Memref.isWhole_whole _) sV (Memref.isWhole_whole _)
        aV (Memref.isWhole_whole _) bV (Memref.isWhole_whole _) cV (Memref.isWhole_whole _) cc0_scratch4 cc0_scratch5 cc0_scratch6 cc0_scoped0 cc0_scoped1 k acc
      = (copyAll (pV L) bV cV h_S1x16 shapeCasts_S1x16_S16 shapeCasts_S16_S1x16 (pieces2 k) >>= fun _ => pure 0#32) := rfl

set_option maxRecDepth 65536 in
theorem body3_eq (k : Fin k0_t3_loop.trips) (acc : BitVec 32) :
    k0_t3_body (F := F) L tV (Memref.isWhole_whole _) iV (Memref.isWhole_whole _) oV (Memref.isWhole_whole _) sV (Memref.isWhole_whole _)
        aV (Memref.isWhole_whole _) bV (Memref.isWhole_whole _) cV (Memref.isWhole_whole _) cc0_scratch4 cc0_scratch5 cc0_scratch6 cc0_scoped0 cc0_scoped1 k acc
      = (copyAll (pV L) aV cV h_S1x16 shapeCasts_S1x16_S16 shapeCasts_S16_S1x16 (pieces3 k) >>= fun _ => pure 0#32) := rfl

set_option maxRecDepth 65536 in
theorem body4_eq (k : Fin k0_t4_loop.trips) (acc : BitVec 32) :
    k0_t4_body (F := F) L tV (Memref.isWhole_whole _) iV (Memref.isWhole_whole _) oV (Memref.isWhole_whole _) sV (Memref.isWhole_whole _)
        aV (Memref.isWhole_whole _) bV (Memref.isWhole_whole _) cV (Memref.isWhole_whole _) cc0_scratch4 cc0_scratch5 cc0_scratch6 cc0_scoped0 cc0_scoped1 k acc
      = (copyAll (pV L) bV cV h_S1x16 shapeCasts_S1x16_S16 shapeCasts_S16_S1x16 (pieces4 k) >>= fun _ => pure 0#32) := rfl

end Loops

/-! ## The arrays and their slabs -/

abbrev tLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

theorem idiv : 32 ∣ S25088.size 0 := ⟨784, rfl⟩
theorem odiv : 32 ∣ S32x196x256.size 0 := ⟨1, rfl⟩
/-- Slab `w` of the row numbers (784 words), and of the result (one batch). -/
abbrev iSlab (w : Fin 32) : Finset S25088.Idx := (Rect.part (s := S25088) (a₀ := 0) idiv w).set
abbrev oSlab (w : Fin 32) : Finset S32x196x256.Idx := (Rect.part (s := S32x196x256) (a₀ := 0) odiv w).set

section Tile

variable (d : Dev nD) (L : grid0.Coords)

/-- The slab of the task at grid point `L`. -/
def wid (L : grid0.Coords) : Fin 32 :=
  ⟨2 * (L 1).val + (L 0).val, by have h0 : (L 0).val < 2 := (L 0).isLt; have h1 : (L 1).val < 16 := (L 1).isLt; omega⟩

abbrev thr (d : Dev nD) (L : grid0.Coords) : Thread nD τ := V d ((L 0).castLE hcore0) ((L 1).castLE hsub0)

abbrev iRectK (L : grid0.Coords) : Rect S25088 := Rect.unit (s := S25088) (k0_off1 L) S784.size (k0_off1_inb L)
abbrev oRectK (L : grid0.Coords) : Rect S32x196x256 := Rect.unit (s := S32x196x256) (k0_off82 L) S1x196x256.size (k0_off82_inb L)
abbrev iSlabK (L : grid0.Coords) : Memref sig .scVector .hbm S784 .i32 := (iV).slice (iRectK L) (fun _ => rfl)
abbrev oSlabK (L : grid0.Coords) : Memref sig .scVector .hbm S196x256 .f32 := ((oV).slice (oRectK L) (fun _ => rfl)).squeeze S196x256 squeezes_S1x196x256_S196x256

omit [FloatOps F] in
theorem iRectK_eq : iRectK L = Rect.part (s := S25088) (a₀ := 0) idiv (wid L) := by
  unfold iRectK Rect.part Rect.block
  congr 1 <;> funext a
  · rw [k0_off1_eq]
    match a with
    | 0 => simp [Shape.partIx, Shape.partSize, wid]; omega
  · match a with
    | 0 => simp [Shape.partSize]
omit [FloatOps F] in
theorem oRectK_eq : oRectK L = Rect.part (s := S32x196x256) (a₀ := 0) odiv (wid L) := by
  unfold oRectK Rect.part Rect.block
  congr 1 <;> funext a
  · rw [k0_off82_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_congr {s : Shape} {r r' : Rect s} (h : r = r') : r.set = r'.set := by rw [h]
omit [FloatOps F] in
theorem set_iSlabK : (iSlabK L).view.set = iSlab (wid L) := by
  show ((View.whole (main_v1_scv : Ref sig .scVector)).slice (iRectK L)).set = _
  rw [View.set_slice_whole]; exact set_congr (iRectK_eq L)
omit [FloatOps F] in
theorem set_oSlabK : (oSlabK L).view.set = oSlab (wid L) := by
  show (((View.whole (main_v2_scv : Ref sig .scVector)).slice (oRectK L)).reshape S196x256 squeezes_S1x196x256_S196x256.numel_eq).set = _
  rw [View.set_reshape, View.set_slice_whole]; exact set_congr (oRectK_eq L)

omit [FloatOps F] in
theorem pts_iSlabK (f : Buf (Elt F) (iLoc d)) :
    ((iSlabK L).view.loc (thr d L) ↦[(iSlabK L).view.set]{fullShare} f : sProp 𝕄) = iLoc d ↦[iSlab (wid L)]{fullShare} f := by
  rw [set_iSlabK]
omit [FloatOps F] in
theorem pts_oSlabK (f : Buf (Elt F) (oLoc d)) :
    ((oSlabK L).view.loc (thr d L) ↦[(oSlabK L).view.set]{fullShare} f : sProp 𝕄) = oLoc d ↦[oSlab (wid L)]{fullShare} f := by
  rw [set_oSlabK]

/-- The fetched list: word `j` of the scratch is word `784 · wid + j` of the row numbers. -/
theorem fetched (ib : S25088.Idx → Elt F .i32) (fs : S784.Idx → Elt F .i32) (j : S784.Idx) :
    (sV).view.read (Elt F) ((sV).view.write (Elt F) fs ((iSlabK L).view.read (Elt F) ib) Finset.univ) j = word ib (784 * (wid L).val + (j 0).val) := by
  rw [View.write_whole_univ]
  simp only [Memref.view_whole, View.read_whole]
  refine ((View.read_apply _ _).trans (cast_eq _ _)).trans (word_of_lt ib _ ?_).symm
  show _ = k0_off1 L 0 + 1 * (j 0).val
  rw [k0_off1_eq]
  show 784 * (2 * (L 1).val + (L 0).val) + (j 0).val = 1568 * (L 1).val + 784 * (L 0).val + 1 * (j 0).val
  omega

/-- The block written out: the result's slab is the gathered one. -/
theorem written (t : STab.Idx → Elt F .f32) (ix : SIx.Idx → BitVec 32) (f : S196x256.Idx → Elt F .f32) (hf : Done t ix (wid L).val 196 f)
    (ob : S32x196x256.Idx → Elt F .f32) (i : S32x196x256.Idx) (hi : i ∈ (oSlabK L).view.set) :
    (oSlabK L).view.write (Elt F) ob f Finset.univ i = gathered t ix i := by
  obtain ⟨y, -, rfl⟩ := Finset.mem_map.mp hi
  refine (View.write_emb_of_mem (v := (oSlabK L).view) ob f (Finset.mem_univ y)).trans ((cast_eq _ _).trans ?_)
  rw [hf y (y 0).isLt]
  let x : S1x196x256.Idx := Shape.reshapeEquiv squeezes_S1x196x256_S196x256.numel_eq y
  have hx : (S1x196x256.rowMajor x).val = (S196x256.rowMajor y).val := Shape.rowMajor_reshapeEquiv _ _
  have x0 : (x 0).val < 1 := (x 0).isLt
  have x1 : (x 1).val < 196 := (x 1).isLt
  have x2 : (x 2).val < 256 := (x 2).isLt
  have y1 : (y 1).val < 256 := (y 1).isLt
  rw [Shape.rowMajor_val_three, Shape.rowMajor_val_two] at hx
  change ((x 0).val * 196 + (x 1).val) * 256 + (x 2).val = (y 0).val * 256 + (y 1).val at hx
  show _ = slab t ix (k0_off82 L 0 + 1 * (x 0).val) (k0_off82 L 1 + 1 * (x 1).val) (k0_off82 L 2 + 1 * (x 2).val)
  rw [k0_off82_eq]
  show _ = slab t ix (2 * (L 1).val + (L 0).val + 1 * (x 0).val) (0 + 1 * (x 1).val) (0 + 1 * (x 2).val)
  congr 1
  · show 2 * (L 1).val + (L 0).val = _; omega
  · omega
  · omega

abbrev cell (d : Dev nD) (L : grid0.Coords) (s : DmaSem sig) : GSem nD τ sig := (thr d L, .dma s)

omit [FloatOps F] in
theorem mem_cell (s : DmaSem sig) (h : (SemLoc.dma s : SemLoc sig).isScoped .scVector = true) : cell d L s ∈ ownCells (thr d L) := mem_ownCells.mpr ⟨rfl, h⟩
omit [FloatOps F] in
theorem cell_ne {s s' : DmaSem sig} (h : (SemLoc.dma s' : SemLoc sig) ≠ .dma s) : cell d L s' ≠ cell d L s := fun e => h (congrArg Prod.snd e)

omit [FloatOps F] in
/-- The task's five DMA cells are among the subcore's own. -/
theorem ownSems0_V :
    (ownSems0 (thr d L) : sProp 𝕄)
      = iprop(semVal (cell d L cc0_scratch4.sem) 0 ∗ semVal (cell d L cc0_scratch5.sem) 0 ∗ semVal (cell d L cc0_scratch6.sem) 0
          ∗ semVal (cell d L cc0_scoped0.sem) 0 ∗ semVal (cell d L cc0_scoped1.sem) 0
          ∗ bigSep ((((((ownCells (thr d L)).erase (cell d L cc0_scratch4.sem)).erase (cell d L cc0_scratch5.sem)).erase (cell d L cc0_scratch6.sem)).erase
              (cell d L cc0_scoped0.sem)).erase (cell d L cc0_scoped1.sem)) fun g => semVal g 0) := by
  unfold SparseCore.Cfg.ownSems0
  rw [SparseCore.bigSep_erase' (mem_cell d L cc0_scratch4.sem (by decide)),
    SparseCore.bigSep_erase' (Finset.mem_erase.mpr ⟨cell_ne d L (by decide), mem_cell d L cc0_scratch5.sem (by decide)⟩),
    SparseCore.bigSep_erase' (Finset.mem_erase.mpr ⟨cell_ne d L (by decide), Finset.mem_erase.mpr ⟨cell_ne d L (by decide), mem_cell d L cc0_scratch6.sem (by decide)⟩⟩),
    SparseCore.bigSep_erase' (Finset.mem_erase.mpr ⟨cell_ne d L (by decide), Finset.mem_erase.mpr ⟨cell_ne d L (by decide), Finset.mem_erase.mpr ⟨cell_ne d L (by decide),
      mem_cell d L cc0_scoped0.sem (by decide)⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), mem_cell d L cc0_scoped1.sem (by decide)⟩⟩⟩⟩)]

omit [FloatOps F] in
theorem mem_buf (b : Ref sig .scVector) (h : ((pV L).devRef b).owner = .proc (pV L) := by rfl) : (pV L).devRef b ∈ ownRefs (τ := τ) (pV L) :=
  SparseCore.Cfg.mem_ownRefs_of_owner h
omit [FloatOps F] in
theorem buf_ne {b b' : Ref sig .scVector} (h : b' ≠ b) : (pV L).devRef b' ≠ (pV L).devRef b := fun e => h (Proc.devRef_injective _ e)

omit [FloatOps F] in
/-- The four scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (pV L)).erase ((pV L).devRef cc0_scratch0)).erase ((pV L).devRef cc0_scratch1)).erase ((pV L).devRef cc0_scratch2)).erase
              ((pV L).devRef cc0_scratch3)) fun b => iprop(∃ f, ((d, b) : Loc nD τ sig) ↦{fullShare} f)) := by
  unfold SparseCore.Cfg.ownBufs
  refine (SparseCore.bigSep_erase' (mem_buf L cc0_scratch0)).trans ?_
  rw [SparseCore.bigSep_erase' (Finset.mem_erase.mpr ⟨buf_ne L (by decide), mem_buf L cc0_scratch1⟩),
    SparseCore.bigSep_erase' (Finset.mem_erase.mpr ⟨buf_ne L (by decide), Finset.mem_erase.mpr ⟨buf_ne L (by decide), mem_buf L cc0_scratch2⟩⟩),
    SparseCore.bigSep_erase' (Finset.mem_erase.mpr ⟨buf_ne L (by decide), Finset.mem_erase.mpr ⟨buf_ne L (by decide), Finset.mem_erase.mpr ⟨buf_ne L (by decide),
      mem_buf L cc0_scratch3⟩⟩⟩)]

omit [FloatOps F] in
theorem creditA : ∑ j, (((aV).slice (Rect.unit (s := S200x128) ![0, 0] S200x128.size inb_S200x128_S200x128_0_0) (fun _ => rfl)).slice (S200x128.rowRect gathers_S2048x128_S200x128.axis' j) (S200x128.stride_rowRect gathers_S2048x128_S200x128.axis' j)).view.dmaCredit
    = ((aV).slice (Rect.unit (s := S200x128) ![0, 0] S200x128.size inb_S200x128_S200x128_0_0) (fun _ => rfl)).view.dmaCredit := by decide +kernel
omit [FloatOps F] in
theorem creditB : ∑ j, (((bV).slice (Rect.unit (s := S200x128) ![0, 0] S200x128.size inb_S200x128_S200x128_0_0) (fun _ => rfl)).slice (S200x128.rowRect gathers_S2048x128_S200x128.axis' j) (S200x128.stride_rowRect gathers_S2048x128_S200x128.axis' j)).view.dmaCredit
    = ((bV).slice (Rect.unit (s := S200x128) ![0, 0] S200x128.size inb_S200x128_S200x128_0_0) (fun _ => rfl)).view.dmaCredit := by decide +kernel
omit [FloatOps F] in
theorem creditB' : ∑ j, (((bV).slice (Rect.unit (s := S200x128) ![0, 0] S184x128.size inb_S200x128_S184x128_0_0) (fun _ => rfl)).slice (S184x128.rowRect gathers_S2048x128_S184x128.axis' j) (S184x128.stride_rowRect gathers_S2048x128_S184x128.axis' j)).view.dmaCredit
    = ((bV).slice (Rect.unit (s := S200x128) ![0, 0] S184x128.size inb_S200x128_S184x128_0_0) (fun _ => rfl)).view.dmaCredit := by decide +kernel

set_option maxHeartbeats 4000000 in
/-- The task at grid point `L`: from its slab of the row numbers, a share of the table and its slab of the result, whatever
    that holds, to the same with the result's slab gathered. -/
theorem tile_body (hF : (K (F := F)).Facts) (q : PosShare TreeShare) (tb : Buf (Elt F) (tLoc d)) (ib : Buf (Elt F) (iLoc d)) (ob : Buf (Elt F) (oLoc d))
    (hix : ∀ n, (word (ib : S25088.Idx → BitVec 32) n).toNat < 2048) (O : CellTallies nD τ sig (HIx 1)) (W : Waits sig (HIx 1)) (hO : ∀ g, O g none = 0) :
    iprop(levAts (K (F := F)).L (K (F := F)).lev ∗ emp
        ∗ ((iLoc d ↦[iSlab (wid L)]{fullShare} ib) ∗ (tLoc d ↦{q} tb) ∗ (oLoc d ↦[oSlab (wid L)]{fullShare} ob))
        ∗ scopedBufs (thr d L) ∗ scopedSems0 (thr d L) ∗ owes (thr d L) O W)
      ⊢ (wp frame (wpE (defs₀ (F := F)) 𝒱₀ (thr d L) none) Set.univ
          (cc0__gather_body L tV (Memref.isWhole_whole _) iV (Memref.isWhole_whole _) oV (Memref.isWhole_whole _) sV (Memref.isWhole_whole _)
            aV (Memref.isWhole_whole _) bV (Memref.isWhole_whole _) cV (Memref.isWhole_whole _) cc0_scratch4 cc0_scratch5 cc0_scratch6 cc0_scoped0 cc0_scoped1)
          fun _ => iprop(((iLoc d ↦[iSlab (wid L)]{fullShare} ib) ∗ (tLoc d ↦{q} tb) ∗ (oLoc d ↦[oSlab (wid L)]{fullShare} gathered tb ib))
            ∗ scopedBufs (thr d L) ∗ scopedSems0 (thr d L)
            ∗ ∃ W', ⌜∀ p ∈ W', p ∈ W ∨ p.2 = none⌝ ∗ owes (thr d L) O W') : sProp 𝕄) := by
  simp only [cc0__gather_body_eq_skeleton]; unfold cc0__gather_body_skel
  rw [k0_part17_eq_skeleton, k0_part18_eq_skeleton]
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  iintro ⟨#Hlv, -, ⟨Hi, Ht, Ho⟩, ⟨⟨%fs, Hs⟩, ⟨%fa, Ha⟩, ⟨%fb, Hb⟩, ⟨%fc, Hc⟩, Hbufs⟩, ⟨Hm4, Hm5, Hm6, Hm0, Hm1, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iSlabK (F := F) d L _).symm) $$ Hi
  ihave Ho' := (Entails.of_eq (pts_oSlabK (F := F) d L _).symm) $$ Ho
  ihave Hs' := (Entails.of_eq (show ((thr d L).loc cc0_scratch0 ↦{fullShare} fs : sProp 𝕄) = (sV).view.loc (thr d L) ↦{fullShare} fs from rfl)) $$ Hs
  unfold k0_part17_skel k0_part18_skel
  sl_exec
  have hs : ∀ j, (sV).view.read (Elt F) ((sV).view.write (Elt F) fs (tile_body.sl.dma0 d L ib) Finset.univ) j = word (ib : S25088.Idx → BitVec 32) (784 * (wid L).val + (j 0).val) :=
    fetched L ib fs
  generalize (sV).view.write (Elt F) fs (tile_body.sl.dma0 d L ib) Finset.univ = s at hs
  ihave Ht2 := (pointsTo_share (PosShare.mem_left_op_right q)).1 $$ Ht
  icases Ht2 with ⟨Htl, Htr⟩
  ihave Hs2 := (pointsTo_share (PosShare.mem_left_op_right fullShare)).1 $$ Hs'
  icases Hs2 with ⟨Hsl, Hsr⟩
  -- chunks 0 and 1 started, chunk 0 awaited and copied
  iapply (wp_start countersEmb (thr d L) 𝒱₀ none tV aV sV (o := 0) rfl inb_S2048x128_S2048x128_0_0 inb_S200x128_S200x128_0_0 inb_S784_S200_0 (q := q.left)
    (q' := fullShare.left) (tb := tb) (s := s) (f := fa) (default : HIx 1) creditA (by decide) hs hix) $$ [Htl Hsl Ha Hm4]
  · isplitl [Htl]; · iexact Htl
    isplitl [Hsl]; · iexact Hsl
    isplitl [Ha]; · iexact Ha
    iexact Hm4
  iintro Hpa
  sl_exec
  iapply (wp_start countersEmb (thr d L) 𝒱₀ none tV bV sV (o := 50) rfl inb_S2048x128_S2048x128_0_0 inb_S200x128_S200x128_0_0 inb_S784_S200_200 (q := q.right)
    (q' := fullShare.right) (tb := tb) (s := s) (f := fb) (default : HIx 1) creditB (by decide) hs hix) $$ [Htr Hsr Hb Hm5]
  · isplitl [Htr]; · iexact Htr
    isplitl [Hsr]; · iexact Hsr
    isplitl [Hb]; · iexact Hb
    iexact Hm5
  iintro Hpb
  sl_exec
  iapply (wp_end countersEmb (thr d L) 𝒱₀ none (default : HIx 1)) $$ [Hpa HO]
  · isplitl [Hpa]; · iexact Hpa
    isplitl [HO]; · iexact HO
    iapply (Transfers.MayWaits.elim (SemLoc.dma cc0_scratch4.sem)) $$ Hmw
  try unfold Back
  iintro ⟨⟨⟨%g1, %hg1, Hg1⟩, Htl, Hsl⟩, Hm4, HO⟩
  sl_exec
  rw [bind_assoc]
  iapply (Scf.wp_for_bind _ _ _ _ _ _ _ _ _ (TripInv (thr d L) aV cV tb ib (wid L).val 0 g1) fun k acc => by
      rw [body1_eq]
      exact trip (thr d L) aV cV 𝒱₀ none h_S1x16 shapeCasts_S1x16_S16 shapeCasts_S16_S1x16 (places1 k) (R := 200) (by have : k.val < 50 := k.isLt; omega) hg1 acc) $$ [Hg1 Hc]
  · unfold TripInv
    isplitl [Hg1]; · iexact Hg1
    iexists _; isplitr
    swap; · iexact Hc
    ipureintro; exact fun y hy => absurd hy (Nat.not_lt_zero _)
  unfold TripInv
  iintro %acc ⟨Hg1, %f1, %hf1, Hc⟩
  replace hf1 : Done tb ib (wid L).val 50 ((cV).view.read (Elt F) f1) := hf1
  sl_exec
  -- chunk 2 started, chunk 1 awaited and copied
  iapply (wp_start countersEmb (thr d L) 𝒱₀ none tV aV sV (o := 100) rfl inb_S2048x128_S2048x128_0_0 inb_S200x128_S200x128_0_0 inb_S784_S200_400 (q := q.left)
    (q' := fullShare.left) (tb := tb) (s := s) (f := g1) (default : HIx 1) creditA (by decide) hs hix) $$ [Htl Hsl Hg1 Hm4]
  · isplitl [Htl]; · iexact Htl
    isplitl [Hsl]; · iexact Hsl
    isplitl [Hg1]; · iexact Hg1
    iexact Hm4
  iintro Hpa
  sl_exec
  iapply (wp_end countersEmb (thr d L) 𝒱₀ none (default : HIx 1)) $$ [Hpb HO]
  · isplitl [Hpb]; · iexact Hpb
    isplitl [HO]; · iexact HO
    iapply (Transfers.MayWaits.elim (SemLoc.dma cc0_scratch5.sem)) $$ Hmw
  try unfold Back
  iintro ⟨⟨⟨%g2, %hg2, Hg2⟩, Htr, Hsr⟩, Hm5, HO⟩
  sl_exec
  rw [bind_assoc]
  iapply (Scf.wp_for_bind _ _ _ _ _ _ _ _ _ (TripInv (thr d L) bV cV tb ib (wid L).val 50 g2) fun k acc => by
      rw [body2_eq]
      exact trip (thr d L) bV cV 𝒱₀ none h_S1x16 shapeCasts_S1x16_S16 shapeCasts_S16_S1x16 (places2 k) (R := 200) (by have : k.val < 50 := k.isLt; omega) hg2 acc) $$ [Hg2 Hc]
  · unfold TripInv
    isplitl [Hg2]; · iexact Hg2
    iexists _; isplitr
    swap; · iexact Hc
    ipureintro; exact hf1
  unfold TripInv
  iintro %acc ⟨Hg2, %f2, %hf2, Hc⟩
  replace hf2 : Done tb ib (wid L).val 100 ((cV).view.read (Elt F) f2) := hf2
  sl_exec
  -- chunk 3 started, chunks 2 and 3 awaited and copied
  iapply (wp_start countersEmb (thr d L) 𝒱₀ none tV bV sV (o := 150) rfl inb_S2048x128_S2048x128_0_0 inb_S200x128_S184x128_0_0 inb_S784_S184_600 (q := q.right)
    (q' := fullShare.right) (tb := tb) (s := s) (f := g2) (default : HIx 1) creditB' (by decide) hs hix) $$ [Htr Hsr Hg2 Hm6]
  · isplitl [Htr]; · iexact Htr
    isplitl [Hsr]; · iexact Hsr
    isplitl [Hg2]; · iexact Hg2
    iexact Hm6
  iintro Hpb
  sl_exec
  iapply (wp_end countersEmb (thr d L) 𝒱₀ none (default : HIx 1)) $$ [Hpa HO]
  · isplitl [Hpa]; · iexact Hpa
    isplitl [HO]; · iexact HO
    iapply (Transfers.MayWaits.elim (SemLoc.dma cc0_scratch4.sem)) $$ Hmw
  try unfold Back
  iintro ⟨⟨⟨%g3, %hg3, Hg3⟩, Htl, Hsl⟩, Hm4, HO⟩
  sl_exec
  rw [bind_assoc]
  iapply (Scf.wp_for_bind _ _ _ _ _ _ _ _ _ (TripInv (thr d L) aV cV tb ib (wid L).val 100 g3) fun k acc => by
      rw [body3_eq]
      exact trip (thr d L) aV cV 𝒱₀ none h_S1x16 shapeCasts_S1x16_S16 shapeCasts_S16_S1x16 (places3 k) (R := 200) (by have : k.val < 50 := k.isLt; omega) hg3 acc) $$ [Hg3 Hc]
  · unfold TripInv
    isplitl [Hg3]; · iexact Hg3
    iexists _; isplitr
    swap; · iexact Hc
    ipureintro; exact hf2
  unfold TripInv
  iintro %acc ⟨Hg3, %f3, %hf3, Hc⟩
  replace hf3 : Done tb ib (wid L).val 150 ((cV).view.read (Elt F) f3) := hf3
  sl_exec
  iapply (wp_end countersEmb (thr d L) 𝒱₀ none (default : HIx 1)) $$ [Hpb HO]
  · isplitl [Hpb]; · iexact Hpb
    isplitl [HO]; · iexact HO
    iapply (Transfers.MayWaits.elim (SemLoc.dma cc0_scratch6.sem)) $$ Hmw
  try unfold Back
  iintro ⟨⟨⟨%g4, %hg4, Hg4⟩, Htr, Hsr⟩, Hm6, HO⟩
  sl_exec
  rw [bind_assoc]
  iapply (Scf.wp_for_bind _ _ _ _ _ _ _ _ _ (TripInv (thr d L) bV cV tb ib (wid L).val 150 g4) fun k acc => by
      rw [body4_eq]
      exact trip (thr d L) bV cV 𝒱₀ none h_S1x16 shapeCasts_S1x16_S16 shapeCasts_S16_S1x16 (places4 k) (R := 184) (by have : k.val < 46 := k.isLt; omega) hg4 acc) $$ [Hg4 Hc]
  · unfold TripInv
    isplitl [Hg4]; · iexact Hg4
    iexists _; isplitr
    swap; · iexact Hc
    ipureintro; exact hf3
  unfold TripInv
  iintro %acc ⟨Hg4, %f4, %hf4, Hc⟩
  replace hf4 : Done tb ib (wid L).val 196 ((cV).view.read (Elt F) f4) := hf4
  sl_exec
  sl_step
  ihave Ht := (pointsTo_share (PosShare.mem_left_op_right q)).2 $$ [Htl Htr]; · isplitl [Htl] <;> iassumption
  ihave Hs := (pointsTo_share (PosShare.mem_left_op_right fullShare)).2 $$ [Hsl Hsr]; · isplitl [Hsl] <;> iassumption
  have hw : ∀ i ∈ (oSlabK L).view.set, (oSlabK L).view.writes (Elt F) ob [⟨Rect.whole S196x256, tile_body.sl.dma0_1 d L f4⟩] i = gathered tb ib i := by
    intro i hi
    rw [← View.write_univ_eq_writes_whole, View.writes_nil]
    exact written L tb ib (tile_body.sl.dma0_1 d L f4) hf4 ob i hi
  ihave Ho := (Entails.of_eq ((pointsTo_congr hw).trans (pts_oSlabK (F := F) d L (gathered tb ib)))) $$ Ho'
  isplitl [Hi' Ht Ho]
  · isplitl [Hi']; · iapply (Entails.of_eq (pts_iSlabK (F := F) d L _)); iexact Hi'
    isplitl [Ht]; · iexact Ht
    iexact Ho
  isplitl [Hs Hg3 Hg4 Hc Hbufs]
  · isplitl [Hs]; · iexists _; iexact Hs
    isplitl [Hg3]; · iexists _; iexact Hg3
    isplitl [Hg4]; · iexists _; iexact Hg4
    isplitl [Hc]; · iexists _; iexact Hc
    iexact Hbufs
  isplitl [Hm4 Hm5 Hm6 Hm0 Hm1 Hsems]
  · isplitl [Hm4]; · iexact Hm4
    isplitl [Hm5]; · iexact Hm5
    isplitl [Hm6]; · iexact Hm6
    isplitl [Hm0]; · iexact Hm0
    isplitl [Hm1]; · iexact Hm1
    iexact Hsems
  iexists _; isplitr
  swap; · iexact HO
  ipureintro; intro p hp
  simp only [Finset.mem_insert] at hp
  rcases hp with hp | hp | hp | hp | hp | hp | hp
  iterate 6 exact .inr (hp ▸ rfl)
  exact .inl hp

/-! ## The obligation -/

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s) tV (Memref.isWhole_whole _) iV (Memref.isWhole_whole _) oV (Memref.isWhole_whole _)
          sV (Memref.isWhole_whole _) aV (Memref.isWhole_whole _) bV (Memref.isWhole_whole _) cV (Memref.isWhole_whole _)
          cc0_scratch4 cc0_scratch5 cc0_scratch6 cc0_scoped0 cc0_scoped1) ⟨⟩ c s := rfl

end Tile

end Cert.Proof.GatherTile

end
-- ==== Proof.Held.lean ====
/-
  Two small facts about buffers held whole: what the final memory says of a held set, and a whole buffer dealt in
  shares to a number of readers.
-/
module

public import Idealize.ShloMosaic.Lib.StableHlo.Run
public import Idealize.ShloMosaic.Lib.StableHlo.CollectiveRules
public import Idealize.ShloMosaic.Lib.SparseCore.Quiescent

@[expose] public section

noncomputable section

namespace Cert.Proof.Held

open Idealize.ShloMosaic
open Idealize.ShloMosaic.StableHlo (held)
open Idealize.SL.RA.PosShare (pieces)
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name] {U : Type} [URA U] {Lvl : Type} [Preorder Lvl]

/-- The final memory holds, at every buffer of a held set, what the set is held at. -/
theorem agree (c : Thread nD τ) (s' : Phys nD τ sig Val) (V : Valuation τ sig Val) (S : Finset (DevRef τ sig)) :
    iprop((held c S V : sProp (MT nD τ sig Ix Val Name U Lvl)) ∗ SI s') ⊢ (⌜∀ b ∈ S, s'.mem.mem (c.1, b) = V b⌝ : sProp (MT nD τ sig Ix Val Name U Lvl)) := by
  induction S using Finset.induction_on with
  | empty => iintro -; ipureintro; exact fun b hb => absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := s') (ℓ := (c.1, b)) (I := Finset.univ) (q := fullShare) (f := V b))) $$ [HSI Hb]
    · isplitl [HSI] <;> iassumption
    icases H with ⟨%h1, HSI, -⟩
    ihave H := ih $$ [HS HSI]
    · isplitl [HS] <;> iassumption
    icases H with %h2
    ipureintro
    intro b' hb'
    rcases Finset.mem_insert.mp hb' with rfl | hb'
    · exact funext fun i => h1 i (Finset.mem_univ i)
    · exact h2 b' hb'

/-- A points-to is its share's pieces' at once. -/
theorem pieces_eq {ℓ : Loc nD τ sig} (I : Finset (Idx ℓ)) (f : Buf Val ℓ) :
    ∀ (n : ℕ) (q : PosShare TreeShare), (ℓ ↦[I]{q} f : sProp (MT nD τ sig Ix Val Name U Lvl)) = bigSep Finset.univ fun j : Fin (n + 1) => ℓ ↦[I]{pieces (n + 1) q j} f
  | 0, q => (bigSep_univ_of_subsingleton (0 : Fin 1) (Φ := fun j : Fin 1 => (ℓ ↦[I]{pieces 1 q j} f : sProp (MT nD τ sig Ix Val Name U Lvl)))).symm
  | n + 1, q => by
    rw [Fin.univ_succ, Finset.cons_eq_insert, SparseCore.bigSep_insert' (by simp [Fin.succ_ne_zero]), bigSep_map,
      BI.Entails.antisymm (pointsTo_share (PosShare.mem_left_op_right q)).1 (pointsTo_share (PosShare.mem_left_op_right q)).2]
    exact congrArg _ (pieces_eq I f n q.right)

end Cert.Proof.Held

end
-- ==== Proof.GatherLaunch.lean ====
/-
  The gather program's run: its host operations pad the table and flatten the list of row numbers, its one SparseCore call
  deals the 32 slabs to the 32 vector subcores, and the result holds the gathered rows.
-/
module

public import proofs.«01_k».proof.Proof.GatherTile
public import proofs.«01_k».proof.Proof.Held

@[expose] public section

noncomputable section

namespace Cert.Proof.GatherLaunch

open Cert.GatherIdeal Cert.GatherIdeal.Gen
open Cert.Proof.GatherSpec Cert.Proof.GatherTile

open Idealize.ShloMosaic
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.RA.PosShare (pieces)

variable {F : FTy → Type}

local notation "𝕄" => MT nD τ sig (HIx 1) (Elt F) ℕ UU ℕ

abbrev EH : Emb UH (MT nD τ sig (HIx 1) (Elt F) ℕ UU ℕ) := embL

/-! ## The slabs -/

/-- The slab of core `c`'s subcore `s`. -/
def slabOf (c : Fin 2) (s : Fin 16) : Fin 32 := ⟨2 * s.val + c.val, by omega⟩

/-- Every slab is one core's one subcore's. -/
def slabEquiv : Fin 2 × Fin 16 ≃ Fin 32 where
  toFun p := slabOf p.1 p.2
  invFun w := (⟨w.val % 2, by omega⟩, ⟨w.val / 2, by omega⟩)
  left_inv p := by
    obtain ⟨c, s⟩ := p
    refine Prod.ext (Fin.ext ?_) (Fin.ext ?_) <;> simp only [slabOf] <;> omega
  right_inv w := Fin.ext (by simp only [slabOf]; omega)

variable [FloatOps F]

abbrev D : Defs nD τ sig (Elt F) (ΛP (F := F)) := Pipeline.defs pcfgs defs₀

/-- One task's holdings: its slab of the row numbers, its share of the table, its slab of the result. -/
abbrev hold (d : Dev nD) (tb : Buf (Elt F) (tLoc d)) (ib : Buf (Elt F) (iLoc d)) (ob : Buf (Elt F) (oLoc d)) (w : Fin 32) : sProp 𝕄 :=
  iprop((iLoc d ↦[iSlab w]{fullShare} ib) ∗ (tLoc d ↦{pieces 32 fullShare w} tb) ∗ (oLoc d ↦[oSlab w]{fullShare} ob))

omit [FloatOps F] in
/-- The three arrays whole are the 32 tasks' holdings. -/
theorem hold_all (d : Dev nD) (tb : Buf (Elt F) (tLoc d)) (ib : Buf (Elt F) (iLoc d)) (ob : Buf (Elt F) (oLoc d)) :
    (iprop((iLoc d ↦{fullShare} ib) ∗ (tLoc d ↦{fullShare} tb) ∗ (oLoc d ↦{fullShare} ob)) : sProp 𝕄)
      = bigSep Finset.univ fun c : Fin 2 => bigSep Finset.univ fun s : Fin 16 => hold d tb ib ob (slabOf c s) := by
  have hi : (iLoc d ↦{fullShare} ib : sProp 𝕄) = bigSep Finset.univ fun w : Fin 32 => iLoc d ↦[iSlab w]{fullShare} ib := by
    rw [← pointsTo_biUnion Finset.univ (ℓ := iLoc d) iSlab (fun i _ j _ h => Rect.part_disjoint idiv h), Rect.biUnion_part idiv]; try rfl
  have ho : (oLoc d ↦{fullShare} ob : sProp 𝕄) = bigSep Finset.univ fun w : Fin 32 => oLoc d ↦[oSlab w]{fullShare} ob := by
    rw [← pointsTo_biUnion Finset.univ (ℓ := oLoc d) oSlab (fun i _ j _ h => Rect.part_disjoint odiv h), Rect.biUnion_part odiv]; try rfl
  have ht : (tLoc d ↦{fullShare} tb : sProp 𝕄) = bigSep Finset.univ fun w : Fin 32 => tLoc d ↦{pieces 32 fullShare w} tb :=
    Held.pieces_eq Finset.univ tb 31 fullShare
  rw [hi, ho, ht, ← bigSep_sep', ← bigSep_sep', bigSep_univ_equiv slabEquiv, bigSep_univ_prod]
  rfl

/-! ## What the handshakes carry -/

variable (tb : (d : Dev nD) → Buf (Elt F) (tLoc d)) (ib : (d : Dev nD) → Buf (Elt F) (iLoc d)) (ob : (d : Dev nD) → Buf (Elt F) (oLoc d))

/-- Task `i` of core `c`'s slab. -/
abbrev slabAt (c : Fin ((K (F := F)).nCore 0)) (i : Fin ((K (F := F)).nSub 0)) : Fin 32 := slabOf (Fin.cast nCore_zero c) (Fin.cast nSub_zero i)

abbrev goP (d : Dev nD) (c : Fin ((K (F := F)).nCore 0)) (i : Fin ((K (F := F)).nSub 0)) : sProp 𝕄 := hold d (tb d) (ib d) (ob d) (slabAt c i)
abbrev tdP (d : Dev nD) (c : Fin ((K (F := F)).nCore 0)) (i : Fin ((K (F := F)).nSub 0)) : sProp 𝕄 := hold d (tb d) (ib d) (gathered (tb d) (ib d)) (slabAt c i)

/-- Each task is given its holdings and brings them back, its slab of the result gathered; a core's are its tasks'. -/
def P : (K (F := F)).Pay (nD := nD) (Val := Elt F) (Name := ℕ) (U := UU) where
  st := fun q d c => match q with | 0 => bigSep Finset.univ fun i => goP tb ib ob d c i
  dn := fun q d c => match q with | 0 => bigSep Finset.univ fun i => tdP tb ib d c i
  go := fun q d c i => match q with | 0 => goP tb ib ob d c i
  td := fun q d c i => match q with | 0 => tdP tb ib d c i
  x := fun _ _ => iprop(emp)

instance P_storable : (P tb ib ob).IsStorable where
  st q d c := match q with | 0 => (inferInstance : BI.Storable (upEmb : UEmb _ 𝕄) (bigSep Finset.univ fun i => goP tb ib ob d c i))
  dn q d c := match q with | 0 => (inferInstance : BI.Storable (upEmb : UEmb _ 𝕄) (bigSep Finset.univ fun i => tdP tb ib d c i))
  go q d c i := match q with | 0 => (inferInstance : BI.Storable (upEmb : UEmb _ 𝕄) (goP tb ib ob d c i))
  td q d c i := match q with | 0 => (inferInstance : BI.Storable (upEmb : UEmb _ 𝕄) (tdP tb ib d c i))

/-! ## The tasks' obligation -/

/-- Every row number is a row of the table. -/
def InTable : Prop := ∀ (d : Dev nD) (n : ℕ), (word (ib d : S25088.Idx → BitVec 32) n).toNat < 2048

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : InTable (F := F) ib) : (K (F := F)).TileObl (D (F := F)) 𝒱 (P tb ib ob) v₀ 0 := by
  intro d c i O W hO _ _
  simp only [show (P tb ib ob).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (pieces 32 fullShare (slabAt c i)) (tb d) (ib d) (ob d) (hix d) O W hO).trans
    (wp_mono frame _ _ fun _ => waits_weaken)

theorem vecSplit : (K (F := F)).VecSplit' (P tb ib ob) 0 := by
  intro d c
  show (bigSep Finset.univ fun i => goP tb ib ob d c i) ⊢ |={Set.univ}=> iprop((bigSep Finset.univ fun i => goP tb ib ob d c i)
      ∗ ((bigSep Finset.univ fun i => tdP tb ib d c i) -∗ (bigSep Finset.univ fun i => tdP tb ib d c i)))
  iintro H; imodintro
  isplitl [H]; · iexact H
  iintro H; iexact H

/-! ## The launch element -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ib ob).x q thr) := by
  unfold u₀
  iintro Hu
  ihave H := (ownU_pair (initOf (K (F := F)).hsCells (K (F := F)).hsToks) (1 : Counters)) $$ Hu
  icases H with ⟨HH, -⟩
  imodintro
  isplitl [HH]; · iexact HH
  rw [show (bigSep Finset.univ fun thr : Thread nD τ => bigSep Finset.univ fun q : Fin 1 => (P (F := F) tb ib ob).x q thr) = bigSep Finset.univ fun _ => iprop(emp) from
    bigSep_congr fun _ _ => bigSep_univ_of_subsingleton (0 : Fin 1), emps, emps]
  isplitr <;> iempintro

theorem st0_eq (d : Dev nD) : (bigSep Finset.univ fun c : Fin ((K (F := F)).nCore 0) => (P tb ib ob).st 0 d c)
    = (iprop((iLoc d ↦{fullShare} ib d) ∗ (tLoc d ↦{fullShare} tb d) ∗ (oLoc d ↦{fullShare} ob d)) : sProp 𝕄) :=
  (hold_all d (tb d) (ib d) (ob d)).symm
theorem dn0_eq (d : Dev nD) : (bigSep Finset.univ fun c : Fin ((K (F := F)).nCore 0) => (P tb ib ob).dn 0 d c)
    = (iprop((iLoc d ↦{fullShare} ib d) ∗ (tLoc d ↦{fullShare} tb d) ∗ (oLoc d ↦{fullShare} gathered (tb d) (ib d))) : sProp 𝕄) :=
  (hold_all d (tb d) (ib d) (gathered (tb d) (ib d))).symm

/-! ## @main -/

variable (m : (ℓ : Loc nD τ sig) → Buf (Elt F) ℓ) (ρ : Dev nD → PrngReg)

/-- The host operations before the call. -/
abbrev pre : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg0 : StableHlo.TRef sig ⟨S2048x64, .f32⟩) main_call0.v0 main_call0.v1
      (fun x v => pad S2048x128 ![0, 0] ![0, 64] ![0, 0] x v pads_S2048x64_S2048x128_000_0640 h_S_),
    StableHlo.reshape main_arg1 main_v1 (rfl : (.i32 : EltTy) = .i32) shapeCasts_S32x196x4_S25088 ]

theorem main_eq (d : Dev nD) : main (F := F) d = StableHlo.seq pre >>= fun _ => ((sc (F := F)).run d 0 >>= fun _ => pure ⟨⟩) := rfl

theorem pre_bufs : ∀ op ∈ pre (F := F), op.bufs ⊆ Pipeline.ucRefs τ sig := by
  intro op h
  refine Pipeline.sub_ucRefs op ?_
  simp only [pre, List.mem_cons, List.not_mem_nil, or_false] at h
  rcases h with rfl | rfl | rfl | rfl
  · exact StableHlo.nullary_bufs_sub ..
  · exact StableHlo.unary_bufs_sub ..
  · exact StableHlo.binary_bufs_sub ..
  · exact StableHlo.reshape_bufs_sub ..

theorem pre_fresh : ∀ op ∈ pre (F := F), op.fresh = ∅ := by
  intro op h
  simp only [pre, List.mem_cons, List.not_mem_nil, or_false] at h
  rcases h with rfl | rfl | rfl | rfl <;> rfl

/-- The buffers' contents at the launch, before the call, and after it. -/
def V0 (d : Dev nD) : Valuation τ sig (Elt F) := fun b => m (d, b)
def V1 (d : Dev nD) : Valuation τ sig (Elt F) := StableHlo.after pre (V0 m d)

abbrev t' : DevRef τ sig := Proc.devRef .tc (main_v0 : Ref sig .tc)
abbrev i' : DevRef τ sig := Proc.devRef .tc (main_v1 : Ref sig .tc)
abbrev o' : DevRef τ sig := Proc.devRef .tc (main_v2 : Ref sig .tc)

abbrev tb1 (d : Dev nD) : Buf (Elt F) (tLoc d) := V1 m d t'
abbrev ib1 (d : Dev nD) : Buf (Elt F) (iLoc d) := V1 m d i'
abbrev ob1 (d : Dev nD) : Buf (Elt F) (oLoc d) := V1 m d o'
abbrev out1 (d : Dev nD) : Buf (Elt F) (oLoc d) := gathered (tb1 m d) (ib1 m d)

def V2 (d : Dev nD) : Valuation τ sig (Elt F) := Function.update (V1 m d) o' (out1 m d)

theorem V2_o (d : Dev nD) : V2 m d o' = out1 m d := Function.update_self _ _ _
theorem V2_ne (d : Dev nD) {b : DevRef τ sig} (h : b ≠ o') : V2 m d b = V1 m d b := Function.update_of_ne h _ _

/-- The call's arrays. -/
abbrev S3 : Finset (DevRef τ sig) := {i', t', o'}
theorem S3_sub : S3 ⊆ Pipeline.ucRefs τ sig := by decide

omit [FloatOps F] in
theorem held_S3 (d : Dev nD) (W : Valuation τ sig (Elt F)) :
    (held (T d) S3 W : sProp 𝕄) = iprop((iLoc d ↦{fullShare} W i') ∗ (tLoc d ↦{fullShare} W t') ∗ oLoc d ↦{fullShare} W o') := by
  unfold held S3
  rw [SparseCore.bigSep_insert' (by decide), SparseCore.bigSep_insert' (by decide), bigSep_singleton]

abbrev Pm : (K (F := F)).Pay (nD := nD) (Val := Elt F) (Name := ℕ) (U := UU) := P (tb1 m) (ib1 m) (ob1 m)

abbrev FIN (d : Dev nD) : sProp 𝕄 := held (T d) (Pipeline.ucRefs τ sig) (V2 m d)

theorem held_rest (d : Dev nD) :
    (held (T d) (Pipeline.ucRefs τ sig \ S3) (V2 m d) : sProp 𝕄) = held (T d) (Pipeline.ucRefs τ sig \ S3) (V1 m d) :=
  held_congr (T d) fun b hb => V2_ne m d fun e => (Finset.mem_sdiff.mp hb).2 (by rw [e]; decide)

theorem held_pre (d : Dev nD) :
    (held d.tc (Pipeline.ucRefs τ sig) (StableHlo.after pre (V0 m d)) : sProp 𝕄)
      = iprop(held (T d) S3 (V1 m d) ∗ held (T d) (Pipeline.ucRefs τ sig \ S3) (V1 m d)) :=
  held_sub_split (T d) S3_sub (V1 m d)

/-- @main on device `d`'s TensorCore: the host operations over every array held whole, then the call, from the table, the
    row numbers and the result's array. -/
theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from
    Pipeline.unscopedBufs_held d (V0 m d), main_eq]
  iintro ⟨#Hctx, Hst, ⟨Hb, Hheld, Hts, -⟩, -⟩
  iapply (StableHlo.wp_seq 𝒱 none Set.univ d (Pipeline.ucRefs τ sig) _ pre pre_bufs pre_fresh (V0 m d)) $$ [Hb Hheld]
  · isplitl [Hb] <;> iassumption
  iintro ⟨Hb, Hheld⟩
  ihave Hh := (Entails.of_eq (held_pre m d)) $$ Hheld
  icases Hh with ⟨H3, Hrest⟩
  ihave H3' := (Entails.of_eq (held_S3 d (V1 m d))) $$ H3
  rw [wp_bind]
  iapply ((K (F := F)).wp_run (D (F := F)) 𝒱 (EH := EH) (P := Pm m) κ d 0) $$ [Hst H3' Hb Hrest Hts]
  isplitr; · iexact Hctx
  isplitl [Hst]; · iexact Hst
  isplitl [H3']
  · rw [st0_eq]; iexact H3'
  iintro ⟨Hst, Hdn⟩
  ihave Hdn' := (Entails.of_eq (dn0_eq (tb1 m) (ib1 m) (ob1 m) d)) $$ Hdn
  rw [wp_pure]; imodintro
  isplitl [Hst]; · iexact Hst
  isplitr [Hb Hts]
  · rw [FIN, held_sub_split (T d) S3_sub (V2 m d), held_rest, held_S3, V2_o, V2_ne m d (show i' ≠ o' by decide), V2_ne m d (show t' ≠ o' by decide)]
    isplitl [Hdn']; · iexact Hdn'
    iexact Hrest
  isplitl [Hb] <;> iassumption

/-! ## The run -/

def fq (d : Dev nD) (s' : Phys nD τ sig (Elt F)) : Prop := ∀ b ∈ Pipeline.ucRefs τ sig, s'.mem.mem (d, b) = V2 m d b

theorem hfin (d : Dev nD) (s' : Phys nD τ sig (Elt F)) : iprop(FIN m d ∗ SI s') ⊢ (⌜fq m d s'⌝ : sProp 𝕄) :=
  Held.agree (T d) s' (V2 m d) (Pipeline.ucRefs τ sig)

def QC : PUnit × MemSt nD τ sig (Elt F) → Prop := fun r => (∀ d, ∀ b ∈ Pipeline.ucRefs τ sig, r.2.mem (d, b) = V2 m d b) ∧ r.2.sem = fun _ => 0

/-- Every run ends with the result at the gathered rows, every other array as the host operations leave it, and every
    counter at zero — when every row number is a row of the table. -/
theorem run_main [∀ e, Nonempty (Elt F e)] (hix : InTable (F := F) (ib1 m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tb1 m) (ib1 m) (ob1 m) facts hix)
    (fun q _ => match q with | 0 => SparseCore.Cfg.VecSplit.of_plain (vecSplit (tb1 m) (ib1 m) (ob1 m)))
    m ρ main (fun _ => iprop(emp)) (FIN m) (u₀ (F := F)) (sep_elim_left.trans (hu₀ (tb1 m) (ib1 m) (ob1 m))) (hmain m ρ) (fq m) (hfin m) (QC m)
    (fun _ h hz => ⟨h, hz⟩)

/-! ## The arrays the claims read -/

/-- The table padded to 128 columns. -/
def padded (t : S2048x64.Idx → Elt F .f32) : STab.Idx → Elt F .f32 :=
  pad S2048x128 ![0, 0] ![0, 64] ![0, 0] t (sitofp .f32 (constantI S_ 32 0#32)) pads_S2048x64_S2048x128_000_0640 h_S_

/-- The row numbers in one line. -/
def flat (ix : S32x196x4.Idx → Elt F .i32) : SIx.Idx → Elt F .i32 := shapeCast S25088 ix shapeCasts_S32x196x4_S25088

theorem tb1_eq (d : Dev nD) : tb1 m d = padded (m ((SparseCore.T d).loc main_arg0)) := by
  unfold tb1 V1; after_results <;> rfl
theorem ib1_eq (d : Dev nD) : ib1 m d = flat (m ((SparseCore.T d).loc main_arg1)) := by
  unfold ib1 V1; after_results <;> rfl

theorem run_args [∀ e, Nonempty (Elt F e)] (hix : ∀ d, ∀ n, (word (flat (m ((SparseCore.T d).loc main_arg1)) : S25088.Idx → BitVec 32) n).toNat < 2048) :
    θ_run (Cert.GatherIdeal.defs (F := F)) (Cert.GatherIdeal.threads (F := F)) ⟨m, fun _ => 0, ρ⟩ fun r =>
      (∀ c : Dev nD, r.2.mem ((c.tc : Thread nD τ).loc main_v2)
            = (gathered (padded (m ((c.tc : Thread nD τ).loc main_arg0))) (flat (m ((c.tc : Thread nD τ).loc main_arg1))) : SOut.Idx → Elt F .f32)
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run _ _ _).mono (fun r h => ⟨fun c => ⟨?_, ?_, ?_⟩, h.2⟩) (run_main m ρ fun d n => by rw [ib1_eq]; exact hix d n)
  · refine (h.1 c o' (by decide)).trans ((V2_o m c).trans ?_)
    unfold out1; rw [tb1_eq, ib1_eq]
  · refine (h.1 c (Proc.devRef .tc (main_arg0 : Ref sig .tc)) (by decide)).trans ((V2_ne m c (by decide)).trans ?_)
    unfold V1; after_results <;> rfl
  · refine (h.1 c (Proc.devRef .tc (main_arg1 : Ref sig .tc)) (by decide)).trans ((V2_ne m c (by decide)).trans ?_)
    unfold V1; after_results <;> rfl

end Cert.Proof.GatherLaunch

end
-- ==== Proof.GatherMath.lean ====
/-
  The gathered rows as plain array operations: padding the table, flattening the row numbers, gathering, is taking the
  table's rows by the numbers and joining each token's four.
-/
module

public import proofs.«01_k».proof.Proof.GatherSpec
public import Idealize.ShloMosaic.Lib.ValueIdxCore
public import Idealize.ShloMosaic.Lib.Pipeline.Value
public import Idealize.ShloMosaic.Lib.KernelVsHost
public import Idealize.ShloMosaic.Lib.StableHlo.Predicate

@[expose] public section

noncomputable section

namespace Cert.Proof.GatherMath

open Cert.Proof.GatherSpec
open Idealize.ShloMosaic Idealize.ShloMosaic.ValueIdx

variable {α : Type}

abbrev STab64 : Shape := ⟨2, ![2048, 64]⟩
abbrev SIdx : Shape := ⟨3, ![32, 196, 4]⟩
abbrev SIdx1 : Shape := ⟨4, ![32, 196, 4, 1]⟩
abbrev SRows : Shape := ⟨4, ![32, 196, 4, 64]⟩

/-- The dimension numbers of taking whole rows of the table by an array of row numbers. -/
abbrev rowDims (wf : GatherDims.WF STab64 SIdx1 SRows [3] [0] [] [0] [] 3 ![1, 64]) : GatherDims STab64 SIdx1 SRows where
  offsetDims := [3]
  collapsedSliceDims := [0]
  operandBatchingDims := []
  startIndicesBatchingDims := []
  startIndexMap := [0]
  indexVectorDim := 3
  sliceSizes := ![1, 64]
  wf := wf

/-- The number that result index (b, t, k, c) reads. -/
abbrev numIdx (y : SRows.Idx) : SIdx1.Idx := ix4 (n0 := 32) (n1 := 196) (n2 := 4) (n3 := 1) (y 0) (y 1) (y 2) 0

/-- Entry (b, t, k, c) of the taken rows is the table's entry `c` in the row that number (b, t, k) names. -/
theorem rows_apply (wf : GatherDims.WF STab64 SIdx1 SRows [3] [0] [] [0] [] 3 ![1, 64]) (x : STab64.Idx → α) (idx : IVec SIdx1 32)
    (y : SRows.Idx) (n : Fin 2048) (hn : idx (numIdx y) = BitVec.ofNat 32 n.val) :
    Host.gather (rowDims wf) x idx y = x (ix2 n ⟨(y 3).val, (y 3).isLt⟩) := by
  unfold Host.gather
  congr 1
  funext a
  refine Fin.ext ?_
  show (rowDims wf).start y idx a + (rowDims wf).batchCoord y a + (rowDims wf).offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx y ⟨List.idxOf (0 : Fin 2) (rowDims wf).startIndexMap,
        List.idxOf_lt_length_iff.2 (List.mem_singleton.mpr rfl)⟩ = numIdx y := by
      funext b; refine Fin.ext ?_
      match b with
      | ⟨0, _⟩ => rfl
      | ⟨1, _⟩ => rfl
      | ⟨2, _⟩ => rfl
      | ⟨3, _⟩ => rfl
    rw [hsi, hn, StableHlo.Predicate.toInt_ofNat_small n.val (by omega)]
    show min _ (2048 - 1) = n.val
    have := n.isLt
    simp only [Int.toNat_natCast]; omega
  · unfold GatherDims.start
    rw [dif_neg (show (1 : Fin 2) ∉ (rowDims wf).startIndexMap from fun h => absurd (List.mem_singleton.mp h) (by decide))]
    simp only [Nat.zero_add]
    rfl

/-- The gathered rows of the padded table by the flattened numbers are the table's rows by the numbers, each token's four
    joined. -/
theorem gathered_eq (wf : GatherDims.WF STab64 SIdx1 SRows [3] [0] [] [0] [] 3 ![1, 64]) (x : STab64.Idx → α) {u : Shape} (v : u.Idx → α)
    (hp : STab64.Pads ![0, 0] ![0, 64] ![0, 0] STab) (hu : 0 < u.numel) (ix : SIdx.Idx → BitVec 32) (hf : SIdx.ShapeCasts SIx)
    (hc : SRows.ShapeCasts SOut) (hin : ∀ i, (ix i).toNat < 2048) (idx : IVec SIdx1 32)
    (hidx : ∀ (a : Fin 32) (b : Fin 196) (c : Fin 4), idx (ix4 a b c 0) = ix (ix3 a b c)) :
    gathered (pad STab ![0, 0] ![0, 64] ![0, 0] x v hp hu) (shapeCast SIx ix hf) = shapeCast SOut (Host.gather (rowDims wf) x idx) hc := by
  funext y
  have h0 : (y 0).val < 32 := (y 0).isLt
  have h1 : (y 1).val < 196 := (y 1).isLt
  have h2 : (y 2).val < 256 := (y 2).isLt
  have hrow : word (shapeCast SIx ix hf) (784 * (y 0).val + (4 * (y 1).val + (y 2).val / 64)) = ix (ix3 ⟨(y 0).val, h0⟩ ⟨(y 1).val, h1⟩ ⟨(y 2).val / 64, by omega⟩) := by
    rw [word_of_lt _ (ix1 ⟨784 * (y 0).val + (4 * (y 1).val + (y 2).val / 64), by omega⟩) rfl]
    refine shapeCast_apply ix hf _ _ ?_
    rw [Shape.rowMajor_val_three, Shape.rowMajor_val_one]
    show ((y 0).val * 196 + (y 1).val) * 4 + (y 2).val / 64 = 784 * (y 0).val + (4 * (y 1).val + (y 2).val / 64)
    omega
  have hn := hin (ix3 ⟨(y 0).val, h0⟩ ⟨(y 1).val, h1⟩ ⟨(y 2).val / 64, by omega⟩)
  rw [shapeCast_apply (Host.gather (rowDims wf) x idx) hc y (ix4 ⟨(y 0).val, h0⟩ ⟨(y 1).val, h1⟩ ⟨(y 2).val / 64, by omega⟩ ⟨(y 2).val % 64, by omega⟩)
    (by
      rw [Shape.rowMajor_val_four, Shape.rowMajor_val_three]
      show (((y 0).val * 196 + (y 1).val) * 4 + (y 2).val / 64) * 64 + (y 2).val % 64 = ((y 0).val * 196 + (y 1).val) * 256 + (y 2).val
      omega)]
  rw [rows_apply wf x idx _ ⟨_, hn⟩ ((hidx _ _ _).trans (BitVec.ofNat_toNat _ _ ▸ (BitVec.setWidth_eq _).symm))]
  show row _ (word _ _).toNat _ = _
  rw [hrow, row_of_lt _ (ix2 ⟨_, hn⟩ ⟨(y 2).val % 64, by omega⟩) rfl rfl]
  refine pad_apply_of_inside _ _ _ x v hp hu _ _ fun a => ?_
  match a with
  | ⟨0, _⟩ => show _ = 0 + _ * (0 + 1); simp
  | ⟨1, _⟩ => show _ = 0 + _ * (0 + 1); simp

/-- A number in the table's range is not negative, so the reference's correction of negative numbers leaves it. -/
theorem wrapped (u : BitVec 32) (h : u.toNat < 2048) : (if IntOp.cmpi .slt u 0#32 = 1#1 then IntOp.addi u 2048#32 else u) = u := by
  rw [if_neg]
  rw [StableHlo.Predicate.slt_iff_toNat (by omega) (by decide)]
  simp

/-- Both comparisons of the precondition at one number. -/
theorem range_of (u : BitVec 32) (h : IntOp.cmpi .sge u 0#32 = 1#1) (h' : IntOp.cmpi .slt u 2048#32 = 1#1) : u.toNat < 2048 := by
  simp only [IntOp.cmpi, StableHlo.Predicate.ofBool_eq_one_iff, BitVec.sle_eq_decide, BitVec.slt_eq_decide, decide_eq_true_eq, BitVec.toInt_eq_toNat_cond,
    BitVec.toNat_ofNat, Nat.reducePow, Nat.reduceMod] at h h'
  omega

end Cert.Proof.GatherMath

end
-- ==== Proof.GatherClaims.lean ====
/-
  The gather program's claims: its runs, its reference's, and that both end with the same rows.
-/
module

public import proofs.«01_k».proof.Defs
public import proofs.«01_k».proof.Proof.Gen.Gather
public import proofs.«01_k».proof.Proof.Gen.GatherReference.Run
public import proofs.«01_k».proof.Proof.Gen.GatherReferenceIdeal.Run
public import proofs.«01_k».proof.Proof.GatherLaunch
public import proofs.«01_k».proof.Proof.GatherMath
public import Idealize.ShloMosaic.Lib.ReduceAll

@[expose] public section

noncomputable section

namespace Cert.Proof.GatherClaims

open Cert.Proof.GatherSpec Cert.Proof.GatherMath Cert.Proof.GatherLaunch
open Idealize.ShloMosaic Idealize.ShloMosaic.ValueIdx Idealize.SL.Sem

variable {F : FTy → Type} [FloatOps F]

/-- The facts that the precondition states about its shapes. -/
instance pre_facts : Cert.Pre_in_table.Facts where
  bcast_S_S32x196x4 := by decide
  reducesTo_S32x196x4_S_d0_1_2 := by decide
  h_S_ := by decide

/-- The precondition says that every number is a row of the table. -/
theorem inTable_of_pre (t : FVec F STab64 .f32) (ix : IVec SIdx 32) (h : Cert.Pre_in_table.fn t ix = fun _ => 1#1) (i : SIdx.Idx) : (ix i).toNat < 2048 := by
  have e := congrFun h (fun a => a.elim0)
  simp only [Cert.Pre_in_table.fn, andi] at e
  have e' := IntOp.andi_eq_one.mp e
  haveI : Subsingleton Cert.Pre_in_table.S_.Idx := ⟨fun a b => funext fun k => k.elim0⟩
  exact range_of _ (Host.reduce_andi_all _ _ _ _ _ e'.1 i) (Host.reduce_andi_all _ _ _ _ _ e'.2 i)

/-- Then every word of the flattened list is one. -/
theorem flat_inTable (ix : SIdx.Idx → BitVec 32) (h : ∀ i, (ix i).toNat < 2048) (n : ℕ) :
    (word (flat (F := F) ix) n).toNat < 2048 := h _

/-- The numbers as the reference reads them. -/
theorem numbers_eq (ix : IVec SIdx 32) (h : ∀ i, (ix i).toNat < 2048) (z k : IVec SIdx 32) (hz : z = fun _ => 0#32) (hk : k = fun _ => 2048#32)
    (hb : SIdx.BroadcastsInDim SIdx1 ![0, 1, 2]) (a : Fin 32) (b : Fin 196) (c : Fin 4) :
    broadcastInDim SIdx1 ![0, 1, 2] hb (select (cmpi .slt ix z) (addi ix k) ix) (ix4 a b c 0) = ix (ix3 a b c) := by
  subst hz hk
  rw [broadcastInDim_apply ![0, 1, 2] hb _ _ (ix3 a b c) (fun d => by
    match d with
    | ⟨0, _⟩ => rfl
    | ⟨1, _⟩ => rfl
    | ⟨2, _⟩ => rfl)]
  exact wrapped _ (h _)

section Same
open Cert.GatherReference

/-- The kernel's result is the reference's. -/
theorem same (t : FVec F STab64 .f32) (ix : IVec SIdx 32) (h : ∀ i, (ix i).toNat < 2048) :
    (gathered (padded t) (flat (F := F) ix) : SOut.Idx → Elt F .f32)
      = shapeCast _ (Host.gather gather_S2048x64_S32x196x4x1_S32x196x4x64_3_0_n_n_0_3_164 t (broadcastInDim S32x196x4x1 ![0, 1, 2] Facts₀.bcast_S32x196x4_S32x196x4x1_0_1_2 (select (cmpi .slt ix (broadcastInDim S32x196x4 ![] Facts₀.bcast_S_S32x196x4 (constantI S_ 32 0#32))) (addi ix (broadcastInDim S32x196x4 ![] Facts₀.bcast_S_S32x196x4 (constantI S_ 32 2048#32))) ix))) Facts₀.shapeCasts_S32x196x4x64_S32x196x256 :=
  gathered_eq _ t _ _ _ ix _ _ h _ (numbers_eq ix h _ _ rfl rfl _)

end Same

/-! ## The runs -/

theorem ideal_run (m : (ℓ : Loc Cert.GatherIdeal.nD Cert.GatherIdeal.τ Cert.GatherIdeal.sig) → Buf (Elt F) ℓ) (g : Dev Cert.GatherIdeal.nD → PrngReg) [∀ e, Nonempty (Elt F e)]
    (h : ∀ c : Dev Cert.GatherIdeal.nD, Cert.Pre_in_table.fn (F := F) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) = fun _ => 1#1) :
    θ_run (Cert.GatherIdeal.defs (F := F)) (Cert.GatherIdeal.threads (F := F)) ⟨m, fun _ => 0, g⟩ fun r =>
      (∀ c : Dev Cert.GatherIdeal.nD, r.2.mem ((c.tc : Thread Cert.GatherIdeal.nD Cert.GatherIdeal.τ).loc Cert.GatherIdeal.main_v2)
            = (gathered (padded (m ((c.tc : Thread Cert.GatherIdeal.nD Cert.GatherIdeal.τ).loc Cert.GatherIdeal.main_arg0))) (flat (F := F) (m ((c.tc : Thread Cert.GatherIdeal.nD Cert.GatherIdeal.τ).loc Cert.GatherIdeal.main_arg1))) : SOut.Idx → Elt F .f32)
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
        ∧ r.2.sem = fun _ => 0 :=
  run_args m g fun d => flat_inTable _ (inTable_of_pre _ _ (h d))

/-- The two printings of the program are the same text, so the run above is the run of the other. -/
theorem bits_run (m : (ℓ : Loc Cert.Gather.nD Cert.Gather.τ Cert.Gather.sig) → Buf (Elt F) ℓ) (g : Dev Cert.Gather.nD → PrngReg) [∀ e, Nonempty (Elt F e)]
    (h : ∀ c : Dev Cert.Gather.nD, Cert.Pre_in_table.fn (F := F) (m ((c.tc : Thread Cert.Gather.nD Cert.Gather.τ).loc Cert.Gather.main_arg0)) (m ((c.tc : Thread Cert.Gather.nD Cert.Gather.τ).loc Cert.Gather.main_arg1)) = fun _ => 1#1) :
    θ_run (Cert.Gather.defs (F := F)) (Cert.Gather.threads (F := F)) ⟨m, fun _ => 0, g⟩ fun r =>
      (∀ c : Dev Cert.Gather.nD, r.2.mem ((c.tc : Thread Cert.Gather.nD Cert.Gather.τ).loc Cert.Gather.main_v2)
            = (gathered (padded (m ((c.tc : Thread Cert.Gather.nD Cert.Gather.τ).loc Cert.Gather.main_arg0))) (flat (F := F) (m ((c.tc : Thread Cert.Gather.nD Cert.Gather.τ).loc Cert.Gather.main_arg1))) : SOut.Idx → Elt F .f32)
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
        ∧ r.2.sem = fun _ => 0 :=
  ideal_run (F := F) m g h

/-! ## The claims -/

theorem frame_p : Cert.quiescent_Gather := fun m g h =>
  (θ_run _ _ _).mono (fun _ r => ⟨fun c => (r.1 c).2, r.2⟩) (bits_run (F := Bits) m g h)

theorem frame_pi : Cert.quiescent_GatherIdeal := fun m g h =>
  (θ_run _ _ _).mono (fun _ r => ⟨fun c => (r.1 c).2, r.2⟩) (ideal_run (F := Ideal) m g h)

theorem frame_r : Cert.quiescent_GatherReference := fun m g _ =>
  (θ_run _ _ _).mono (fun r h => ⟨fun c => (h c).2, sem_eq_zero_of_no_sems (by decide) r.2⟩) (Cert.GatherReference.Value.run (F := Bits) m g)

theorem frame_ri : Cert.quiescent_GatherReferenceIdeal := fun m g _ =>
  (θ_run _ _ _).mono (fun r h => ⟨fun c => (h c).2, sem_eq_zero_of_no_sems (by decide) r.2⟩) (Cert.GatherReferenceIdeal.Value.run (F := Ideal) m g)

theorem bitexact : Cert.bitexact_Gather_GatherReference := by
  intro m g m' g' h hm
  refine ⟨_, (θ_run _ _ _).mono (fun _ r c => r.1 c) (bits_run (F := Bits) m g h), ?_⟩
  refine (θ_run _ _ _).mono (fun r e c => ⟨(e c).1.trans ?_, (e c).2⟩) (Cert.GatherReference.Value.run (F := Bits) m' g')
  rw [(hm c).1, (hm c).2]
  exact (same (F := Bits) _ _ (inTable_of_pre _ _ (h c))).symm

theorem algebraic : Cert.algebraic_GatherIdeal_GatherReferenceIdeal := by
  intro m g m' g' h hm
  refine ⟨_, (θ_run _ _ _).mono (fun _ r c => r.1 c) (ideal_run (F := Ideal) m g h), ?_⟩
  refine (θ_run _ _ _).mono (fun r e c => ⟨(e c).1.trans ?_, (e c).2⟩) (Cert.GatherReferenceIdeal.Value.run (F := Ideal) m' g')
  rw [(hm c).1, (hm c).2]
  exact (same (F := Ideal) _ _ (inTable_of_pre _ _ (h c))).symm

end Cert.Proof.GatherClaims

end
-- ==== Proof.VqGhost.lean ====
/-
  The ghost state of the whole kernel's proof: the handshakes of the SparseCore call, the staging cells of the TensorCore
  call's pipeline, and the counters of local copies.
-/
module

public import Idealize.ShloMosaic.Lib.SparseCore.Quiescent
public import Idealize.ShloMosaic.Lib.Pipeline.Kit
public import proofs.«01_k».proof.Proof.Gen.KernelIdeal

@[expose] public section

noncomputable section

namespace Cert.Proof.VqGhost

open Cert.KernelIdeal
open Idealize.ShloMosaic Idealize.SL Idealize.SL.RA
open Idealize.ShloMosaic.Rounds

abbrev UH : Type := URounds (GSem nD τ sig) ℕ
abbrev UP : Type := URounds (GSem nD τ sig) Unit
abbrev UU : Type := UH × (UP × Counters)

end Cert.Proof.VqGhost

end
-- ==== Proof.VqTile.lean ====
/-
  The gather kernel's task on one vector subcore: it fetches its 784 row numbers, gathers the table's rows in four chunks
  into two scratch buffers, copies each row's first 64 entries into its 196×256 result block, and writes that out.
-/
module

public import proofs.«01_k».proof.Proof.GatherSteps
public import proofs.«01_k».proof.Proof.VqGhost
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.VqTile

open Cert.KernelIdeal Cert.KernelIdeal.Gen
open Cert.Proof.VqGhost
open Cert.Proof.RowCopy Cert.Proof.GatherSpec Cert.Proof.GatherSteps

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
abbrev tV : Memref Cert.KernelIdeal.sig Kind.scVector Space.hbm Cert.KernelIdeal.S2048x128 EltTy.f32 := Memref.whole Cert.KernelIdeal.main_v3_scv
abbrev iV : Memref Cert.KernelIdeal.sig Kind.scVector Space.hbm Cert.KernelIdeal.S25088 EltTy.i32 := Memref.whole Cert.KernelIdeal.main_v4_scv
abbrev oV : Memref Cert.KernelIdeal.sig Kind.scVector Space.hbm Cert.KernelIdeal.S32x196x256 EltTy.f32 := Memref.whole Cert.KernelIdeal.main_v5_scv
abbrev sV : Memref Cert.KernelIdeal.sig Kind.scVector Space.vmem Cert.KernelIdeal.S784 EltTy.i32 := Memref.whole Cert.KernelIdeal.cc1_scratch0
abbrev aV : Memref Cert.KernelIdeal.sig Kind.scVector Space.vmem Cert.KernelIdeal.S200x128 EltTy.f32 := Memref.whole Cert.KernelIdeal.cc1_scratch1
abbrev bV : Memref Cert.KernelIdeal.sig Kind.scVector Space.vmem Cert.KernelIdeal.S200x128 EltTy.f32 := Memref.whole Cert.KernelIdeal.cc1_scratch2
abbrev cV : Memref Cert.KernelIdeal.sig Kind.scVector Space.vmem Cert.KernelIdeal.S196x256 EltTy.f32 := Memref.whole Cert.KernelIdeal.cc1_scratch3

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The sixteen pieces of trip `k` of the first loop: for each of a token's four rows the four pieces of its first 64 entries. -/
def pieces1 (k : Fin k1_t1_loop.trips) : List Pc :=
  [⟨k1_off2 k 0#32, k1_off2_inb k 0, k1_off3 k, k1_off3_inb k⟩, ⟨k1_off4 k 0#32, k1_off4_inb k 0, k1_off5 k, k1_off5_inb k⟩,
   ⟨k1_off6 k 0#32, k1_off6_inb k 0, k1_off7 k, k1_off7_inb k⟩, ⟨k1_off8 k 0#32, k1_off8_inb k 0, k1_off9 k, k1_off9_inb k⟩,
   ⟨k1_off2 k 1#32, k1_off2_inb k 1, k1_off10 k, k1_off10_inb k⟩, ⟨k1_off4 k 1#32, k1_off4_inb k 1, k1_off11 k, k1_off11_inb k⟩,
   ⟨k1_off6 k 1#32, k1_off6_inb k 1, k1_off12 k, k1_off12_inb k⟩, ⟨k1_off8 k 1#32, k1_off8_inb k 1, k1_off13 k, k1_off13_inb k⟩,
   ⟨k1_off2 k 2#32, k1_off2_inb k 2, k1_off14 k, k1_off14_inb k⟩, ⟨k1_off4 k 2#32, k1_off4_inb k 2, k1_off15 k, k1_off15_inb k⟩,
   ⟨k1_off6 k 2#32, k1_off6_inb k 2, k1_off16 k, k1_off16_inb k⟩, ⟨k1_off8 k 2#32, k1_off8_inb k 2, k1_off17 k, k1_off17_inb k⟩,
   ⟨k1_off2 k 3#32, k1_off2_inb k 3, k1_off18 k, k1_off18_inb k⟩, ⟨k1_off4 k 3#32, k1_off4_inb k 3, k1_off19 k, k1_off19_inb k⟩,
   ⟨k1_off6 k 3#32, k1_off6_inb k 3, k1_off20 k, k1_off20_inb k⟩, ⟨k1_off8 k 3#32, k1_off8_inb k 3, k1_off21 k, k1_off21_inb k⟩]

/-- The pieces of trip `k` of the second loop. -/
def pieces2 (k : Fin k1_t2_loop.trips) : List Pc :=
  [⟨k1_off22 k 0#32, k1_off22_inb k 0, k1_off23 k, k1_off23_inb k⟩, ⟨k1_off24 k 0#32, k1_off24_inb k 0, k1_off25 k, k1_off25_inb k⟩,
   ⟨k1_off26 k 0#32, k1_off26_inb k 0, k1_off27 k, k1_off27_inb k⟩, ⟨k1_off28 k 0#32, k1_off28_inb k 0, k1_off29 k, k1_off29_inb k⟩,
   ⟨k1_off22 k 1#32, k1_off22_inb k 1, k1_off30 k, k1_off30_inb k⟩, ⟨k1_off24 k 1#32, k1_off24_inb k 1, k1_off31 k, k1_off31_inb k⟩,
   ⟨k1_off26 k 1#32, k1_off26_inb k 1, k1_off32 k, k1_off32_inb k⟩, ⟨k1_off28 k 1#32, k1_off28_inb k 1, k1_off33 k, k1_off33_inb k⟩,
   ⟨k1_off22 k 2#32, k1_off22_inb k 2, k1_off34 k, k1_off34_inb k⟩, ⟨k1_off24 k 2#32, k1_off24_inb k 2, k1_off35 k, k1_off35_inb k⟩,
   ⟨k1_off26 k 2#32, k1_off26_inb k 2, k1_off36 k, k1_off36_inb k⟩, ⟨k1_off28 k 2#32, k1_off28_inb k 2, k1_off37 k, k1_off37_inb k⟩,
   ⟨k1_off22 k 3#32, k1_off22_inb k 3, k1_off38 k, k1_off38_inb k⟩, ⟨k1_off24 k 3#32, k1_off24_inb k 3, k1_off39 k, k1_off39_inb k⟩,
   ⟨k1_off26 k 3#32, k1_off26_inb k 3, k1_off40 k, k1_off40_inb k⟩, ⟨k1_off28 k 3#32, k1_off28_inb k 3, k1_off41 k, k1_off41_inb k⟩]

/-- The pieces of trip `k` of the third loop. -/
def pieces3 (k : Fin k1_t3_loop.trips) : List Pc :=
  [⟨k1_off42 k 0#32, k1_off42_inb k 0, k1_off43 k, k1_off43_inb k⟩, ⟨k1_off44 k 0#32, k1_off44_inb k 0, k1_off45 k, k1_off45_inb k⟩,
   ⟨k1_off46 k 0#32, k1_off46_inb k 0, k1_off47 k, k1_off47_inb k⟩, ⟨k1_off48 k 0#32, k1_off48_inb k 0, k1_off49 k, k1_off49_inb k⟩,
   ⟨k1_off42 k 1#32, k1_off42_inb k 1, k1_off50 k, k1_off50_inb k⟩, ⟨k1_off44 k 1#32, k1_off44_inb k 1, k1_off51 k, k1_off51_inb k⟩,
   ⟨k1_off46 k 1#32, k1_off46_inb k 1, k1_off52 k, k1_off52_inb k⟩, ⟨k1_off48 k 1#32, k1_off48_inb k 1, k1_off53 k, k1_off53_inb k⟩,
   ⟨k1_off42 k 2#32, k1_off42_inb k 2, k1_off54 k, k1_off54_inb k⟩, ⟨k1_off44 k 2#32, k1_off44_inb k 2, k1_off55 k, k1_off55_inb k⟩,
   ⟨k1_off46 k 2#32, k1_off46_inb k 2, k1_off56 k, k1_off56_inb k⟩, ⟨k1_off48 k 2#32, k1_off48_inb k 2, k1_off57 k, k1_off57_inb k⟩,
   ⟨k1_off42 k 3#32, k1_off42_inb k 3, k1_off58 k, k1_off58_inb k⟩, ⟨k1_off44 k 3#32, k1_off44_inb k 3, k1_off59 k, k1_off59_inb k⟩,
   ⟨k1_off46 k 3#32, k1_off46_inb k 3, k1_off60 k, k1_off60_inb k⟩, ⟨k1_off48 k 3#32, k1_off48_inb k 3, k1_off61 k, k1_off61_inb k⟩]

/-- The pieces of trip `k` of the fourth loop. -/
def pieces4 (k : Fin k1_t4_loop.trips) : List Pc :=
  [⟨k1_off62 k 0#32, k1_off62_inb k 0, k1_off63 k, k1_off63_inb k⟩, ⟨k1_off64 k 0#32, k1_off64_inb k 0, k1_off65 k, k1_off65_inb k⟩,
   ⟨k1_off66 k 0#32, k1_off66_inb k 0, k1_off67 k, k1_off67_inb k⟩, ⟨k1_off68 k 0#32, k1_off68_inb k 0, k1_off69 k, k1_off69_inb k⟩,
   ⟨k1_off62 k 1#32, k1_off62_inb k 1, k1_off70 k, k1_off70_inb k⟩, ⟨k1_off64 k 1#32, k1_off64_inb k 1, k1_off71 k, k1_off71_inb k⟩,
   ⟨k1_off66 k 1#32, k1_off66_inb k 1, k1_off72 k, k1_off72_inb k⟩, ⟨k1_off68 k 1#32, k1_off68_inb k 1, k1_off73 k, k1_off73_inb k⟩,
   ⟨k1_off62 k 2#32, k1_off62_inb k 2, k1_off74 k, k1_off74_inb k⟩, ⟨k1_off64 k 2#32, k1_off64_inb k 2, k1_off75 k, k1_off75_inb k⟩,
   ⟨k1_off66 k 2#32, k1_off66_inb k 2, k1_off76 k, k1_off76_inb k⟩, ⟨k1_off68 k 2#32, k1_off68_inb k 2, k1_off77 k, k1_off77_inb k⟩,
   ⟨k1_off62 k 3#32, k1_off62_inb k 3, k1_off78 k, k1_off78_inb k⟩, ⟨k1_off64 k 3#32, k1_off64_inb k 3, k1_off79 k, k1_off79_inb k⟩,
   ⟨k1_off66 k 3#32, k1_off66_inb k 3, k1_off80 k, k1_off80_inb k⟩, ⟨k1_off68 k 3#32, k1_off68_inb k 3, k1_off81 k, k1_off81_inb k⟩]

theorem places1 : ∀ k : Fin k1_t1_loop.trips, Places 0 k.val (pieces1 k) := by decide +kernel
theorem places2 : ∀ k : Fin k1_t2_loop.trips, Places 50 k.val (pieces2 k) := by decide +kernel
theorem places3 : ∀ k : Fin k1_t3_loop.trips, Places 100 k.val (pieces3 k) := by decide +kernel
theorem places4 : ∀ k : Fin k1_t4_loop.trips, Places 150 k.val (pieces4 k) := by decide +kernel

variable [FloatOps F]

/-- The vector subcore that runs the task at grid point `L`. -/
abbrev pV (L : grid1.Coords) : Proc τ := .scVector ((L 0).castLE hcore1) ((L 1).castLE hsub1)

section Loops

variable (L : grid1.Coords)

set_option maxRecDepth 65536 in
theorem body1_eq (k : Fin k1_t1_loop.trips) (acc : BitVec 32) :
    k1_t1_body (F := F) L tV (Memref.isWhole_whole _) iV (Memref.isWhole_whole _) oV (Memref.isWhole_whole _) sV (Memref.isWhole_whole _)
        aV (Memref.isWhole_whole _) bV (Memref.isWhole_whole _) cV (Memref.isWhole_whole _) cc1_scratch4 cc1_scratch5 cc1_scratch6 cc1_scoped0 cc1_scoped1 k acc
      = (copyAll (pV L) aV cV h_S1x16 shapeCasts_S1x16_S16 shapeCasts_S16_S1x16 (pieces1 k) >>= fun _ => pure 0#32) := rfl

set_option maxRecDepth 65536 in
theorem body2_eq (k : Fin k1_t2_loop.trips) (acc : BitVec 32) :
    k1_t2_body (F := F) L tV (Memref.isWhole_whole _) iV (Memref.isWhole_whole _) oV (Memref.isWhole_whole _) sV (Memref.isWhole_whole _)
        aV (Memref.isWhole_whole _) bV (Memref.isWhole_whole _) cV (Memref.isWhole_whole _) cc1_scratch4 cc1_scratch5 cc1_scratch6 cc1_scoped0 cc1_scoped1 k acc
      = (copyAll (pV L) bV cV h_S1x16 shapeCasts_S1x16_S16 shapeCasts_S16_S1x16 (pieces2 k) >>= fun _ => pure 0#32) := rfl

set_option maxRecDepth 65536 in
theorem body3_eq (k : Fin k1_t3_loop.trips) (acc : BitVec 32) :
    k1_t3_body (F := F) L tV (Memref.isWhole_whole _) iV (Memref.isWhole_whole _) oV (Memref.isWhole_whole _) sV (Memref.isWhole_whole _)
        aV (Memref.isWhole_whole _) bV (Memref.isWhole_whole _) cV (Memref.isWhole_whole _) cc1_scratch4 cc1_scratch5 cc1_scratch6 cc1_scoped0 cc1_scoped1 k acc
      = (copyAll (pV L) aV cV h_S1x16 shapeCasts_S1x16_S16 shapeCasts_S16_S1x16 (pieces3 k) >>= fun _ => pure 0#32) := rfl

set_option maxRecDepth 65536 in
theorem body4_eq (k : Fin k1_t4_loop.trips) (acc : BitVec 32) :
    k1_t4_body (F := F) L tV (Memref.isWhole_whole _) iV (Memref.isWhole_whole _) oV (Memref.isWhole_whole _) sV (Memref.isWhole_whole _)
        aV (Memref.isWhole_whole _) bV (Memref.isWhole_whole _) cV (Memref.isWhole_whole _) cc1_scratch4 cc1_scratch5 cc1_scratch6 cc1_scoped0 cc1_scoped1 k acc
      = (copyAll (pV L) bV cV h_S1x16 shapeCasts_S1x16_S16 shapeCasts_S16_S1x16 (pieces4 k) >>= fun _ => pure 0#32) := rfl

end Loops

/-! ## The arrays and their slabs -/

abbrev tLoc (d : Dev nD) : Loc nD τ sig := (SparseCore.T d).loc main_v3
abbrev iLoc (d : Dev nD) : Loc nD τ sig := (SparseCore.T d).loc main_v4
abbrev oLoc (d : Dev nD) : Loc nD τ sig := (SparseCore.T d).loc main_v5

theorem idiv : 32 ∣ S25088.size 0 := ⟨784, rfl⟩
theorem odiv : 32 ∣ S32x196x256.size 0 := ⟨1, rfl⟩
/-- Slab `w` of the row numbers (784 words), and of the result (one batch). -/
abbrev iSlab (w : Fin 32) : Finset S25088.Idx := (Rect.part (s := S25088) (a₀ := 0) idiv w).set
abbrev oSlab (w : Fin 32) : Finset S32x196x256.Idx := (Rect.part (s := S32x196x256) (a₀ := 0) odiv w).set

section Tile

variable (d : Dev nD) (L : grid1.Coords)

/-- The slab of the task at grid point `L`. -/
def wid (L : grid1.Coords) : Fin 32 :=
  ⟨2 * (L 1).val + (L 0).val, by have h0 : (L 0).val < 2 := (L 0).isLt; have h1 : (L 1).val < 16 := (L 1).isLt; omega⟩

abbrev thr (d : Dev nD) (L : grid1.Coords) : Thread nD τ := V d ((L 0).castLE hcore1) ((L 1).castLE hsub1)

abbrev iRectK (L : grid1.Coords) : Rect S25088 := Rect.unit (s := S25088) (k1_off1 L) S784.size (k1_off1_inb L)
abbrev oRectK (L : grid1.Coords) : Rect S32x196x256 := Rect.unit (s := S32x196x256) (k1_off82 L) S1x196x256.size (k1_off82_inb L)
abbrev iSlabK (L : grid1.Coords) : Memref sig .scVector .hbm S784 .i32 := (iV).slice (iRectK L) (fun _ => rfl)
abbrev oSlabK (L : grid1.Coords) : Memref sig .scVector .hbm S196x256 .f32 := ((oV).slice (oRectK L) (fun _ => rfl)).squeeze S196x256 squeezes_S1x196x256_S196x256

omit [FloatOps F] in
theorem iRectK_eq : iRectK L = Rect.part (s := S25088) (a₀ := 0) idiv (wid L) := by
  unfold iRectK Rect.part Rect.block
  congr 1 <;> funext a
  · rw [k1_off1_eq]
    match a with
    | 0 => simp [Shape.partIx, Shape.partSize, wid]; omega
  · match a with
    | 0 => simp [Shape.partSize]
omit [FloatOps F] in
theorem oRectK_eq : oRectK L = Rect.part (s := S32x196x256) (a₀ := 0) odiv (wid L) := by
  unfold oRectK Rect.part Rect.block
  congr 1 <;> funext a
  · rw [k1_off82_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_congr {s : Shape} {r r' : Rect s} (h : r = r') : r.set = r'.set := by rw [h]
omit [FloatOps F] in
theorem set_iSlabK : (iSlabK L).view.set = iSlab (wid L) := by
  show ((View.whole (main_v4_scv : Ref sig .scVector)).slice (iRectK L)).set = _
  rw [View.set_slice_whole]; exact set_congr (iRectK_eq L)
omit [FloatOps F] in
theorem set_oSlabK : (oSlabK L).view.set = oSlab (wid L) := by
  show (((View.whole (main_v5_scv : Ref sig .scVector)).slice (oRectK L)).reshape S196x256 squeezes_S1x196x256_S196x256.numel_eq).set = _
  rw [View.set_reshape, View.set_slice_whole]; exact set_congr (oRectK_eq L)

omit [FloatOps F] in
theorem pts_iSlabK (f : Buf (Elt F) (iLoc d)) :
    ((iSlabK L).view.loc (thr d L) ↦[(iSlabK L).view.set]{fullShare} f : sProp 𝕄) = iLoc d ↦[iSlab (wid L)]{fullShare} f := by
  rw [set_iSlabK]
omit [FloatOps F] in
theorem pts_oSlabK (f : Buf (Elt F) (oLoc d)) :
    ((oSlabK L).view.loc (thr d L) ↦[(oSlabK L).view.set]{fullShare} f : sProp 𝕄) = oLoc d ↦[oSlab (wid L)]{fullShare} f := by
  rw [set_oSlabK]

/-- The fetched list: word `j` of the scratch is word `784 · wid + j` of the row numbers. -/
theorem fetched (ib : S25088.Idx → Elt F .i32) (fs : S784.Idx → Elt F .i32) (j : S784.Idx) :
    (sV).view.read (Elt F) ((sV).view.write (Elt F) fs ((iSlabK L).view.read (Elt F) ib) Finset.univ) j = word ib (784 * (wid L).val + (j 0).val) := by
  rw [View.write_whole_univ]
  simp only [Memref.view_whole, View.read_whole]
  refine ((View.read_apply _ _).trans (cast_eq _ _)).trans (word_of_lt ib _ ?_).symm
  show _ = k1_off1 L 0 + 1 * (j 0).val
  rw [k1_off1_eq]
  show 784 * (2 * (L 1).val + (L 0).val) + (j 0).val = 1568 * (L 1).val + 784 * (L 0).val + 1 * (j 0).val
  omega

/-- The block written out: the result's slab is the gathered one. -/
theorem written (t : STab.Idx → Elt F .f32) (ix : SIx.Idx → BitVec 32) (f : S196x256.Idx → Elt F .f32) (hf : Done t ix (wid L).val 196 f)
    (ob : S32x196x256.Idx → Elt F .f32) (i : S32x196x256.Idx) (hi : i ∈ (oSlabK L).view.set) :
    (oSlabK L).view.write (Elt F) ob f Finset.univ i = gathered t ix i := by
  obtain ⟨y, -, rfl⟩ := Finset.mem_map.mp hi
  refine (View.write_emb_of_mem (v := (oSlabK L).view) ob f (Finset.mem_univ y)).trans ((cast_eq _ _).trans ?_)
  rw [hf y (y 0).isLt]
  let x : S1x196x256.Idx := Shape.reshapeEquiv squeezes_S1x196x256_S196x256.numel_eq y
  have hx : (S1x196x256.rowMajor x).val = (S196x256.rowMajor y).val := Shape.rowMajor_reshapeEquiv _ _
  have x0 : (x 0).val < 1 := (x 0).isLt
  have x1 : (x 1).val < 196 := (x 1).isLt
  have x2 : (x 2).val < 256 := (x 2).isLt
  have y1 : (y 1).val < 256 := (y 1).isLt
  rw [Shape.rowMajor_val_three, Shape.rowMajor_val_two] at hx
  change ((x 0).val * 196 + (x 1).val) * 256 + (x 2).val = (y 0).val * 256 + (y 1).val at hx
  show _ = slab t ix (k1_off82 L 0 + 1 * (x 0).val) (k1_off82 L 1 + 1 * (x 1).val) (k1_off82 L 2 + 1 * (x 2).val)
  rw [k1_off82_eq]
  show _ = slab t ix (2 * (L 1).val + (L 0).val + 1 * (x 0).val) (0 + 1 * (x 1).val) (0 + 1 * (x 2).val)
  congr 1
  · show 2 * (L 1).val + (L 0).val = _; omega
  · omega
  · omega

abbrev cell (d : Dev nD) (L : grid1.Coords) (s : DmaSem sig) : GSem nD τ sig := (thr d L, .dma s)

omit [FloatOps F] in
theorem mem_cell (s : DmaSem sig) (h : (SemLoc.dma s : SemLoc sig).isScoped .scVector = true) : cell d L s ∈ ownCells (thr d L) := mem_ownCells.mpr ⟨rfl, h⟩
omit [FloatOps F] in
theorem cell_ne {s s' : DmaSem sig} (h : (SemLoc.dma s' : SemLoc sig) ≠ .dma s) : cell d L s' ≠ cell d L s := fun e => h (congrArg Prod.snd e)

omit [FloatOps F] in
/-- The task's five DMA cells are among the subcore's own. -/
theorem ownSems0_V :
    (ownSems0 (thr d L) : sProp 𝕄)
      = iprop(semVal (cell d L cc1_scratch4.sem) 0 ∗ semVal (cell d L cc1_scratch5.sem) 0 ∗ semVal (cell d L cc1_scratch6.sem) 0
          ∗ semVal (cell d L cc1_scoped0.sem) 0 ∗ semVal (cell d L cc1_scoped1.sem) 0
          ∗ bigSep ((((((ownCells (thr d L)).erase (cell d L cc1_scratch4.sem)).erase (cell d L cc1_scratch5.sem)).erase (cell d L cc1_scratch6.sem)).erase
              (cell d L cc1_scoped0.sem)).erase (cell d L cc1_scoped1.sem)) fun g => semVal g 0) := by
  unfold SparseCore.Cfg.ownSems0
  rw [SparseCore.bigSep_erase' (mem_cell d L cc1_scratch4.sem (by decide)),
    SparseCore.bigSep_erase' (Finset.mem_erase.mpr ⟨cell_ne d L (by decide), mem_cell d L cc1_scratch5.sem (by decide)⟩),
    SparseCore.bigSep_erase' (Finset.mem_erase.mpr ⟨cell_ne d L (by decide), Finset.mem_erase.mpr ⟨cell_ne d L (by decide), mem_cell d L cc1_scratch6.sem (by decide)⟩⟩),
    SparseCore.bigSep_erase' (Finset.mem_erase.mpr ⟨cell_ne d L (by decide), Finset.mem_erase.mpr ⟨cell_ne d L (by decide), Finset.mem_erase.mpr ⟨cell_ne d L (by decide),
      mem_cell d L cc1_scoped0.sem (by decide)⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), mem_cell d L cc1_scoped1.sem (by decide)⟩⟩⟩⟩)]

omit [FloatOps F] in
theorem mem_buf (b : Ref sig .scVector) (h : ((pV L).devRef b).owner = .proc (pV L) := by rfl) : (pV L).devRef b ∈ ownRefs (τ := τ) (pV L) :=
  SparseCore.Cfg.mem_ownRefs_of_owner h
omit [FloatOps F] in
theorem buf_ne {b b' : Ref sig .scVector} (h : b' ≠ b) : (pV L).devRef b' ≠ (pV L).devRef b := fun e => h (Proc.devRef_injective _ e)

omit [FloatOps F] in
/-- The four scratch buffers are among the subcore's own. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ bigSep (((((ownRefs (τ := τ) (pV L)).erase ((pV L).devRef cc1_scratch0)).erase ((pV L).devRef cc1_scratch1)).erase ((pV L).devRef cc1_scratch2)).erase
              ((pV L).devRef cc1_scratch3)) fun b => iprop(∃ f, ((d, b) : Loc nD τ sig) ↦{fullShare} f)) := by
  unfold SparseCore.Cfg.ownBufs
  refine (SparseCore.bigSep_erase' (mem_buf L cc1_scratch0)).trans ?_
  rw [SparseCore.bigSep_erase' (Finset.mem_erase.mpr ⟨buf_ne L (by decide), mem_buf L cc1_scratch1⟩),
    SparseCore.bigSep_erase' (Finset.mem_erase.mpr ⟨buf_ne L (by decide), Finset.mem_erase.mpr ⟨buf_ne L (by decide), mem_buf L cc1_scratch2⟩⟩),
    SparseCore.bigSep_erase' (Finset.mem_erase.mpr ⟨buf_ne L (by decide), Finset.mem_erase.mpr ⟨buf_ne L (by decide), Finset.mem_erase.mpr ⟨buf_ne L (by decide),
      mem_buf L cc1_scratch3⟩⟩⟩)]

omit [FloatOps F] in
theorem creditA : ∑ j, (((aV).slice (Rect.unit (s := S200x128) ![0, 0] S200x128.size inb_S200x128_S200x128_0_0) (fun _ => rfl)).slice (S200x128.rowRect gathers_S2048x128_S200x128.axis' j) (S200x128.stride_rowRect gathers_S2048x128_S200x128.axis' j)).view.dmaCredit
    = ((aV).slice (Rect.unit (s := S200x128) ![0, 0] S200x128.size inb_S200x128_S200x128_0_0) (fun _ => rfl)).view.dmaCredit := by decide +kernel
omit [FloatOps F] in
theorem creditB : ∑ j, (((bV).slice (Rect.unit (s := S200x128) ![0, 0] S200x128.size inb_S200x128_S200x128_0_0) (fun _ => rfl)).slice (S200x128.rowRect gathers_S2048x128_S200x128.axis' j) (S200x128.stride_rowRect gathers_S2048x128_S200x128.axis' j)).view.dmaCredit
    = ((bV).slice (Rect.unit (s := S200x128) ![0, 0] S200x128.size inb_S200x128_S200x128_0_0) (fun _ => rfl)).view.dmaCredit := by decide +kernel
omit [FloatOps F] in
theorem creditB' : ∑ j, (((bV).slice (Rect.unit (s := S200x128) ![0, 0] S184x128.size inb_S200x128_S184x128_0_0) (fun _ => rfl)).slice (S184x128.rowRect gathers_S2048x128_S184x128.axis' j) (S184x128.stride_rowRect gathers_S2048x128_S184x128.axis' j)).view.dmaCredit
    = ((bV).slice (Rect.unit (s := S200x128) ![0, 0] S184x128.size inb_S200x128_S184x128_0_0) (fun _ => rfl)).view.dmaCredit := by decide +kernel

set_option maxHeartbeats 4000000 in
/-- The task at grid point `L`: from its slab of the row numbers, a share of the table and its slab of the result, whatever
    that holds, to the same with the result's slab gathered. -/
theorem tile_body (hF : (K (F := F)).Facts) (q : PosShare TreeShare) (tb : Buf (Elt F) (tLoc d)) (ib : Buf (Elt F) (iLoc d)) (ob : Buf (Elt F) (oLoc d))
    (hix : ∀ n, (word (ib : S25088.Idx → BitVec 32) n).toNat < 2048) (O : CellTallies nD τ sig (HIx 1)) (W : Waits sig (HIx 1)) (hO : ∀ g, O g none = 0) :
    iprop(levAts (K (F := F)).L (K (F := F)).lev ∗ emp
        ∗ ((iLoc d ↦[iSlab (wid L)]{fullShare} ib) ∗ (tLoc d ↦{q} tb) ∗ (oLoc d ↦[oSlab (wid L)]{fullShare} ob))
        ∗ scopedBufs (thr d L) ∗ scopedSems0 (thr d L) ∗ owes (thr d L) O W)
      ⊢ (wp frame (wpE (defs₀ (F := F)) 𝒱₀ (thr d L) none) Set.univ
          (cc1__gather_body L tV (Memref.isWhole_whole _) iV (Memref.isWhole_whole _) oV (Memref.isWhole_whole _) sV (Memref.isWhole_whole _)
            aV (Memref.isWhole_whole _) bV (Memref.isWhole_whole _) cV (Memref.isWhole_whole _) cc1_scratch4 cc1_scratch5 cc1_scratch6 cc1_scoped0 cc1_scoped1)
          fun _ => iprop(((iLoc d ↦[iSlab (wid L)]{fullShare} ib) ∗ (tLoc d ↦{q} tb) ∗ (oLoc d ↦[oSlab (wid L)]{fullShare} gathered tb ib))
            ∗ scopedBufs (thr d L) ∗ scopedSems0 (thr d L)
            ∗ ∃ W', ⌜∀ p ∈ W', p ∈ W ∨ p.2 = none⌝ ∗ owes (thr d L) O W') : sProp 𝕄) := by
  simp only [cc1__gather_body_eq_skeleton]; unfold cc1__gather_body_skel
  rw [k1_part17_eq_skeleton, k1_part18_eq_skeleton]
  rw [(K (F := F)).scopedBufs_V hF d ((L 0).castLE hcore1) ((L 1).castLE hsub1),
    SparseCore.Cfg.scopedSems0_V (Val := Elt F) d ((L 0).castLE hcore1) ((L 1).castLE hsub1), ownSems0_V, ownBufs_V]
  iintro ⟨#Hlv, -, ⟨Hi, Ht, Ho⟩, ⟨⟨%fs, Hs⟩, ⟨%fa, Ha⟩, ⟨%fb, Hb⟩, ⟨%fc, Hc⟩, Hbufs⟩, ⟨Hm4, Hm5, Hm6, Hm0, Hm1, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iSlabK (F := F) d L _).symm) $$ Hi
  ihave Ho' := (Entails.of_eq (pts_oSlabK (F := F) d L _).symm) $$ Ho
  ihave Hs' := (Entails.of_eq (show ((thr d L).loc cc1_scratch0 ↦{fullShare} fs : sProp 𝕄) = (sV).view.loc (thr d L) ↦{fullShare} fs from rfl)) $$ Hs
  unfold k1_part17_skel k1_part18_skel
  sl_exec
  have hs : ∀ j, (sV).view.read (Elt F) ((sV).view.write (Elt F) fs (tile_body.sl.dma0 d L ib) Finset.univ) j = word (ib : S25088.Idx → BitVec 32) (784 * (wid L).val + (j 0).val) :=
    fetched L ib fs
  generalize (sV).view.write (Elt F) fs (tile_body.sl.dma0 d L ib) Finset.univ = s at hs
  ihave Ht2 := (pointsTo_share (PosShare.mem_left_op_right q)).1 $$ Ht
  icases Ht2 with ⟨Htl, Htr⟩
  ihave Hs2 := (pointsTo_share (PosShare.mem_left_op_right fullShare)).1 $$ Hs'
  icases Hs2 with ⟨Hsl, Hsr⟩
  -- chunks 0 and 1 started, chunk 0 awaited and copied
  iapply (wp_start countersEmb (thr d L) 𝒱₀ none tV aV sV (o := 0) rfl inb_S2048x128_S2048x128_0_0 inb_S200x128_S200x128_0_0 inb_S784_S200_0 (q := q.left)
    (q' := fullShare.left) (tb := tb) (s := s) (f := fa) (default : HIx 1) creditA (by decide) hs hix) $$ [Htl Hsl Ha Hm4]
  · isplitl [Htl]; · iexact Htl
    isplitl [Hsl]; · iexact Hsl
    isplitl [Ha]; · iexact Ha
    iexact Hm4
  iintro Hpa
  sl_exec
  iapply (wp_start countersEmb (thr d L) 𝒱₀ none tV bV sV (o := 50) rfl inb_S2048x128_S2048x128_0_0 inb_S200x128_S200x128_0_0 inb_S784_S200_200 (q := q.right)
    (q' := fullShare.right) (tb := tb) (s := s) (f := fb) (default : HIx 1) creditB (by decide) hs hix) $$ [Htr Hsr Hb Hm5]
  · isplitl [Htr]; · iexact Htr
    isplitl [Hsr]; · iexact Hsr
    isplitl [Hb]; · iexact Hb
    iexact Hm5
  iintro Hpb
  sl_exec
  iapply (wp_end countersEmb (thr d L) 𝒱₀ none (default : HIx 1)) $$ [Hpa HO]
  · isplitl [Hpa]; · iexact Hpa
    isplitl [HO]; · iexact HO
    iapply (Transfers.MayWaits.elim (SemLoc.dma cc1_scratch4.sem)) $$ Hmw
  try unfold Back
  iintro ⟨⟨⟨%g1, %hg1, Hg1⟩, Htl, Hsl⟩, Hm4, HO⟩
  sl_exec
  rw [bind_assoc]
  iapply (Scf.wp_for_bind _ _ _ _ _ _ _ _ _ (TripInv (thr d L) aV cV tb ib (wid L).val 0 g1) fun k acc => by
      rw [body1_eq]
      exact trip (thr d L) aV cV 𝒱₀ none h_S1x16 shapeCasts_S1x16_S16 shapeCasts_S16_S1x16 (places1 k) (R := 200) (by have : k.val < 50 := k.isLt; omega) hg1 acc) $$ [Hg1 Hc]
  · unfold TripInv
    isplitl [Hg1]; · iexact Hg1
    iexists _; isplitr
    swap; · iexact Hc
    ipureintro; exact fun y hy => absurd hy (Nat.not_lt_zero _)
  unfold TripInv
  iintro %acc ⟨Hg1, %f1, %hf1, Hc⟩
  replace hf1 : Done tb ib (wid L).val 50 ((cV).view.read (Elt F) f1) := hf1
  sl_exec
  -- chunk 2 started, chunk 1 awaited and copied
  iapply (wp_start countersEmb (thr d L) 𝒱₀ none tV aV sV (o := 100) rfl inb_S2048x128_S2048x128_0_0 inb_S200x128_S200x128_0_0 inb_S784_S200_400 (q := q.left)
    (q' := fullShare.left) (tb := tb) (s := s) (f := g1) (default : HIx 1) creditA (by decide) hs hix) $$ [Htl Hsl Hg1 Hm4]
  · isplitl [Htl]; · iexact Htl
    isplitl [Hsl]; · iexact Hsl
    isplitl [Hg1]; · iexact Hg1
    iexact Hm4
  iintro Hpa
  sl_exec
  iapply (wp_end countersEmb (thr d L) 𝒱₀ none (default : HIx 1)) $$ [Hpb HO]
  · isplitl [Hpb]; · iexact Hpb
    isplitl [HO]; · iexact HO
    iapply (Transfers.MayWaits.elim (SemLoc.dma cc1_scratch5.sem)) $$ Hmw
  try unfold Back
  iintro ⟨⟨⟨%g2, %hg2, Hg2⟩, Htr, Hsr⟩, Hm5, HO⟩
  sl_exec
  rw [bind_assoc]
  iapply (Scf.wp_for_bind _ _ _ _ _ _ _ _ _ (TripInv (thr d L) bV cV tb ib (wid L).val 50 g2) fun k acc => by
      rw [body2_eq]
      exact trip (thr d L) bV cV 𝒱₀ none h_S1x16 shapeCasts_S1x16_S16 shapeCasts_S16_S1x16 (places2 k) (R := 200) (by have : k.val < 50 := k.isLt; omega) hg2 acc) $$ [Hg2 Hc]
  · unfold TripInv
    isplitl [Hg2]; · iexact Hg2
    iexists _; isplitr
    swap; · iexact Hc
    ipureintro; exact hf1
  unfold TripInv
  iintro %acc ⟨Hg2, %f2, %hf2, Hc⟩
  replace hf2 : Done tb ib (wid L).val 100 ((cV).view.read (Elt F) f2) := hf2
  sl_exec
  -- chunk 3 started, chunks 2 and 3 awaited and copied
  iapply (wp_start countersEmb (thr d L) 𝒱₀ none tV bV sV (o := 150) rfl inb_S2048x128_S2048x128_0_0 inb_S200x128_S184x128_0_0 inb_S784_S184_600 (q := q.right)
    (q' := fullShare.right) (tb := tb) (s := s) (f := g2) (default : HIx 1) creditB' (by decide) hs hix) $$ [Htr Hsr Hg2 Hm6]
  · isplitl [Htr]; · iexact Htr
    isplitl [Hsr]; · iexact Hsr
    isplitl [Hg2]; · iexact Hg2
    iexact Hm6
  iintro Hpb
  sl_exec
  iapply (wp_end countersEmb (thr d L) 𝒱₀ none (default : HIx 1)) $$ [Hpa HO]
  · isplitl [Hpa]; · iexact Hpa
    isplitl [HO]; · iexact HO
    iapply (Transfers.MayWaits.elim (SemLoc.dma cc1_scratch4.sem)) $$ Hmw
  try unfold Back
  iintro ⟨⟨⟨%g3, %hg3, Hg3⟩, Htl, Hsl⟩, Hm4, HO⟩
  sl_exec
  rw [bind_assoc]
  iapply (Scf.wp_for_bind _ _ _ _ _ _ _ _ _ (TripInv (thr d L) aV cV tb ib (wid L).val 100 g3) fun k acc => by
      rw [body3_eq]
      exact trip (thr d L) aV cV 𝒱₀ none h_S1x16 shapeCasts_S1x16_S16 shapeCasts_S16_S1x16 (places3 k) (R := 200) (by have : k.val < 50 := k.isLt; omega) hg3 acc) $$ [Hg3 Hc]
  · unfold TripInv
    isplitl [Hg3]; · iexact Hg3
    iexists _; isplitr
    swap; · iexact Hc
    ipureintro; exact hf2
  unfold TripInv
  iintro %acc ⟨Hg3, %f3, %hf3, Hc⟩
  replace hf3 : Done tb ib (wid L).val 150 ((cV).view.read (Elt F) f3) := hf3
  sl_exec
  iapply (wp_end countersEmb (thr d L) 𝒱₀ none (default : HIx 1)) $$ [Hpb HO]
  · isplitl [Hpb]; · iexact Hpb
    isplitl [HO]; · iexact HO
    iapply (Transfers.MayWaits.elim (SemLoc.dma cc1_scratch6.sem)) $$ Hmw
  try unfold Back
  iintro ⟨⟨⟨%g4, %hg4, Hg4⟩, Htr, Hsr⟩, Hm6, HO⟩
  sl_exec
  rw [bind_assoc]
  iapply (Scf.wp_for_bind _ _ _ _ _ _ _ _ _ (TripInv (thr d L) bV cV tb ib (wid L).val 150 g4) fun k acc => by
      rw [body4_eq]
      exact trip (thr d L) bV cV 𝒱₀ none h_S1x16 shapeCasts_S1x16_S16 shapeCasts_S16_S1x16 (places4 k) (R := 184) (by have : k.val < 46 := k.isLt; omega) hg4 acc) $$ [Hg4 Hc]
  · unfold TripInv
    isplitl [Hg4]; · iexact Hg4
    iexists _; isplitr
    swap; · iexact Hc
    ipureintro; exact hf3
  unfold TripInv
  iintro %acc ⟨Hg4, %f4, %hf4, Hc⟩
  replace hf4 : Done tb ib (wid L).val 196 ((cV).view.read (Elt F) f4) := hf4
  sl_exec
  sl_step
  ihave Ht := (pointsTo_share (PosShare.mem_left_op_right q)).2 $$ [Htl Htr]; · isplitl [Htl] <;> iassumption
  ihave Hs := (pointsTo_share (PosShare.mem_left_op_right fullShare)).2 $$ [Hsl Hsr]; · isplitl [Hsl] <;> iassumption
  have hw : ∀ i ∈ (oSlabK L).view.set, (oSlabK L).view.writes (Elt F) ob [⟨Rect.whole S196x256, tile_body.sl.dma0_1 d L f4⟩] i = gathered tb ib i := by
    intro i hi
    rw [← View.write_univ_eq_writes_whole, View.writes_nil]
    exact written L tb ib (tile_body.sl.dma0_1 d L f4) hf4 ob i hi
  ihave Ho := (Entails.of_eq ((pointsTo_congr hw).trans (pts_oSlabK (F := F) d L (gathered tb ib)))) $$ Ho'
  isplitl [Hi' Ht Ho]
  · isplitl [Hi']; · iapply (Entails.of_eq (pts_iSlabK (F := F) d L _)); iexact Hi'
    isplitl [Ht]; · iexact Ht
    iexact Ho
  isplitl [Hs Hg3 Hg4 Hc Hbufs]
  · isplitl [Hs]; · iexists _; iexact Hs
    isplitl [Hg3]; · iexists _; iexact Hg3
    isplitl [Hg4]; · iexists _; iexact Hg4
    isplitl [Hc]; · iexists _; iexact Hc
    iexact Hbufs
  isplitl [Hm4 Hm5 Hm6 Hm0 Hm1 Hsems]
  · isplitl [Hm4]; · iexact Hm4
    isplitl [Hm5]; · iexact Hm5
    isplitl [Hm6]; · iexact Hm6
    isplitl [Hm0]; · iexact Hm0
    isplitl [Hm1]; · iexact Hm1
    iexact Hsems
  iexists _; isplitr
  swap; · iexact HO
  ipureintro; intro p hp
  simp only [Finset.mem_insert] at hp
  rcases hp with hp | hp | hp | hp | hp | hp | hp
  iterate 6 exact .inr (hp ▸ rfl)
  exact .inl hp

/-! ## The obligation -/

/-- The grid point of core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s) tV (Memref.isWhole_whole _) iV (Memref.isWhole_whole _) oV (Memref.isWhole_whole _)
          sV (Memref.isWhole_whole _) aV (Memref.isWhole_whole _) bV (Memref.isWhole_whole _) cV (Memref.isWhole_whole _)
          cc1_scratch4 cc1_scratch5 cc1_scratch6 cc1_scoped0 cc1_scoped1) ⟨⟩ c s := rfl

end Tile

end Cert.Proof.VqTile

end
-- ==== Proof.DistBody.lean ====
/-
  The distance kernel's body.
-/
module

public import proofs.«01_k».proof.Proof.VqGhost
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Proof.DistBody

open Cert.KernelIdeal Cert.KernelIdeal.Gen Cert.Proof.VqGhost
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What the body computes -/

/-- The distances of 784 query pieces to 512 table rows, the table transposed: |x|² − 2 x·w + |w|². -/
def dist (x : FVec F S784x64 .f32) (w : FVec F S64x512 .f32) : FVec F S784x512 .f32 :=
  addf (subf (broadcastTo S784x512 (shapeCast S784x1 (multiReduction .add [1] S784 (mulf x x) 0x00000000#32 reduces_S784x64_S784 (.inl rfl) rfl) shapeCasts_S784_S784x1) broadcasts_S784x1_S784x512)
      (mulf (broadcast S784x512 (Scalar.ofBits .f32 0x40000000#32))
        (matmul dot_S784x64_S64x512_S784x512_1_0_0_1_n_n none x w (constant S784x512 .f32 0x00000000#32))))
    (broadcastTo S784x512 (shapeCast S1x512 (multiReduction .add [0] S512 (mulf w w) 0x00000000#32 reduces_S64x512_S512 (.inl rfl) rfl) shapeCasts_S512_S1x512) broadcasts_S1x512_S784x512)

/-- The least distance of each piece. -/
def least (d : FVec F S784x512 .f32) : FVec F S784x1 .f32 :=
  shapeCast S784x1 (multiReduction .minimumf [1] S784 d 0x7F800000#32 reduces_S784x512_S784 (.inl rfl) rfl) shapeCasts_S784_S784x1

/-- The first table row at the least distance, counted from `o`. -/
def nearest (o : BitVec 32) (d : FVec F S784x512 .f32) : IVec S784x1 32 :=
  shapeCast S784x1 (addi (multiReductionI .minsi [1] S784
      (select (cmpf .oeq d (broadcastTo S784x512 (least d) broadcasts_S784x1_S784x512)) (iota .tc S784x512 32 [1] iota_S784x512_d1_w32) (broadcast S784x512 512#32))
      2147483647#32 reduces_S784x512_S784 rfl) (broadcast S784 o)) shapeCasts_S784_S784x1

/-- The sum of the least distances. -/
def total (d : FVec F S784x512 .f32) : F .f32 :=
  extractAt ![0, 0, 0] (shapeCast S1x1x1 (multiReduction .add [1, 2] S1 (shapeCast S1x784x1 (least d) shapeCasts_S784x1_S1x784x1) 0x00000000#32 reduces_S1x784x1_S1 (.inl rfl) rfl) shapeCasts_S1_S1x1x1) inpos_S1x1x1_p0_0_0

/-- The condition of the body's one branch: the first grid point. -/
abbrev isFirst (i : grid0.Coords) : Prop := (Scalar.cmpi .ne (Scalar.extui (Scalar.cmpi .eq (BitVec.ofNat 32 (i 0).val) 0#32)) 0#32) = 1#1

theorem isFirst_iff : ∀ t : Fin cfg0.N, isFirst (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [isFirst, e0]
    word_cmp
   : ∀ t : Fin grid0.N, isFirst (grid0.coords t) ↔ t.val % 8 = 0)

/-- A block of queries' piece `k`: columns 64 k to 64 k + 63. -/
def part (k : Fin 4) (x : Vec F S784x256 .f32) : FVec F S784x64 .f32 :=
  match k with
  | 0 => extractStridedSlice S784x64 ![0, 0] (shapeCast S784x256 x shapeCasts_S784x256_S784x256) slices_S784x256_o0_0_S784x64
  | 1 => extractStridedSlice S784x64 ![0, 64] (shapeCast S784x256 x shapeCasts_S784x256_S784x256) slices_S784x256_o0_64_S784x64
  | 2 => extractStridedSlice S784x64 ![0, 128] (shapeCast S784x256 x shapeCasts_S784x256_S784x256) slices_S784x256_o0_128_S784x64
  | 3 => extractStridedSlice S784x64 ![0, 192] (shapeCast S784x256 x shapeCasts_S784x256_S784x256) slices_S784x256_o0_192_S784x64

/-- The transposed table's block `k`: columns 512 k to 512 k + 511. -/
def tabl (k : Fin 4) (w : Vec F S64x2048 .f32) : FVec F S64x512 .f32 :=
  match k with
  | 0 => shapeCast S64x512 (View.ld w (Rect.unit (s := S64x2048) ![0, 0] S64x512.size inb_S64x2048_S64x512_0_0)) shapeCasts_S64x512_S64x512
  | 1 => shapeCast S64x512 (View.ld w (Rect.unit (s := S64x2048) ![0, 512] S64x512.size inb_S64x2048_S64x512_0_512)) shapeCasts_S64x512_S64x512
  | 2 => shapeCast S64x512 (View.ld w (Rect.unit (s := S64x2048) ![0, 1024] S64x512.size inb_S64x2048_S64x512_0_1024)) shapeCasts_S64x512_S64x512
  | 3 => shapeCast S64x512 (View.ld w (Rect.unit (s := S64x2048) ![0, 1536] S64x512.size inb_S64x2048_S64x512_0_1536)) shapeCasts_S64x512_S64x512

/-- The distances of the block's pieces `k` to the table's block `k`. -/
def distOf (k : Fin 4) (x : Vec F S784x256 .f32) (w : Vec F S64x2048 .f32) : FVec F S784x512 .f32 := dist (part k x) (tabl k w)

/-- The rows found for a block: column `k` holds those of the pieces `k`. -/
def cols (x : Vec F S784x256 .f32) (w : Vec F S64x2048 .f32) : Vec F S784x4 .i32 := fun y =>
  nearest (BitVec.ofNat 32 (512 * (y 1).val)) (distOf (y 1) x w) (fun a => match a with | ⟨0, _⟩ => y 0 | ⟨1, _⟩ => (0 : Fin 1))

/-- The sum of a block's least distances. -/
def lossOf (x : Vec F S784x256 .f32) (w : Vec F S64x2048 .f32) : F .f32 :=
  Scalar.addf (Scalar.addf (Scalar.addf (Scalar.addf (Scalar.ofBits .f32 0x00000000#32) (total (distOf 0 x w))) (total (distOf 1 x w))) (total (distOf 2 x w))) (total (distOf 3 x w))

/-- The loss accumulator before the first block, -/
def zero1 : Vec F S1x1 .f32 := broadcast S1x1 (Scalar.ofBits .f32 0x00000000#32)

/-- and one block's step. -/
def accum (x : Vec F S784x256 .f32) (w : Vec F S64x2048 .f32) (a : Vec F S1x1 .f32) : Vec F S1x1 .f32 :=
  addf (shapeCast S1x1 a shapeCasts_S1x1_S1x1) (broadcast S1x1 (lossOf x w))

omit [FloatOps F] in
/-- Four columns stored one after the other, read back. -/
theorem read_cols (v : View sig .tc .vmem S784x4 .i32) (f : v.ty.Contents (Elt F)) (c0 c1 c2 c3 : S784x1.Idx → BitVec 32)
    (G : S784x4.Idx → BitVec 32) (h0 : ∀ x : S784x1.Idx, c0 x = G ((Rect.unit (s := S784x4) ![0, 0] S784x1.size inb_S784x4_S784x1_0_0).emb x))
    (h1 : ∀ x : S784x1.Idx, c1 x = G ((Rect.unit (s := S784x4) ![0, 1] S784x1.size inb_S784x4_S784x1_0_1).emb x))
    (h2 : ∀ x : S784x1.Idx, c2 x = G ((Rect.unit (s := S784x4) ![0, 2] S784x1.size inb_S784x4_S784x1_0_2).emb x))
    (h3 : ∀ x : S784x1.Idx, c3 x = G ((Rect.unit (s := S784x4) ![0, 3] S784x1.size inb_S784x4_S784x1_0_3).emb x)) :
    v.read (Elt F) (v.writes (Elt F) f [⟨Rect.unit (s := S784x4) ![0, 3] S784x1.size inb_S784x4_S784x1_0_3, c3⟩, ⟨Rect.unit (s := S784x4) ![0, 2] S784x1.size inb_S784x4_S784x1_0_2, c2⟩,
      ⟨Rect.unit (s := S784x4) ![0, 1] S784x1.size inb_S784x4_S784x1_0_1, c1⟩, ⟨Rect.unit (s := S784x4) ![0, 0] S784x1.size inb_S784x4_S784x1_0_0, c0⟩]) = G := by
  funext y
  refine View.read_writes_apply_of_pieces v f G _ ?_ y (View.cover_of_tiledL (s := S784x4) _ S784x1.size (by sl_kernel_rfl) y)
  intro p hp
  simp only [List.mem_cons, List.not_mem_nil, or_false] at hp
  rcases hp with rfl | rfl | rfl | rfl
  exacts [h3, h2, h1, h0]

theorem emb0 {o : ℕ} (inb : ∀ a, (![0, o] : Fin 2 → ℕ) a + S784x1.size a ≤ S784x4.size a) (x : S784x1.Idx) :
    ((Rect.unit (s := S784x4) ![0, o] S784x1.size inb).emb x 0).val = (x 0).val := by
  show 0 + 1 * (x 0).val = _; omega
theorem emb1 {o : ℕ} (inb : ∀ a, (![0, o] : Fin 2 → ℕ) a + S784x1.size a ≤ S784x4.size a) (x : S784x1.Idx) :
    ((Rect.unit (s := S784x4) ![0, o] S784x1.size inb).emb x 1).val = o := by
  have : (x 1).val < 1 := (x 1).isLt
  show o + 1 * (x 1).val = _; omega

theorem cols_at (k : Fin 4) (x : Vec F S784x256 .f32) (w : Vec F S64x2048 .f32) (z : S784x1.Idx) (y : S784x4.Idx) (h0 : (y 0).val = (z 0).val) (h1 : (y 1).val = k.val) :
    cols x w y = nearest (BitVec.ofNat 32 (512 * k.val)) (distOf k x w) z := by
  obtain rfl : y 1 = k := Fin.ext h1
  unfold cols
  congr 1
  funext a
  match a with
  | ⟨0, _⟩ => exact Fin.ext h0
  | ⟨1, _⟩ => exact (Subsingleton.elim (α := Fin 1) _ _)

set_option maxHeartbeats 1000000 in
/-- The body at the first grid point: from the two inputs' blocks, whatever the outputs hold, to the rows found and the block's loss. -/
theorem run_first (c : Dev nD) (i : grid0.Coords) (arg1 : Memref sig .tc .vmem S784x256 .f32) (harg1 : arg1.IsWhole) (arg2 : Memref sig .tc .vmem S64x2048 .f32) (harg2 : arg2.IsWhole) (arg3 : Memref sig .tc .vmem S784x4 .i32) (harg3 : arg3.IsWhole) (arg4 : Memref sig .tc .vmem S1x1 .f32) (harg4 : arg4.IsWhole) (hc0 : isFirst i)
    (x0 : Vec F S784x256 .f32) (x1 : Vec F S64x2048 .f32) (K : PUnit → sProp (MT nD τ sig (HIx 1) (Elt F) ℕ UU ℕ)) :
    (iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ owns (c : Thread nD τ) arg3 fullShare (cols x0 x1) ∗ owns (c : Thread nD τ) arg4 fullShare (accum x0 x1 zero1)) -∗ K ⟨⟩)) : sProp 𝕄)
          ⊢ wp frame (wpE (defs₀ (F := F)) Variants.none c none) Set.univ (cc0__dist_body i arg1 harg1 arg2 harg2 arg3 harg3 arg4 harg4) K := by
  simp only [cc0__dist_body_eq_skeleton]; unfold cc0__dist_body_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%d3, %f3, -, H3⟩, Hk⟩
  have e0 : ∀ inb, View.readAt (Elt F) arg1.view (Rect.unit (s := S784x256) ![0, 0] S784x256.size inb).toLoadRect f0 = x0 :=
    fun inb => (View.readAt_full arg1.view f0 inb).trans hf0
  have e1 : ∀ r : Rect S64x2048, View.readAt (Elt F) arg2.view r.toLoadRect f1 = View.ld x1 r := fun r => by
    rw [View.readAt_eq_ld, hf1]
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine read_cols arg3.view f2 _ _ _ _ (cols x0 x1) (fun x => ?_) (fun x => ?_) (fun x => ?_) (fun x => ?_)
    · refine Eq.trans ?_ (cols_at 0 x0 x1 x _ (emb0 _ x) (emb1 _ x)).symm; rfl
    · refine Eq.trans ?_ (cols_at 1 x0 x1 x _ (emb0 _ x) (emb1 _ x)).symm; rfl
    · refine Eq.trans ?_ (cols_at 2 x0 x1 x _ (emb0 _ x) (emb1 _ x)).symm; rfl
    · refine Eq.trans ?_ (cols_at 3 x0 x1 x _ (emb0 _ x) (emb1 _ x)).symm; rfl
  iexists _; isplitr
  swap; · iexact H3
  ipureintro
  refine (View.read_writes_full arg4.view f3 inb_S1x1_S1x1_0_0 _ _).trans ?_
  have e4 : run_first.sl.v141 (F := F) c arg4 = zero1 := by
    unfold run_first.sl.v141
    exact View.readCov_full arg4.view inb_S1x1_S1x1_0_0 inb_S1x1_S1x1_0_0 _ []
  rw [e4]; rfl

set_option maxHeartbeats 1000000 in
/-- The body at a later grid point: from the two inputs' blocks and the loss so far, to the rows found and the block's loss. -/
theorem run_later (c : Dev nD) (i : grid0.Coords) (arg1 : Memref sig .tc .vmem S784x256 .f32) (harg1 : arg1.IsWhole) (arg2 : Memref sig .tc .vmem S64x2048 .f32) (harg2 : arg2.IsWhole) (arg3 : Memref sig .tc .vmem S784x4 .i32) (harg3 : arg3.IsWhole) (arg4 : Memref sig .tc .vmem S1x1 .f32) (harg4 : arg4.IsWhole) (hc0 : ¬isFirst i)
    (x0 : Vec F S784x256 .f32) (x1 : Vec F S64x2048 .f32) (x3 : Vec F S1x1 .f32) (K : PUnit → sProp (MT nD τ sig (HIx 1) (Elt F) ℕ UU ℕ)) :
    (iprop(owns (c : Thread nD τ) arg1 fullShare x0 ∗ owns (c : Thread nD τ) arg2 fullShare x1 ∗ (∃ d, owns (c : Thread nD τ) arg3 fullShare d) ∗ owns (c : Thread nD τ) arg4 fullShare x3
            ∗ (iprop(owns (c : Thread nD τ) arg1 fullShare x0 ∗ owns (c : Thread nD τ) arg2 fullShare x1 ∗ owns (c : Thread nD τ) arg3 fullShare (cols x0 x1) ∗ owns (c : Thread nD τ) arg4 fullShare (accum x0 x1 x3)) -∗ K ⟨⟩)) : sProp 𝕄)
          ⊢ wp frame (wpE (defs₀ (F := F)) Variants.none c none) Set.univ (cc0__dist_body i arg1 harg1 arg2 harg2 arg3 harg3 arg4 harg4) K := by
  simp only [cc0__dist_body_eq_skeleton]; unfold cc0__dist_body_skel
  simp only [k0_part1_eq_skeleton, k0_part2_eq_skeleton, k0_part3_eq_skeleton]
  unfold owns
  iintro ⟨⟨%f0, %hf0, H0⟩, ⟨%f1, %hf1, H1⟩, ⟨%d2, %f2, -, H2⟩, ⟨%f3, %hf3, H3⟩, Hk⟩
  have e0 : ∀ inb, View.readAt (Elt F) arg1.view (Rect.unit (s := S784x256) ![0, 0] S784x256.size inb).toLoadRect f0 = x0 :=
    fun inb => (View.readAt_full arg1.view f0 inb).trans hf0
  have e1 : ∀ r : Rect S64x2048, View.readAt (Elt F) arg2.view r.toLoadRect f1 = View.ld x1 r := fun r => by
    rw [View.readAt_eq_ld, hf1]
  have e4 : ∀ inb, View.readAt (Elt F) arg4.view (Rect.unit (s := S1x1) ![0, 0] S1x1.size inb).toLoadRect f3 = x3 :=
    fun inb => (View.readAt_full arg4.view f3 inb).trans hf3
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine read_cols arg3.view f2 _ _ _ _ (cols x0 x1) (fun x => ?_) (fun x => ?_) (fun x => ?_) (fun x => ?_)
    · refine Eq.trans ?_ (cols_at 0 x0 x1 x _ (emb0 _ x) (emb1 _ x)).symm; rfl
    · refine Eq.trans ?_ (cols_at 1 x0 x1 x _ (emb0 _ x) (emb1 _ x)).symm; rfl
    · refine Eq.trans ?_ (cols_at 2 x0 x1 x _ (emb0 _ x) (emb1 _ x)).symm; rfl
    · refine Eq.trans ?_ (cols_at 3 x0 x1 x _ (emb0 _ x) (emb1 _ x)).symm; rfl
  iexists _; isplitr
  swap; · iexact H3
  ipureintro
  refine (View.read_writes_full arg4.view f3 inb_S1x1_S1x1_0_0 _ _).trans ?_
  rfl

end Cert.Proof.DistBody

end
-- ==== Proof.VqRegion.lean ====
/-
  The distance call as a region of the whole kernel's @main: its pipeline's proof data from any contents of the arrays,
  its body at every point, and what its two result arrays hold at the end.
-/
module

public import proofs.«01_k».proof.Proof.DistBody
public import proofs.«01_k».proof.Proof.VqTile
public import Idealize.ShloMosaic.Lib.Pipeline.Regions
public import Idealize.ShloMosaic.Lib.Pipeline.RegionArrays
public import Idealize.ShloMosaic.Lib.Pipeline.RegionsLoop
public import Idealize.ShloMosaic.Lib.Pipeline.Value
public import Idealize.ShloMosaic.Lib.Pipeline.Frame

@[expose] public section

set_option maxRecDepth 16384

noncomputable section

namespace Cert.Proof.VqRegion

open Cert.KernelIdeal Cert.KernelIdeal.Gen Cert.Proof.VqGhost Cert.Proof.DistBody
open Cert.Proof.VqTile (K ΛP 𝒱₀)
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The proof data -/

variable (V : Dev nD → Valuation τ sig (Elt F))

/-- An array's contents at the region's entry. -/
abbrev at0 (c : Dev nD) (b : Ref sig .tc) : Buf (Elt F) ((c : Thread nD τ).loc b) := V c (Proc.devRef .tc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (at0 V c (Pipeline.arrRef spec0 w))

/-- The loss accumulated over the points up to `n`. -/
def sums (c : Dev nD) : (n : ℕ) → n < cfg0.N → Vec F S1x1 .f32
  | 0, hn => accum (iblk V c 0 ⟨0, hn⟩) (iblk V c 1 ⟨0, hn⟩) zero1
  | n + 1, hn => accum (iblk V c 0 ⟨n + 1, hn⟩) (iblk V c 1 ⟨n + 1, hn⟩) (sums c n (Nat.lt_of_succ_lt hn))

/-- The proof data on core `c`: the inputs' buffers keep their blocks, the results' hold the nearest rows and the loss so
    far; the core owes what it owes before the SparseCore call throughout. -/
def dats (_ : Fin 1) (c : Dev nD) : Dat τ (Elt F) (HIx 1) ℕ UU ℕ cfg0 c where
  A w := at0 V c (Pipeline.arrRef spec0 w)
  after w t := match w with
    | ⟨0, _⟩ => iblk V c 0 t
    | ⟨1, _⟩ => iblk V c 1 t
    | ⟨2, _⟩ => cols (iblk V c 0 t) (iblk V c 1 t)
    | ⟨3, _⟩ => sums V c t.val t.isLt
  Φ _ := Pipeline.scopedRest (Ix := HIx 1) (Name := ℕ) (U := UU) (Lvl := ℕ) (Val := Elt F) spec0 c
  q _ := fullShare
  owed _ := (K (F := F)).Otc c 0
  recorded _ := { p | (K (F := F)).lev (T c, p.1) p.2 ≤ 0 }

theorem A_eq (c : Dev nD) (w : Fin cfg0.W) : (dats V 0 c).A w = at0 V c (Pipeline.arrRef spec0 w) := by dsimp only [dats]
theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = cols (iblk V c 0 t) (iblk V c 1 t) := by dsimp only [dats]
theorem after3 (c : Dev nD) (t : Fin cfg0.N) : (dats V 0 c).after 3 t = sums V c t.val t.isLt := by dsimp only [dats]

theorem before0 (c : Dev nD) (t : Fin cfg0.N) (d) : (dats V 0 c).before 0 t d = iblk V c 0 t :=
  ((dats V 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats V 0 c).before 1 t d = iblk V c 1 t :=
  ((dats V 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- After the first point the loss's buffer holds what the point before left. -/
theorem before3 (c : Dev nD) (t : Fin cfg0.N) (h0 : ¬t.val % 8 = 0) (d) :
    (dats V 0 c).before 3 t d = sums V c (t.val - 1) (Nat.lt_of_le_of_lt (Nat.sub_le _ _) t.isLt) := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]

theorem sums_first (c : Dev nD) (t : Fin cfg0.N) (h0 : t.val % 8 = 0) :
    sums V c t.val t.isLt = accum (iblk V c 0 t) (iblk V c 1 t) zero1 := by
  have hN : t.val < 8 := lt_of_lt_of_eq t.isLt (show cfg0.N = 8 from N_0)
  obtain ⟨n, hn⟩ := t
  cases n with
  | zero => rfl
  | succ n => dsimp only at h0 hN; omega
theorem sums_later (c : Dev nD) (t : Fin cfg0.N) (h0 : ¬t.val % 8 = 0) :
    sums V c t.val t.isLt = accum (iblk V c 0 t) (iblk V c 1 t) (sums V c (t.val - 1) (Nat.lt_of_le_of_lt (Nat.sub_le _ _) t.isLt)) := by
  obtain ⟨n, hn⟩ := t
  cases n with
  | zero => exact absurd rfl h0
  | succ n => rfl

/-! ## The body at every point -/

abbrev ms0 (t : Fin cfg0.N) : Memref sig .tc .vmem S784x256 .f32 := win0_0.stage (cfg0.slots t 0)
abbrev ms1 (t : Fin cfg0.N) : Memref sig .tc .vmem S64x2048 .f32 := win0_1.stage (cfg0.slots t 1)
abbrev ms2 (t : Fin cfg0.N) : Memref sig .tc .vmem S784x4 .i32 := win0_2.stage (cfg0.slots t 2)
abbrev ms3 (t : Fin cfg0.N) : Memref sig .tc .vmem S1x1 .f32 := win0_3.stage (cfg0.slots t 3)

def bodyPre (c : Dev nD) (t : Fin cfg0.N) : sProp (MT nD τ sig (HIx 1) (Elt F) ℕ UU ℕ) :=
  iprop((dats V 0 c).Φ t.castSucc ∗ (dats V 0 c).owesAt none t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d)))

def bodyPost (c : Dev nD) (t : Fin cfg0.N) : sProp (MT nD τ sig (HIx 1) (Elt F) ℕ UU ℕ) :=
  iprop((dats V 0 c).Φ t.succ ∗ (dats V 0 c).owesAt none t.succ
    ∗ owns (c : Thread nD τ) (ms0 t) fullShare ((dats V 0 c).after 0 t)
    ∗ owns (c : Thread nD τ) (ms1 t) fullShare ((dats V 0 c).after 1 t)
    ∗ owns (c : Thread nD τ) (ms2 t) fullShare ((dats V 0 c).after 2 t)
    ∗ owns (c : Thread nD τ) (ms3 t) fullShare ((dats V 0 c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dats V 0 c).Φ t.succ = (dats V 0 c).Φ t.castSucc from rfl,
    show (dats V 0 c).owesAt none t.succ = (dats V 0 c).owesAt none t.castSucc from rfl,
    after0, after1, after2, after3]
  by_cases h0 : t.val % 8 = 0
  · rw [sums_first V c t h0]
    iintro ⟨HΦ, Ho, ⟨%d0, H0⟩, ⟨%d1, H1⟩, ⟨%d2, H2⟩, ⟨%d3, H3⟩⟩
    iapply (run_first c (grid0.coords t) _ _ _ _ _ _ _ _ ((isFirst_iff t).mpr h0) (iblk V c 0 t) (iblk V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [sums_later V c t h0]
    simp only [before3 V c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((isFirst_iff t).mp h)) (iblk V c 0 t) (iblk V c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem defs₀_row (t : Fin cfg0.N) : defs₀ (F := F) .tc cfg0.body (cfg0.bodyArgs t (cfg0.slots t)) = bodyAt0 t := by
  unfold defs₀; try rfl

theorem body_obligation (c : Dev nD) : BodyObligation (dats (F := F) V 0 c) (defs₀ (F := F)) Variants.none none Set.univ := fun t => by
  rw [bigSep_W0, bigSep_W0, defs₀_row]
  exact triple_restated (sound_body V c t) rfl .rfl fun _ => .rfl

/-! ## The region -/

abbrev adm : (p : Fin 1) → (pcfgs (F := F) p).Adm := fun p => (cfgs p).toPCfg_adm

theorem Otc_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this
  omega

abbrev r2 : DevRef τ sig := Proc.devRef .tc (main_v2_0 : Ref sig .tc)
abbrev r3 : DevRef τ sig := Proc.devRef .tc (main_v2_1 : Ref sig .tc)

/-- The result arrays after the region. -/
def nums (c : Dev nD) : Buf (Elt F) ((c : Thread nD τ).loc main_v2_0) := (dats V 0 c).arrAt 2 cfg0.N
def loss (c : Dev nD) : Buf (Elt F) ((c : Thread nD τ).loc main_v2_1) := (dats V 0 c).arrAt 3 cfg0.N

/-- Every array after the region. -/
def Vp (c : Dev nD) : Valuation τ sig (Elt F) := Function.update (Function.update (V c) r2 (nums V c)) r3 (loss V c)

theorem Vp_2 (c : Dev nD) : Vp V c r2 = nums V c := by
  unfold Vp; rw [Function.update_of_ne (by decide), Function.update_self]
theorem Vp_3 (c : Dev nD) : Vp V c r3 = loss V c := by
  unfold Vp; rw [Function.update_self]
theorem Vp_ne (c : Dev nD) {b : DevRef τ sig} (h2 : b ≠ r2) (h3 : b ≠ r3) : Vp V c b = V c b := by
  unfold Vp; rw [Function.update_of_ne h3, Function.update_of_ne h2]

/-- What the core owes, and the waits it has recorded, before the SparseCore call. -/
abbrev due (c : Dev nD) : sProp 𝕄 := iprop(∃ W, ⌜(K (F := F)).WBelow (T c) W 0⌝ ∗ owes (T c) ((K (F := F)).Otc c 0) W)

set_option backward.isDefEq.respectTransparency.types false in
def reg : Pipeline.RegionSeg (pcfgs (F := F)) adm (dats V) none defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Otc_none c)
  pre c := iprop(unscopedBufs c (at0 V c) ∗ due c)
  post c := iprop(unscopedBufs c (at0 (Vp V) c) ∗ due c)
  X _ := BI.emp
  Y _ := BI.emp
  Z c := Pipeline.unscopedRest (Ix := HIx 1) (Name := ℕ) (U := UU) (Lvl := ℕ) spec0 c (at0 V c)
  hentry c := by
    rw [Pipeline.ownSems0_none]
    have hsplit := Pipeline.arrays_of_unscopedBufs (p := 0) (pcfgs (F := F)) adm (dats V) launch0.win launch0.arr_whole c
      ((dats V 0 c).share_full fun _ => rfl) (at0 V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V 0 c).Φ 0 = Pipeline.scopedRest spec0 c from rfl]
    iintro ⟨-, -, Hr⟩; iexact Hr
  hout c := by
    rw [Pipeline.ownSems0_none, show (dats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (dats V) ((dats V 0 c).share_full fun _ => rfl) (at0 V c) (at0 (Vp V) c) ((dats V 0 c).arrAt · cfg0.N)
      (fun w => by
        fin_cases w
        · exact ((dats V 0 c).arrAt_in 0 rfl _).trans (Vp_ne V c (b := Proc.devRef .tc (main_v0 : Ref sig .tc)) (by decide) (by decide)).symm
        · exact ((dats V 0 c).arrAt_in 1 rfl _).trans (Vp_ne V c (b := Proc.devRef .tc (main_v1 : Ref sig .tc)) (by decide) (by decide)).symm
        · exact (Vp_2 V c).symm
        · exact (Vp_3 V c).symm)
      (fun b hb => Vp_ne V c
        (fun h => hb (Proc.devRef_injective _ h ▸ Finset.mem_image.mpr ⟨2, Finset.mem_univ _, rfl⟩))
        (fun h => hb (Proc.devRef_injective _ h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.le_of_eq (SparseCore.Cfg.lev_none _ _)
    iexact HO

abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The staging cells' ghost state on core `c`, as the launch deals it. -/
abbrev ghost (c : Dev nD) : sProp 𝕄 :=
  iprop(Pipeline.cellsGhost (Pipeline.pin (pcfgs (F := F)) adm) EP 0 c ∗ Pipeline.toksInit (Pipeline.pin (pcfgs (F := F)) adm) EP 0 c)

abbrev phinj : Function.Injective (cellOf (nD := nD) (τ := τ) (Pipeline.pin (pcfgs (F := F)) adm)) := launch0.cellOf_inj

/-- The call runs from every array at `V` to every array at `Vp V`. -/
theorem wp_call [∀ e, Nonempty (Elt F e)] (c : Dev nD) {α : Type}
    (k : PUnit → Prog (TpuEff nD τ sig (Elt F) (ΛP (F := F)) .tc) α) (Q : α → sProp (MT nD τ sig (HIx 1) (Elt F) ℕ UU ℕ)) :
    (iprop((iprop(boundary (T c) ∗ unscopedBufs c (at0 (Vp V) c) ∗ due c)
          -∗ wp frame (wpE (Pipeline.defs pcfgs defs₀) (Variants.none.lift) (T c) none) Set.univ (k ⟨⟩) Q)
        ∗ boundary (T c) ∗ (unscopedBufs c (at0 V c) ∗ due c) ∗ levAts (K (F := F)).L (K (F := F)).lev ∗ ghost c) : sProp 𝕄)
      ⊢ wp frame (wpE (Pipeline.defs pcfgs defs₀) (Variants.none.lift) (T c) none) Set.univ (.op (.customCall (Pipeline.entry 0) ()) k) Q :=
  (reg V).wp (pcfgs (F := F)) adm (dats V) none phinj EP defs₀ Variants.none _ _ c none (fun _ h => nomatch h) k Q

end Cert.Proof.VqRegion

end
-- ==== Proof.VqLaunch.lean ====
/-
  The whole kernel's run: its host operations lay out the queries and transpose the table, the distance call finds the
  nearest rows, the SparseCore call gathers them, and the host operations after it shape the results.
-/
module

public import proofs.«01_k».proof.Proof.VqTile
public import proofs.«01_k».proof.Proof.VqRegion
public import proofs.«01_k».proof.Proof.Held

@[expose] public section

noncomputable section

namespace Cert.Proof.VqLaunch

open Cert.KernelIdeal Cert.KernelIdeal.Gen
open Cert.Proof.GatherSpec Cert.Proof.VqTile Cert.Proof.VqGhost
open Cert.Proof.VqRegion (at0 Vp Vp_2 Vp_3 Vp_ne r2 r3 ghost due nums loss EP adm phinj wp_call)

open Idealize.ShloMosaic
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.SL.RA.PosShare (pieces)

variable {F : FTy → Type}

local notation "𝕄" => MT nD τ sig (HIx 1) (Elt F) ℕ UU ℕ

abbrev EH : Emb UH (MT nD τ sig (HIx 1) (Elt F) ℕ UU ℕ) := embL

/-! ## The slabs -/

/-- The slab of core `c`'s subcore `s`. -/
def slabOf (c : Fin 2) (s : Fin 16) : Fin 32 := ⟨2 * s.val + c.val, by omega⟩

/-- Every slab is one core's one subcore's. -/
def slabEquiv : Fin 2 × Fin 16 ≃ Fin 32 where
  toFun p := slabOf p.1 p.2
  invFun w := (⟨w.val % 2, by omega⟩, ⟨w.val / 2, by omega⟩)
  left_inv p := by
    obtain ⟨c, s⟩ := p
    refine Prod.ext (Fin.ext ?_) (Fin.ext ?_) <;> simp only [slabOf] <;> omega
  right_inv w := Fin.ext (by simp only [slabOf]; omega)

variable [FloatOps F]

abbrev D : Defs nD τ sig (Elt F) (ΛP (F := F)) := Pipeline.defs pcfgs defs₀

/-- One task's holdings: its slab of the row numbers, its share of the table, its slab of the result. -/
abbrev hold (d : Dev nD) (tb : Buf (Elt F) (tLoc d)) (ib : Buf (Elt F) (iLoc d)) (ob : Buf (Elt F) (oLoc d)) (w : Fin 32) : sProp 𝕄 :=
  iprop((iLoc d ↦[iSlab w]{fullShare} ib) ∗ (tLoc d ↦{pieces 32 fullShare w} tb) ∗ (oLoc d ↦[oSlab w]{fullShare} ob))

omit [FloatOps F] in
/-- The three arrays whole are the 32 tasks' holdings. -/
theorem hold_all (d : Dev nD) (tb : Buf (Elt F) (tLoc d)) (ib : Buf (Elt F) (iLoc d)) (ob : Buf (Elt F) (oLoc d)) :
    (iprop((iLoc d ↦{fullShare} ib) ∗ (tLoc d ↦{fullShare} tb) ∗ (oLoc d ↦{fullShare} ob)) : sProp 𝕄)
      = bigSep Finset.univ fun c : Fin 2 => bigSep Finset.univ fun s : Fin 16 => hold d tb ib ob (slabOf c s) := by
  have hi : (iLoc d ↦{fullShare} ib : sProp 𝕄) = bigSep Finset.univ fun w : Fin 32 => iLoc d ↦[iSlab w]{fullShare} ib := by
    rw [← pointsTo_biUnion Finset.univ (ℓ := iLoc d) iSlab (fun i _ j _ h => Rect.part_disjoint idiv h), Rect.biUnion_part idiv]; try rfl
  have ho : (oLoc d ↦{fullShare} ob : sProp 𝕄) = bigSep Finset.univ fun w : Fin 32 => oLoc d ↦[oSlab w]{fullShare} ob := by
    rw [← pointsTo_biUnion Finset.univ (ℓ := oLoc d) oSlab (fun i _ j _ h => Rect.part_disjoint odiv h), Rect.biUnion_part odiv]; try rfl
  have ht : (tLoc d ↦{fullShare} tb : sProp 𝕄) = bigSep Finset.univ fun w : Fin 32 => tLoc d ↦{pieces 32 fullShare w} tb :=
    Held.pieces_eq Finset.univ tb 31 fullShare
  rw [hi, ho, ht, ← bigSep_sep', ← bigSep_sep', bigSep_univ_equiv slabEquiv, bigSep_univ_prod]
  rfl

/-! ## What the handshakes carry -/

variable (tb : (d : Dev nD) → Buf (Elt F) (tLoc d)) (ib : (d : Dev nD) → Buf (Elt F) (iLoc d)) (ob : (d : Dev nD) → Buf (Elt F) (oLoc d))

/-- Task `i` of core `c`'s slab. -/
abbrev slabAt (c : Fin ((K (F := F)).nCore 0)) (i : Fin ((K (F := F)).nSub 0)) : Fin 32 := slabOf (Fin.cast nCore_zero c) (Fin.cast nSub_zero i)

abbrev goP (d : Dev nD) (c : Fin ((K (F := F)).nCore 0)) (i : Fin ((K (F := F)).nSub 0)) : sProp 𝕄 := hold d (tb d) (ib d) (ob d) (slabAt c i)
abbrev tdP (d : Dev nD) (c : Fin ((K (F := F)).nCore 0)) (i : Fin ((K (F := F)).nSub 0)) : sProp 𝕄 := hold d (tb d) (ib d) (gathered (tb d) (ib d)) (slabAt c i)

/-- Each task is given its holdings and brings them back, its slab of the result gathered; a core's are its tasks'. -/
def P : (K (F := F)).Pay (nD := nD) (Val := Elt F) (Name := ℕ) (U := UU) where
  st := fun q d c => match q with | 0 => bigSep Finset.univ fun i => goP tb ib ob d c i
  dn := fun q d c => match q with | 0 => bigSep Finset.univ fun i => tdP tb ib d c i
  go := fun q d c i => match q with | 0 => goP tb ib ob d c i
  td := fun q d c i => match q with | 0 => tdP tb ib d c i
  x := fun _ _ => iprop(emp)

instance P_storable : (P tb ib ob).IsStorable where
  st q d c := match q with | 0 => (inferInstance : BI.Storable (upEmb : UEmb _ 𝕄) (bigSep Finset.univ fun i => goP tb ib ob d c i))
  dn q d c := match q with | 0 => (inferInstance : BI.Storable (upEmb : UEmb _ 𝕄) (bigSep Finset.univ fun i => tdP tb ib d c i))
  go q d c i := match q with | 0 => (inferInstance : BI.Storable (upEmb : UEmb _ 𝕄) (goP tb ib ob d c i))
  td q d c i := match q with | 0 => (inferInstance : BI.Storable (upEmb : UEmb _ 𝕄) (tdP tb ib d c i))

/-! ## The tasks' obligation -/

/-- Every row number is a row of the table. -/
def InTable : Prop := ∀ (d : Dev nD) (n : ℕ), (word (ib d : S25088.Idx → BitVec 32) n).toNat < 2048

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : InTable (F := F) ib) : (K (F := F)).TileObl (D (F := F)) 𝒱 (P tb ib ob) v₀ 0 := by
  intro d c i O W hO _ _
  simp only [show (P tb ib ob).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (pieces 32 fullShare (slabAt c i)) (tb d) (ib d) (ob d) (hix d) O W hO).trans
    (wp_mono frame _ _ fun _ => waits_weaken)

theorem vecSplit : (K (F := F)).VecSplit' (P tb ib ob) 0 := by
  intro d c
  show (bigSep Finset.univ fun i => goP tb ib ob d c i) ⊢ |={Set.univ}=> iprop((bigSep Finset.univ fun i => goP tb ib ob d c i)
      ∗ ((bigSep Finset.univ fun i => tdP tb ib d c i) -∗ (bigSep Finset.univ fun i => tdP tb ib d c i)))
  iintro H; imodintro
  isplitl [H]; · iexact H
  iintro H; iexact H

/-! ## The launch element -/

def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun c : Dev nD => ghost c)
        ∗ bigSep Finset.univ fun thr : Thread nD τ => bigSep Finset.univ fun q : Fin 1 => (P tb ib ob).x q thr) := by
  unfold u₀
  iintro Hu
  ihave H := (ownU_pair (initOf (K (F := F)).hsCells (K (F := F)).hsToks)
    (initOf (Pipeline.cells (Pipeline.pin (pcfgs (F := F)) adm) phinj) (Pipeline.launchToks (Pipeline.pin (pcfgs (F := F)) adm) phinj), (1 : Counters))) $$ Hu
  icases H with ⟨HH, HR⟩
  ihave HP := (show (BI.own (embR (initOf (Pipeline.cells (Pipeline.pin (pcfgs (F := F)) adm) phinj) (Pipeline.launchToks (Pipeline.pin (pcfgs (F := F)) adm) phinj), (1 : Counters))) : sProp 𝕄)
      ⊢ BI.own (EP (initOf (Pipeline.cells (Pipeline.pin (pcfgs (F := F)) adm) phinj) (Pipeline.launchToks (Pipeline.pin (pcfgs (F := F)) adm) phinj))) from .rfl) $$ HR
  imod (Pipeline.fund_ghost (Pipeline.pin (pcfgs (F := F)) adm) EP phinj) $$ HP with ⟨Hc, Ht⟩
  imodintro
  isplitl [HH]; · iexact HH
  isplitl [Hc Ht]
  · rw [show (bigSep Finset.univ fun c : Dev nD => ghost c) = (iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) : sProp 𝕄) from by
      rw [← bigSep_sep']
      exact bigSep_congr fun c _ => by rw [bigSep_univ_of_subsingleton (0 : Fin 1), bigSep_univ_of_subsingleton (0 : Fin 1)]]
    isplitl [Hc] <;> iassumption
  rw [show (bigSep Finset.univ fun thr : Thread nD τ => bigSep Finset.univ fun q : Fin 1 => (P (F := F) tb ib ob).x q thr) = bigSep Finset.univ fun _ => iprop(emp) from
    bigSep_congr fun _ _ => bigSep_univ_of_subsingleton (0 : Fin 1), emps]
  iempintro

theorem st0_eq (d : Dev nD) : (bigSep Finset.univ fun c : Fin ((K (F := F)).nCore 0) => (P tb ib ob).st 0 d c)
    = (iprop((iLoc d ↦{fullShare} ib d) ∗ (tLoc d ↦{fullShare} tb d) ∗ (oLoc d ↦{fullShare} ob d)) : sProp 𝕄) :=
  (hold_all d (tb d) (ib d) (ob d)).symm
theorem dn0_eq (d : Dev nD) : (bigSep Finset.univ fun c : Fin ((K (F := F)).nCore 0) => (P tb ib ob).dn 0 d c)
    = (iprop((iLoc d ↦{fullShare} ib d) ∗ (tLoc d ↦{fullShare} tb d) ∗ (oLoc d ↦{fullShare} gathered (tb d) (ib d))) : sProp 𝕄) :=
  (hold_all d (tb d) (ib d) (gathered (tb d) (ib d))).symm

/-! ## @main -/

variable (m : (ℓ : Loc nD τ sig) → Buf (Elt F) ℓ) (ρ : Dev nD → PrngReg)

/-- The host operations before the distance call, between the calls, and after the gather call. -/
abbrev preA : List (HloOp τ sig (Elt F)) :=
  [ StableHlo.reshape main_arg0 main_v0 (rfl : (.f32 : EltTy) = .f32) shapeCasts_S32x196x256_S6272x256,
    StableHlo.unary main_arg1 main_v1 (fun x => transpose S64x2048 [1, 0] x transposes_S2048x64_S64x2048_1_0) ]
abbrev preB : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg1 : StableHlo.TRef sig ⟨S2048x64, .f32⟩) main_call0.v0 main_call0.v1
      (fun x v => pad S2048x128 ![0, 0] ![0, 64] ![0, 0] x v pads_S2048x64_S2048x128_000_0640 h_S_),
    StableHlo.reshape main_v2_0 main_v4 (rfl : (.i32 : EltTy) = .i32) shapeCasts_S6272x4_S25088 ]
abbrev postC : List (HloOp τ sig (Elt F)) :=
  [ StableHlo.reshape main_v2_0 main_v6 (rfl : (.i32 : EltTy) = .i32) shapeCasts_S6272x4_S32x196x4,
    StableHlo.reshape main_v2_1 main_v7 (rfl : (.f32 : EltTy) = .f32) shapeCasts_S1x1_S_,
    StableHlo.nullary main_cst (constant S_ .f32 0x49C40000#32),
    StableHlo.binary main_v7 main_cst main_v8 (Host.divf : (⟨S_, .f32⟩ : BufTy).Contents (Elt F) → (⟨S_, .f32⟩ : BufTy).Contents (Elt F) → (⟨S_, .f32⟩ : BufTy).Contents (Elt F)),
    StableHlo.nullary main_cst_0 (constant S_ .f32 0x00000000#32) ]

theorem main_eq (d : Dev nD) : main (F := F) d = StableHlo.seq preA >>= fun _ =>
    (SparseCore.liftProg (.op (.customCall (Pipeline.entry 0) ()) fun _ => .ret ⟨⟩ : Prog (TpuEff nD τ sig (Elt F) (ΛP (F := F)) .tc) PUnit) >>= fun _ =>
      (StableHlo.seq preB >>= fun _ => ((sc (F := F)).run d 0 >>= fun _ => (StableHlo.seq postC >>= fun _ => pure ⟨⟩)))) := rfl

theorem preA_bufs : ∀ op ∈ preA (F := F), op.bufs ⊆ Pipeline.ucRefs τ sig := by
  intro op h
  refine Pipeline.sub_ucRefs op ?_
  simp only [preA, List.mem_cons, List.not_mem_nil, or_false] at h
  rcases h with rfl | rfl
  · exact StableHlo.reshape_bufs_sub ..
  · exact StableHlo.unary_bufs_sub ..
theorem preB_bufs : ∀ op ∈ preB (F := F), op.bufs ⊆ Pipeline.ucRefs τ sig := by
  intro op h
  refine Pipeline.sub_ucRefs op ?_
  simp only [preB, List.mem_cons, List.not_mem_nil, or_false] at h
  rcases h with rfl | rfl | rfl | rfl
  · exact StableHlo.nullary_bufs_sub ..
  · exact StableHlo.unary_bufs_sub ..
  · exact StableHlo.binary_bufs_sub ..
  · exact StableHlo.reshape_bufs_sub ..
theorem postC_bufs : ∀ op ∈ postC (F := F), op.bufs ⊆ Pipeline.ucRefs τ sig := by
  intro op h
  refine Pipeline.sub_ucRefs op ?_
  simp only [postC, List.mem_cons, List.not_mem_nil, or_false] at h
  rcases h with rfl | rfl | rfl | rfl | rfl
  · exact StableHlo.reshape_bufs_sub ..
  · exact StableHlo.reshape_bufs_sub ..
  · exact StableHlo.nullary_bufs_sub ..
  · exact StableHlo.binary_bufs_sub ..
  · exact StableHlo.nullary_bufs_sub ..

theorem preA_fresh : ∀ op ∈ preA (F := F), op.fresh = ∅ := by
  intro op h
  simp only [preA, List.mem_cons, List.not_mem_nil, or_false] at h
  rcases h with rfl | rfl <;> rfl
theorem preB_fresh : ∀ op ∈ preB (F := F), op.fresh = ∅ := by
  intro op h
  simp only [preB, List.mem_cons, List.not_mem_nil, or_false] at h
  rcases h with rfl | rfl | rfl | rfl <;> rfl
theorem postC_fresh : ∀ op ∈ postC (F := F), op.fresh = ∅ := by
  intro op h
  simp only [postC, List.mem_cons, List.not_mem_nil, or_false] at h
  rcases h with rfl | rfl | rfl | rfl | rfl <;> rfl

/-- The buffers' contents at the launch, before the distance call, after it, before the gather call, after it, at the end. -/
def V0 (d : Dev nD) : Valuation τ sig (Elt F) := fun b => m (d, b)
def V1 (d : Dev nD) : Valuation τ sig (Elt F) := StableHlo.after preA (V0 m d)
abbrev V2 (d : Dev nD) : Valuation τ sig (Elt F) := Vp (V1 m) d
def V3 (d : Dev nD) : Valuation τ sig (Elt F) := StableHlo.after preB (V2 m d)

abbrev t' : DevRef τ sig := Proc.devRef .tc (main_v3 : Ref sig .tc)
abbrev i' : DevRef τ sig := Proc.devRef .tc (main_v4 : Ref sig .tc)
abbrev o' : DevRef τ sig := Proc.devRef .tc (main_v5 : Ref sig .tc)

abbrev tb1 (d : Dev nD) : Buf (Elt F) (tLoc d) := V3 m d t'
abbrev ib1 (d : Dev nD) : Buf (Elt F) (iLoc d) := V3 m d i'
abbrev ob1 (d : Dev nD) : Buf (Elt F) (oLoc d) := V3 m d o'
abbrev out1 (d : Dev nD) : Buf (Elt F) (oLoc d) := gathered (tb1 m d) (ib1 m d)

def V4 (d : Dev nD) : Valuation τ sig (Elt F) := Function.update (V3 m d) o' (out1 m d)
def V5 (d : Dev nD) : Valuation τ sig (Elt F) := StableHlo.after postC (V4 m d)

theorem V4_o (d : Dev nD) : V4 m d o' = out1 m d := Function.update_self _ _ _
theorem V4_ne (d : Dev nD) {b : DevRef τ sig} (h : b ≠ o') : V4 m d b = V3 m d b := Function.update_of_ne h _ _

/-- The gather call's arrays. -/
abbrev S3 : Finset (DevRef τ sig) := {i', t', o'}
theorem S3_sub : S3 ⊆ Pipeline.ucRefs τ sig := by decide

omit [FloatOps F] in
theorem held_S3 (d : Dev nD) (W : Valuation τ sig (Elt F)) :
    (held (T d) S3 W : sProp 𝕄) = iprop((iLoc d ↦{fullShare} W i') ∗ (tLoc d ↦{fullShare} W t') ∗ oLoc d ↦{fullShare} W o') := by
  unfold held S3
  rw [SparseCore.bigSep_insert' (by decide), SparseCore.bigSep_insert' (by decide), bigSep_singleton]

abbrev Pm : (K (F := F)).Pay (nD := nD) (Val := Elt F) (Name := ℕ) (U := UU) := P (tb1 m) (ib1 m) (ob1 m)

abbrev FIN (d : Dev nD) : sProp 𝕄 := held (T d) (Pipeline.ucRefs τ sig) (V5 m d)

theorem held_rest (d : Dev nD) :
    (held (T d) (Pipeline.ucRefs τ sig \ S3) (V4 m d) : sProp 𝕄) = held (T d) (Pipeline.ucRefs τ sig \ S3) (V3 m d) :=
  held_congr (T d) fun b hb => V4_ne m d fun e => (Finset.mem_sdiff.mp hb).2 (by rw [e]; decide)

theorem held_A (d : Dev nD) :
    (held d.tc (Pipeline.ucRefs τ sig) (StableHlo.after preA (V0 m d)) : sProp 𝕄) = unscopedBufs d (at0 (V1 m) d) :=
  (Pipeline.unscopedBufs_held d (V1 m d)).symm

theorem held_B (d : Dev nD) : (unscopedBufs d (at0 (Vp (V1 m)) d) : sProp 𝕄) = held (T d) (Pipeline.ucRefs τ sig) (V2 m d) :=
  Pipeline.unscopedBufs_held d (V2 m d)

theorem held_pre (d : Dev nD) :
    (held d.tc (Pipeline.ucRefs τ sig) (StableHlo.after preB (V2 m d)) : sProp 𝕄)
      = iprop(held (T d) S3 (V3 m d) ∗ held (T d) (Pipeline.ucRefs τ sig \ S3) (V3 m d)) :=
  held_sub_split (T d) S3_sub (V3 m d)

theorem held_join (d : Dev nD) :
    (held (T d) (Pipeline.ucRefs τ sig) (V4 m d) : sProp 𝕄)
      = iprop(((iLoc d ↦{fullShare} ib1 m d) ∗ (tLoc d ↦{fullShare} tb1 m d) ∗ (oLoc d ↦{fullShare} out1 m d)) ∗ held (T d) (Pipeline.ucRefs τ sig \ S3) (V3 m d)) := by
  rw [held_sub_split (T d) S3_sub (V4 m d), held_rest, held_S3, V4_o, V4_ne m d (show i' ≠ o' by decide), V4_ne m d (show t' ≠ o' by decide)]

/-- What the TensorCore holds of the handshakes before the gather call, what it owes apart. -/
theorem tcSt_split (d : Dev nD) : ∃ R : sProp (MT nD τ sig (HIx 1) (Elt F) ℕ UU ℕ), ((K (F := F)).tcSt EH d 0 : sProp 𝕄) = iprop(due d ∗ R) := ⟨_, rfl⟩

/-- @main on device `d`'s TensorCore: the host operations over every array held whole, the distance call from every array,
    the gather call from the table, the row numbers and the result's array. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_split (F := F) d
  rw [show (unscopedBufs d (fun b => m ((SparseCore.T d).loc b)) : sProp 𝕄) = held (T d) (Pipeline.ucRefs τ sig) (V0 m d) from
    Pipeline.unscopedBufs_held d (V0 m d), main_eq]
  iintro ⟨#Hctx, Hst, ⟨Hb, Hheld, Hts, -⟩, Hg⟩
  iapply (StableHlo.wp_seq 𝒱 none Set.univ d (Pipeline.ucRefs τ sig) _ preA preA_bufs preA_fresh (V0 m d)) $$ [Hb Hheld]
  · isplitl [Hb] <;> iassumption
  iintro ⟨Hb, Hheld⟩
  ihave Hub := (Entails.of_eq (held_A m d)) $$ Hheld
  ihave Hst' := (Entails.of_eq hR) $$ Hst
  icases Hst' with ⟨Hdue, HR⟩
  rw [wp_bind]
  iapply ((K (F := F)).wp_liftProg (D (F := F)) 𝒱 (T d) Set.univ none _ _)
  ihave Hlev := (SparseCore.Cfg.ctx_levAts κ) $$ Hctx
  iapply (wp_call (V1 m) d _ _)
  isplitr [Hb Hub Hdue Hlev Hg]
  swap
  · isplitl [Hb]; · iexact Hb
    isplitl [Hub Hdue]; · isplitl [Hub] <;> iassumption
    isplitl [Hlev]; · iexact Hlev
    iexact Hg
  iintro ⟨Hb, Hub, Hdue⟩
  rw [wp_ret]; imodintro
  ihave Hheld := (Entails.of_eq (held_B m d)) $$ Hub
  ihave Hst := (Entails.of_eq hR.symm) $$ [Hdue HR]
  · isplitl [Hdue] <;> iassumption
  iapply (StableHlo.wp_seq 𝒱 none Set.univ d (Pipeline.ucRefs τ sig) _ preB preB_bufs preB_fresh (V2 m d)) $$ [Hb Hheld]
  · isplitl [Hb] <;> iassumption
  iintro ⟨Hb, Hheld⟩
  ihave Hh := (Entails.of_eq (held_pre m d)) $$ Hheld
  icases Hh with ⟨H3, Hrest⟩
  ihave H3' := (Entails.of_eq (held_S3 d (V3 m d))) $$ H3
  rw [wp_bind]
  iapply ((K (F := F)).wp_run (D (F := F)) 𝒱 (EH := EH) (P := Pm m) κ d 0) $$ [Hst H3' Hb Hrest Hts]
  isplitr; · iexact Hctx
  isplitl [Hst]; · iexact Hst
  isplitl [H3']
  · rw [st0_eq]; iexact H3'
  iintro ⟨Hst, Hdn⟩
  ihave Hdn' := (Entails.of_eq (dn0_eq (tb1 m) (ib1 m) (ob1 m) d)) $$ Hdn
  ihave Hheld := (Entails.of_eq (held_join m d).symm) $$ [Hdn' Hrest]
  · isplitl [Hdn'] <;> iassumption
  iapply (StableHlo.wp_seq 𝒱 none Set.univ d (Pipeline.ucRefs τ sig) _ postC postC_bufs postC_fresh (V4 m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The run -/

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) :=
  Held.agree (T d) s' (V5 m d) (Pipeline.ucRefs τ sig)

def QC : PUnit × MemSt nD τ sig (Elt F) → Prop := fun r => (∀ d, ∀ b ∈ Pipeline.ucRefs τ sig, r.2.mem (d, b) = V5 m d b) ∧ r.2.sem = fun _ => 0

/-- Every run ends with every array at `V5` and every counter at zero, when every row number found is a row of the table. -/
theorem run_main [∀ e, Nonempty (Elt F e)] (hix : InTable (F := F) (ib1 m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tb1 m) (ib1 m) (ob1 m) facts hix)
    (fun q _ => match q with | 0 => SparseCore.Cfg.VecSplit.of_plain (vecSplit (tb1 m) (ib1 m) (ob1 m)))
    m ρ main (fun c => ghost c) (FIN m) (u₀ (F := F)) (sep_elim_left.trans (hu₀ (tb1 m) (ib1 m) (ob1 m))) (hmain m ρ) (fq m) (hfin m) (QC m)
    (fun _ h hz => ⟨h, hz⟩)

/-! ## The arrays the claims read -/

/-- The table padded to 128 columns. -/
def padded (t : S2048x64.Idx → Elt F .f32) : STab.Idx → Elt F .f32 :=
  pad S2048x128 ![0, 0] ![0, 64] ![0, 0] t (sitofp .f32 (constantI S_ 32 0#32)) pads_S2048x64_S2048x128_000_0640 h_S_

/-- The nearest rows' numbers, and the summed loss, as the distance call leaves them. -/
abbrev nums1 (d : Dev nD) : S6272x4.Idx → Elt F .i32 := nums (V1 m) d
abbrev loss1 (d : Dev nD) : S1x1.Idx → Elt F .f32 := loss (V1 m) d

theorem V1_arg0 (d : Dev nD) : V1 m d (Proc.devRef .tc (main_arg0 : Ref sig .tc)) = m ((SparseCore.T d).loc main_arg0) := by
  unfold V1; after_results <;> rfl
theorem V1_arg1 (d : Dev nD) : V1 m d (Proc.devRef .tc (main_arg1 : Ref sig .tc)) = m ((SparseCore.T d).loc main_arg1) := by
  unfold V1; after_results <;> rfl
theorem V1_v0 (d : Dev nD) : V1 m d (Proc.devRef .tc (main_v0 : Ref sig .tc))
    = (shapeCast S6272x256 (m ((SparseCore.T d).loc main_arg0) : S32x196x256.Idx → Elt F .f32) shapeCasts_S32x196x256_S6272x256 : S6272x256.Idx → Elt F .f32) := by
  unfold V1; after_results <;> rfl
theorem V1_v1 (d : Dev nD) : V1 m d (Proc.devRef .tc (main_v1 : Ref sig .tc))
    = (transpose S64x2048 [1, 0] (m ((SparseCore.T d).loc main_arg1) : S2048x64.Idx → Elt F .f32) transposes_S2048x64_S64x2048_1_0 : S64x2048.Idx → Elt F .f32) := by
  unfold V1; after_results <;> rfl

theorem V2_arg0 (d : Dev nD) : V2 m d (Proc.devRef .tc (main_arg0 : Ref sig .tc)) = m ((SparseCore.T d).loc main_arg0) :=
  (Vp_ne (V1 m) d (by decide) (by decide)).trans (V1_arg0 m d)
theorem V2_arg1 (d : Dev nD) : V2 m d (Proc.devRef .tc (main_arg1 : Ref sig .tc)) = m ((SparseCore.T d).loc main_arg1) :=
  (Vp_ne (V1 m) d (by decide) (by decide)).trans (V1_arg1 m d)

theorem tb1_eq (d : Dev nD) : tb1 m d = padded (m ((SparseCore.T d).loc main_arg1)) := by
  rw [← V2_arg1 m d]; unfold tb1 V3; after_results <;> rfl
theorem ib1_eq (d : Dev nD) : ib1 m d = (shapeCast S25088 (nums1 m d) shapeCasts_S6272x4_S25088 : S25088.Idx → Elt F .i32) := by
  unfold nums1; rw [← Vp_2]; unfold ib1 V3; after_results <;> rfl

theorem V3_keep (d : Dev nD) : V3 m d r2 = nums1 m d ∧ V3 m d r3 = loss1 m d
    ∧ V3 m d (Proc.devRef .tc (main_arg0 : Ref sig .tc)) = m ((SparseCore.T d).loc main_arg0)
    ∧ V3 m d (Proc.devRef .tc (main_arg1 : Ref sig .tc)) = m ((SparseCore.T d).loc main_arg1) := by
  unfold nums1 loss1
  rw [← Vp_2, ← Vp_3, ← V2_arg0 m d, ← V2_arg1 m d]
  refine ⟨?_, ?_, ?_, ?_⟩ <;> (unfold V3; after_results <;> rfl)

/-- The run in terms of the arguments: the gathered rows, the row numbers, zero, the mean loss; the arguments unchanged. -/
theorem run_args [∀ e, Nonempty (Elt F e)]
    (hix : ∀ d, ∀ n, (word (shapeCast S25088 (nums1 m d) shapeCasts_S6272x4_S25088 : S25088.Idx → BitVec 32) n).toNat < 2048) :
    θ_run (Cert.KernelIdeal.defs (F := F)) (Cert.KernelIdeal.threads (F := F)) ⟨m, fun _ => 0, ρ⟩ fun r =>
      (∀ c : Dev nD, r.2.mem ((c.tc : Thread nD τ).loc main_v5)
            = (gathered (padded (m ((c.tc : Thread nD τ).loc main_arg1))) (shapeCast S25088 (nums1 m c) shapeCasts_S6272x4_S25088 : S25088.Idx → BitVec 32) : SOut.Idx → Elt F .f32)
          ∧ r.2.mem ((c.tc : Thread nD τ).loc main_v6) = (shapeCast S32x196x4 (nums1 m c) shapeCasts_S6272x4_S32x196x4 : S32x196x4.Idx → Elt F .i32)
          ∧ r.2.mem ((c.tc : Thread nD τ).loc main_cst_0) = (constant S_ .f32 0x00000000#32 : S_.Idx → Elt F .f32)
          ∧ r.2.mem ((c.tc : Thread nD τ).loc main_v8) = (Host.divf (shapeCast S_ (loss1 m c) shapeCasts_S1x1_S_) (constant S_ .f32 0x49C40000#32) : S_.Idx → Elt F .f32)
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run _ _ _).mono (fun r h => ⟨fun c => ?_, h.2⟩) (run_main m ρ fun d n => by rw [ib1_eq]; exact hix d n)
  obtain ⟨k2, k3, k0, k1⟩ := V3_keep m c
  have e2 : V4 m c r2 = nums1 m c := (V4_ne m c (by decide)).trans k2
  have e3 : V4 m c r3 = loss1 m c := (V4_ne m c (by decide)).trans k3
  refine ⟨?_, ?_, ?_, ?_, ?_, ?_⟩
  · refine (h.1 c o' (by decide)).trans (Eq.trans ?_ ((V4_o m c).trans ?_))
    · unfold V5; after_results <;> rfl
    · unfold out1; rw [tb1_eq, ib1_eq]
  · refine (h.1 c (Proc.devRef .tc (main_v6 : Ref sig .tc)) (by decide)).trans ?_
    rw [← e2]; unfold V5; after_results <;> rfl
  · refine (h.1 c (Proc.devRef .tc (main_cst_0 : Ref sig .tc)) (by decide)).trans ?_
    unfold V5; after_results <;> rfl
  · refine (h.1 c (Proc.devRef .tc (main_v8 : Ref sig .tc)) (by decide)).trans ?_
    rw [← e3]; unfold V5; after_results <;> rfl
  · refine (h.1 c (Proc.devRef .tc (main_arg0 : Ref sig .tc)) (by decide)).trans (Eq.trans ?_ ((V4_ne m c (b := Proc.devRef .tc (main_arg0 : Ref sig .tc)) (by decide)).trans k0))
    unfold V5; after_results <;> rfl
  · refine (h.1 c (Proc.devRef .tc (main_arg1 : Ref sig .tc)) (by decide)).trans (Eq.trans ?_ ((V4_ne m c (b := Proc.devRef .tc (main_arg1 : Ref sig .tc)) (by decide)).trans k1))
    unfold V5; after_results <;> rfl

end Cert.Proof.VqLaunch

end
-- ==== Proof.VqReference.lean ====
/-
  The reference's run: its operations in eight lines, what each line leaves, and the whole run read back.
-/
module

public import proofs.«01_k».proof.Proof.Gen.ReferenceIdeal
public import Idealize.ShloMosaic.Lib.StableHlo.Run
public import Idealize.ShloMosaic.Lib.Pipeline.Frame

@[expose] public section

noncomputable section

namespace Cert.Proof.VqReference

open Cert.ReferenceIdeal Cert.ReferenceIdeal.Gen
open Idealize.ShloMosaic Idealize.ShloMosaic.TcCoe Idealize.SL.Sem Idealize.ShloMosaic.StableHlo

variable {F : FTy → Type} [FloatOps F]

/-- The operations that score every piece against every entry of the table. -/
abbrev scoreOps : List (HloOp τ sig (Elt F)) :=
  [ reshape main_arg0 main_v0 (rfl : (.f32 : EltTy) = .f32) shapeCasts_S32x196x256_S25088x64,
    binary main_v0 main_v0 main_v1 (mulf : (⟨S25088x64, .f32⟩ : BufTy).Contents (Elt F) → (⟨S25088x64, .f32⟩ : BufTy).Contents (Elt F) → (⟨S25088x64, .f32⟩ : BufTy).Contents (Elt F)),
    nullary main_cst (constant S_ .f32 0x00000000#32),
    binary main_v1 main_cst main_v2 ((fun x v => Host.reduceAdd x v reducesTo_S25088x64_S25088_d1 h_S_) : (⟨S25088x64, .f32⟩ : BufTy).Contents (Elt F) → (⟨S_, .f32⟩ : BufTy).Contents (Elt F) → (⟨S25088, .f32⟩ : BufTy).Contents (Elt F)),
    unary main_v2 main_v3 (broadcastInDim S25088x1 ![0] bcast_S25088_S25088x1_0 : (⟨S25088, .f32⟩ : BufTy).Contents (Elt F) → (⟨S25088x1, .f32⟩ : BufTy).Contents (Elt F)),
    binary main_arg1 main_arg1 main_v4 (mulf : (⟨S2048x64, .f32⟩ : BufTy).Contents (Elt F) → (⟨S2048x64, .f32⟩ : BufTy).Contents (Elt F) → (⟨S2048x64, .f32⟩ : BufTy).Contents (Elt F)),
    nullary main_cst_0 (constant S_ .f32 0x00000000#32),
    binary main_v4 main_cst_0 main_v5 ((fun x v => Host.reduceAdd x v reducesTo_S2048x64_S2048_d1 h_S_) : (⟨S2048x64, .f32⟩ : BufTy).Contents (Elt F) → (⟨S_, .f32⟩ : BufTy).Contents (Elt F) → (⟨S2048, .f32⟩ : BufTy).Contents (Elt F)),
    unary main_v5 main_v6 (broadcastInDim S1x2048 ![1] bcast_S2048_S1x2048_1 : (⟨S2048, .f32⟩ : BufTy).Contents (Elt F) → (⟨S1x2048, .f32⟩ : BufTy).Contents (Elt F)),
    unary main_arg1 main_v7 ((transpose S64x2048 [1, 0] · transposes_S2048x64_S64x2048_1_0) : (⟨S2048x64, .f32⟩ : BufTy).Contents (Elt F) → (⟨S64x2048, .f32⟩ : BufTy).Contents (Elt F)),
    binary main_v0 main_v7 main_v8 ((fun l r => Host.dotGeneral dot_S25088x64_S64x2048_S25088x2048_1_0_0_1_n_n none l r) : (⟨S25088x64, .f32⟩ : BufTy).Contents (Elt F) → (⟨S64x2048, .f32⟩ : BufTy).Contents (Elt F) → (⟨S25088x2048, .f32⟩ : BufTy).Contents (Elt F)),
    nullary main_cst_1 (constant S_ .f32 0x40000000#32),
    unary main_cst_1 main_v9 (broadcastInDim S25088x2048 ![] bcast_S_S25088x2048 : (⟨S_, .f32⟩ : BufTy).Contents (Elt F) → (⟨S25088x2048, .f32⟩ : BufTy).Contents (Elt F)),
    binary main_v9 main_v8 main_v10 (mulf : (⟨S25088x2048, .f32⟩ : BufTy).Contents (Elt F) → (⟨S25088x2048, .f32⟩ : BufTy).Contents (Elt F) → (⟨S25088x2048, .f32⟩ : BufTy).Contents (Elt F)),
    unary main_v3 main_v11 (broadcastInDim S25088x2048 ![0, 1] bcast_S25088x1_S25088x2048_0_1 : (⟨S25088x1, .f32⟩ : BufTy).Contents (Elt F) → (⟨S25088x2048, .f32⟩ : BufTy).Contents (Elt F)),
    binary main_v11 main_v10 main_v12 (subf : (⟨S25088x2048, .f32⟩ : BufTy).Contents (Elt F) → (⟨S25088x2048, .f32⟩ : BufTy).Contents (Elt F) → (⟨S25088x2048, .f32⟩ : BufTy).Contents (Elt F)),
    unary main_v6 main_v13 (broadcastInDim S25088x2048 ![0, 1] bcast_S1x2048_S25088x2048_0_1 : (⟨S1x2048, .f32⟩ : BufTy).Contents (Elt F) → (⟨S25088x2048, .f32⟩ : BufTy).Contents (Elt F)),
    binary main_v12 main_v13 main_v14 (addf : (⟨S25088x2048, .f32⟩ : BufTy).Contents (Elt F) → (⟨S25088x2048, .f32⟩ : BufTy).Contents (Elt F) → (⟨S25088x2048, .f32⟩ : BufTy).Contents (Elt F)),
    reshape main_v14 main_v15 (rfl : (.f32 : EltTy) = .f32) shapeCasts_S25088x2048_S6272x4x4x512,
    unary main_v15 main_v16 ((transpose S4x6272x4x512 [1, 0, 2, 3] · transposes_S6272x4x4x512_S4x6272x4x512_1_0_2_3) : (⟨S6272x4x4x512, .f32⟩ : BufTy).Contents (Elt F) → (⟨S4x6272x4x512, .f32⟩ : BufTy).Contents (Elt F)) ]

/-- The operations that take the best entry of the first quarter of the table, for each first piece. -/
abbrev pickOps0 : List (HloOp τ sig (Elt F)) :=
  [ unary main_v16 main_v17 ((extractStridedSlice S1x6272x1x512 ![0, 0, 0, 0] · slices_S4x6272x4x512_S1x6272x1x512_0_0_0_0) : (⟨S4x6272x4x512, .f32⟩ : BufTy).Contents (Elt F) → (⟨S1x6272x1x512, .f32⟩ : BufTy).Contents (Elt F)),
    reshape main_v17 main_v18 (rfl : (.f32 : EltTy) = .f32) shapeCasts_S1x6272x1x512_S6272x512,
    unary main_v18 main_v19 (Host.negf : (⟨S6272x512, .f32⟩ : BufTy).Contents (Elt F) → (⟨S6272x512, .f32⟩ : BufTy).Contents (Elt F)),
    nullary main_call0_v0 (iotaInDim S6272x512 32 1),
    nullary main_call0_cst (constant S_ .f32 0xFF800000#32),
    nullary main_call0_c (constantI S_ 32 0#32),
    quaternary main_v19 main_call0_v0 main_call0_cst main_call0_c main_call0_v1_0 (fun x y u v j => (Host.argReduce reducer_argmax_f32_i32 x y u v reducesTo_S6272x512_S6272_d1 h_S_ j).1),
    quaternary main_v19 main_call0_v0 main_call0_cst main_call0_c main_v20 (fun x y u v j => (Host.argReduce reducer_argmax_f32_i32 x y u v reducesTo_S6272x512_S6272_d1 h_S_ j).2),
    nullary main_c (constantI S_ 32 0#32),
    unary main_c main_v21 (broadcastInDim S6272 ![] bcast_S_S6272 : (⟨S_, .i32⟩ : BufTy).Contents (Elt F) → (⟨S6272, .i32⟩ : BufTy).Contents (Elt F)),
    binary main_v20 main_v21 main_v22 (addi : (⟨S6272, .i32⟩ : BufTy).Contents (Elt F) → (⟨S6272, .i32⟩ : BufTy).Contents (Elt F) → (⟨S6272, .i32⟩ : BufTy).Contents (Elt F)) ]

/-- The same of the second quarter, for each second piece. -/
abbrev pickOps1 : List (HloOp τ sig (Elt F)) :=
  [ unary main_v16 main_v23 ((extractStridedSlice S1x6272x1x512 ![1, 0, 1, 0] · slices_S4x6272x4x512_S1x6272x1x512_1_0_1_0) : (⟨S4x6272x4x512, .f32⟩ : BufTy).Contents (Elt F) → (⟨S1x6272x1x512, .f32⟩ : BufTy).Contents (Elt F)),
    reshape main_v23 main_v24 (rfl : (.f32 : EltTy) = .f32) shapeCasts_S1x6272x1x512_S6272x512,
    unary main_v24 main_v25 (Host.negf : (⟨S6272x512, .f32⟩ : BufTy).Contents (Elt F) → (⟨S6272x512, .f32⟩ : BufTy).Contents (Elt F)),
    nullary main_call1_v0 (iotaInDim S6272x512 32 1),
    nullary main_call1_cst (constant S_ .f32 0xFF800000#32),
    nullary main_call1_c (constantI S_ 32 0#32),
    quaternary main_v25 main_call1_v0 main_call1_cst main_call1_c main_call1_v1_0 (fun x y u v j => (Host.argReduce reducer_argmax_f32_i32 x y u v reducesTo_S6272x512_S6272_d1 h_S_ j).1),
    quaternary main_v25 main_call1_v0 main_call1_cst main_call1_c main_v26 (fun x y u v j => (Host.argReduce reducer_argmax_f32_i32 x y u v reducesTo_S6272x512_S6272_d1 h_S_ j).2),
    nullary main_c_2 (constantI S_ 32 512#32),
    unary main_c_2 main_v27 (broadcastInDim S6272 ![] bcast_S_S6272 : (⟨S_, .i32⟩ : BufTy).Contents (Elt F) → (⟨S6272, .i32⟩ : BufTy).Contents (Elt F)),
    binary main_v26 main_v27 main_v28 (addi : (⟨S6272, .i32⟩ : BufTy).Contents (Elt F) → (⟨S6272, .i32⟩ : BufTy).Contents (Elt F) → (⟨S6272, .i32⟩ : BufTy).Contents (Elt F)) ]

/-- The same of the third quarter, for each third piece. -/
abbrev pickOps2 : List (HloOp τ sig (Elt F)) :=
  [ unary main_v16 main_v29 ((extractStridedSlice S1x6272x1x512 ![2, 0, 2, 0] · slices_S4x6272x4x512_S1x6272x1x512_2_0_2_0) : (⟨S4x6272x4x512, .f32⟩ : BufTy).Contents (Elt F) → (⟨S1x6272x1x512, .f32⟩ : BufTy).Contents (Elt F)),
    reshape main_v29 main_v30 (rfl : (.f32 : EltTy) = .f32) shapeCasts_S1x6272x1x512_S6272x512,
    unary main_v30 main_v31 (Host.negf : (⟨S6272x512, .f32⟩ : BufTy).Contents (Elt F) → (⟨S6272x512, .f32⟩ : BufTy).Contents (Elt F)),
    nullary main_call2_v0 (iotaInDim S6272x512 32 1),
    nullary main_call2_cst (constant S_ .f32 0xFF800000#32),
    nullary main_call2_c (constantI S_ 32 0#32),
    quaternary main_v31 main_call2_v0 main_call2_cst main_call2_c main_call2_v1_0 (fun x y u v j => (Host.argReduce reducer_argmax_f32_i32 x y u v reducesTo_S6272x512_S6272_d1 h_S_ j).1),
    quaternary main_v31 main_call2_v0 main_call2_cst main_call2_c main_v32 (fun x y u v j => (Host.argReduce reducer_argmax_f32_i32 x y u v reducesTo_S6272x512_S6272_d1 h_S_ j).2),
    nullary main_c_3 (constantI S_ 32 1024#32),
    unary main_c_3 main_v33 (broadcastInDim S6272 ![] bcast_S_S6272 : (⟨S_, .i32⟩ : BufTy).Contents (Elt F) → (⟨S6272, .i32⟩ : BufTy).Contents (Elt F)),
    binary main_v32 main_v33 main_v34 (addi : (⟨S6272, .i32⟩ : BufTy).Contents (Elt F) → (⟨S6272, .i32⟩ : BufTy).Contents (Elt F) → (⟨S6272, .i32⟩ : BufTy).Contents (Elt F)) ]

/-- The same of the fourth quarter, for each fourth piece. -/
abbrev pickOps3 : List (HloOp τ sig (Elt F)) :=
  [ unary main_v16 main_v35 ((extractStridedSlice S1x6272x1x512 ![3, 0, 3, 0] · slices_S4x6272x4x512_S1x6272x1x512_3_0_3_0) : (⟨S4x6272x4x512, .f32⟩ : BufTy).Contents (Elt F) → (⟨S1x6272x1x512, .f32⟩ : BufTy).Contents (Elt F)),
    reshape main_v35 main_v36 (rfl : (.f32 : EltTy) = .f32) shapeCasts_S1x6272x1x512_S6272x512,
    unary main_v36 main_v37 (Host.negf : (⟨S6272x512, .f32⟩ : BufTy).Contents (Elt F) → (⟨S6272x512, .f32⟩ : BufTy).Contents (Elt F)),
    nullary main_call3_v0 (iotaInDim S6272x512 32 1),
    nullary main_call3_cst (constant S_ .f32 0xFF800000#32),
    nullary main_call3_c (constantI S_ 32 0#32),
    quaternary main_v37 main_call3_v0 main_call3_cst main_call3_c main_call3_v1_0 (fun x y u v j => (Host.argReduce reducer_argmax_f32_i32 x y u v reducesTo_S6272x512_S6272_d1 h_S_ j).1),
    quaternary main_v37 main_call3_v0 main_call3_cst main_call3_c main_v38 (fun x y u v j => (Host.argReduce reducer_argmax_f32_i32 x y u v reducesTo_S6272x512_S6272_d1 h_S_ j).2),
    nullary main_c_4 (constantI S_ 32 1536#32),
    unary main_c_4 main_v39 (broadcastInDim S6272 ![] bcast_S_S6272 : (⟨S_, .i32⟩ : BufTy).Contents (Elt F) → (⟨S6272, .i32⟩ : BufTy).Contents (Elt F)),
    binary main_v38 main_v39 main_v40 (addi : (⟨S6272, .i32⟩ : BufTy).Contents (Elt F) → (⟨S6272, .i32⟩ : BufTy).Contents (Elt F) → (⟨S6272, .i32⟩ : BufTy).Contents (Elt F)) ]

/-- The operations that put the four lists of numbers together. -/
abbrev numOps : List (HloOp τ sig (Elt F)) :=
  [ unary main_v22 main_v41 (broadcastInDim S1x6272 ![1] bcast_S6272_S1x6272_1 : (⟨S6272, .i32⟩ : BufTy).Contents (Elt F) → (⟨S1x6272, .i32⟩ : BufTy).Contents (Elt F)),
    unary main_v28 main_v42 (broadcastInDim S1x6272 ![1] bcast_S6272_S1x6272_1 : (⟨S6272, .i32⟩ : BufTy).Contents (Elt F) → (⟨S1x6272, .i32⟩ : BufTy).Contents (Elt F)),
    unary main_v34 main_v43 (broadcastInDim S1x6272 ![1] bcast_S6272_S1x6272_1 : (⟨S6272, .i32⟩ : BufTy).Contents (Elt F) → (⟨S1x6272, .i32⟩ : BufTy).Contents (Elt F)),
    unary main_v40 main_v44 (broadcastInDim S1x6272 ![1] bcast_S6272_S1x6272_1 : (⟨S6272, .i32⟩ : BufTy).Contents (Elt F) → (⟨S1x6272, .i32⟩ : BufTy).Contents (Elt F)),
    nary ![main_v41, main_v42, main_v43, main_v44] main_v45 (fun u => (concatenate S4x6272 0 [⟨S1x6272, (u 0 : (⟨S1x6272, .i32⟩ : BufTy).Contents (Elt F))⟩, ⟨S1x6272, (u 1 : (⟨S1x6272, .i32⟩ : BufTy).Contents (Elt F))⟩, ⟨S1x6272, (u 2 : (⟨S1x6272, .i32⟩ : BufTy).Contents (Elt F))⟩, ⟨S1x6272, (u 3 : (⟨S1x6272, .i32⟩ : BufTy).Contents (Elt F))⟩] concatenates_S1x6272_S1x6272_S1x6272_S1x6272_S4x6272_d0 : (⟨S4x6272, .i32⟩ : BufTy).Contents (Elt F))),
    unary main_v45 main_v46 ((transpose S6272x4 [1, 0] · transposes_S4x6272_S6272x4_1_0) : (⟨S4x6272, .i32⟩ : BufTy).Contents (Elt F) → (⟨S6272x4, .i32⟩ : BufTy).Contents (Elt F)),
    reshape main_v46 main_v47 (rfl : (.i32 : EltTy) = .i32) shapeCasts_S6272x4_S32x196x4 ]

/-- The operations that take the numbered rows. -/
abbrev rowOps : List (HloOp τ sig (Elt F)) :=
  [ nullary main_c_5 (constantI S_ 32 0#32),
    unary main_c_5 main_v48 (broadcastInDim S32x196x4 ![] bcast_S_S32x196x4 : (⟨S_, .i32⟩ : BufTy).Contents (Elt F) → (⟨S32x196x4, .i32⟩ : BufTy).Contents (Elt F)),
    binary main_v47 main_v48 main_v49 (cmpi .slt : (⟨S32x196x4, .i32⟩ : BufTy).Contents (Elt F) → (⟨S32x196x4, .i32⟩ : BufTy).Contents (Elt F) → (⟨S32x196x4, .i1⟩ : BufTy).Contents (Elt F)),
    nullary main_c_6 (constantI S_ 32 2048#32),
    unary main_c_6 main_v50 (broadcastInDim S32x196x4 ![] bcast_S_S32x196x4 : (⟨S_, .i32⟩ : BufTy).Contents (Elt F) → (⟨S32x196x4, .i32⟩ : BufTy).Contents (Elt F)),
    binary main_v47 main_v50 main_v51 (addi : (⟨S32x196x4, .i32⟩ : BufTy).Contents (Elt F) → (⟨S32x196x4, .i32⟩ : BufTy).Contents (Elt F) → (⟨S32x196x4, .i32⟩ : BufTy).Contents (Elt F)),
    ternary main_v49 main_v51 main_v47 main_v52 (select : (⟨S32x196x4, .i1⟩ : BufTy).Contents (Elt F) → (⟨S32x196x4, .i32⟩ : BufTy).Contents (Elt F) → (⟨S32x196x4, .i32⟩ : BufTy).Contents (Elt F) → (⟨S32x196x4, .i32⟩ : BufTy).Contents (Elt F)),
    unary main_v52 main_v53 (broadcastInDim S32x196x4x1 ![0, 1, 2] bcast_S32x196x4_S32x196x4x1_0_1_2 : (⟨S32x196x4, .i32⟩ : BufTy).Contents (Elt F) → (⟨S32x196x4x1, .i32⟩ : BufTy).Contents (Elt F)),
    binary main_arg1 main_v53 main_v54 ((fun x i => Host.gather gather_S2048x64_S32x196x4x1_S32x196x4x64_3_0_n_n_0_3_164 x i) : (⟨S2048x64, .f32⟩ : BufTy).Contents (Elt F) → (⟨S32x196x4x1, .i32⟩ : BufTy).Contents (Elt F) → (⟨S32x196x4x64, .f32⟩ : BufTy).Contents (Elt F)),
    reshape main_v54 main_v55 (rfl : (.f32 : EltTy) = .f32) shapeCasts_S32x196x4x64_S32x196x256 ]

/-- The operations that compare the rows to the queries. -/
abbrev lossOps : List (HloOp τ sig (Elt F)) :=
  [ binary main_v55 main_arg0 main_v56 (subf : (⟨S32x196x256, .f32⟩ : BufTy).Contents (Elt F) → (⟨S32x196x256, .f32⟩ : BufTy).Contents (Elt F) → (⟨S32x196x256, .f32⟩ : BufTy).Contents (Elt F)),
    binary main_v56 main_arg0 main_v57 (addf : (⟨S32x196x256, .f32⟩ : BufTy).Contents (Elt F) → (⟨S32x196x256, .f32⟩ : BufTy).Contents (Elt F) → (⟨S32x196x256, .f32⟩ : BufTy).Contents (Elt F)),
    binary main_v57 main_arg0 main_v58 (subf : (⟨S32x196x256, .f32⟩ : BufTy).Contents (Elt F) → (⟨S32x196x256, .f32⟩ : BufTy).Contents (Elt F) → (⟨S32x196x256, .f32⟩ : BufTy).Contents (Elt F)),
    binary main_v58 main_v58 main_v59 (mulf : (⟨S32x196x256, .f32⟩ : BufTy).Contents (Elt F) → (⟨S32x196x256, .f32⟩ : BufTy).Contents (Elt F) → (⟨S32x196x256, .f32⟩ : BufTy).Contents (Elt F)),
    nullary main_cst_7 (constant S_ .f32 0x00000000#32),
    binary main_v59 main_cst_7 main_v60 ((fun x v => Host.reduceAdd x v reducesTo_S32x196x256_S_d0_1_2 h_S_) : (⟨S32x196x256, .f32⟩ : BufTy).Contents (Elt F) → (⟨S_, .f32⟩ : BufTy).Contents (Elt F) → (⟨S_, .f32⟩ : BufTy).Contents (Elt F)),
    nullary main_cst_8 (constant S_ .f32 0x49C40000#32),
    binary main_v60 main_cst_8 main_v61 (Host.divf : (⟨S_, .f32⟩ : BufTy).Contents (Elt F) → (⟨S_, .f32⟩ : BufTy).Contents (Elt F) → (⟨S_, .f32⟩ : BufTy).Contents (Elt F)),
    nullary main_cst_9 (constant S_ .f32 0x00000000#32) ]

/-- All the operations, in order. -/
abbrev ops : List (HloOp τ sig (Elt F)) :=
  scoreOps ++ (pickOps0 ++ (pickOps1 ++ (pickOps2 ++ (pickOps3 ++ (numOps ++ (rowOps ++ lossOps))))))

set_option maxRecDepth 20000 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## What the lines compute -/

/-- The distance of every piece to every entry. -/
def dists (q : FVec F S32x196x256 .f32) (w : FVec F S2048x64 .f32) : FVec F S25088x2048 .f32 :=
  addf (subf
      (broadcastInDim S25088x2048 ![0, 1] bcast_S25088x1_S25088x2048_0_1
        (broadcastInDim S25088x1 ![0] bcast_S25088_S25088x1_0
          (Host.reduceAdd (mulf (shapeCast S25088x64 q shapeCasts_S32x196x256_S25088x64) (shapeCast S25088x64 q shapeCasts_S32x196x256_S25088x64))
            (constant S_ .f32 0x00000000#32) reducesTo_S25088x64_S25088_d1 h_S_)))
      (mulf (broadcastInDim S25088x2048 ![] bcast_S_S25088x2048 (constant S_ .f32 0x40000000#32))
        (Host.dotGeneral dot_S25088x64_S64x2048_S25088x2048_1_0_0_1_n_n none (shapeCast S25088x64 q shapeCasts_S32x196x256_S25088x64)
          (transpose S64x2048 [1, 0] w transposes_S2048x64_S64x2048_1_0))))
    (broadcastInDim S25088x2048 ![0, 1] bcast_S1x2048_S25088x2048_0_1
      (broadcastInDim S1x2048 ![1] bcast_S2048_S1x2048_1
        (Host.reduceAdd (mulf w w) (constant S_ .f32 0x00000000#32) reducesTo_S2048x64_S2048_d1 h_S_)))

/-- The distances by piece number, row, quarter and entry. -/
def planes (q : FVec F S32x196x256 .f32) (w : FVec F S2048x64 .f32) : FVec F S4x6272x4x512 .f32 :=
  transpose S4x6272x4x512 [1, 0, 2, 3] (shapeCast S6272x4x4x512 (dists q w) shapeCasts_S25088x2048_S6272x4x4x512)
    transposes_S6272x4x4x512_S4x6272x4x512_1_0_2_3

/-- The best entry's number, from one plane of distances. -/
def best (d : FVec F S6272x512 .f32) (k : BitVec 32) : IVec S6272 32 :=
  addi (fun j => (Host.argReduce reducer_argmax_f32_i32 (Host.negf d) (iotaInDim S6272x512 32 1) (constant S_ .f32 0xFF800000#32) (constantI S_ 32 0#32)
      reducesTo_S6272x512_S6272_d1 h_S_ j).2)
    (broadcastInDim S6272 ![] bcast_S_S6272 (constantI S_ 32 k))

/-- One plane of the distances. -/
def plane (off : Fin 4 → ℕ) (h : S4x6272x4x512.Slices off S1x6272x1x512) (x : FVec F S4x6272x4x512 .f32) : FVec F S6272x512 .f32 :=
  shapeCast S6272x512 (extractStridedSlice S1x6272x1x512 off x h) shapeCasts_S1x6272x1x512_S6272x512

/-- The four lists of numbers, put together. -/
def together (a b c d : IVec S6272 32) : IVec S32x196x4 32 :=
  shapeCast S32x196x4 (transpose S6272x4 [1, 0]
    (concatenate S4x6272 0 [⟨S1x6272, broadcastInDim S1x6272 ![1] bcast_S6272_S1x6272_1 a⟩, ⟨S1x6272, broadcastInDim S1x6272 ![1] bcast_S6272_S1x6272_1 b⟩,
      ⟨S1x6272, broadcastInDim S1x6272 ![1] bcast_S6272_S1x6272_1 c⟩, ⟨S1x6272, broadcastInDim S1x6272 ![1] bcast_S6272_S1x6272_1 d⟩]
      concatenates_S1x6272_S1x6272_S1x6272_S1x6272_S4x6272_d0) transposes_S4x6272_S6272x4_1_0) shapeCasts_S6272x4_S32x196x4

/-- The rows of those numbers. -/
def taken (w : FVec F S2048x64 .f32) (i : IVec S32x196x4 32) : FVec F S32x196x256 .f32 :=
  shapeCast S32x196x256 (Host.gather gather_S2048x64_S32x196x4x1_S32x196x4x64_3_0_n_n_0_3_164 w
    (broadcastInDim S32x196x4x1 ![0, 1, 2] bcast_S32x196x4_S32x196x4x1_0_1_2
      (select (cmpi .slt i (broadcastInDim S32x196x4 ![] bcast_S_S32x196x4 (constantI S_ 32 0#32)))
        (addi i (broadcastInDim S32x196x4 ![] bcast_S_S32x196x4 (constantI S_ 32 2048#32))) i)))
    shapeCasts_S32x196x4x64_S32x196x256

/-- The first result, from the rows and the queries. -/
def straight (e q : FVec F S32x196x256 .f32) : FVec F S32x196x256 .f32 := addf (subf e q) q

/-- The loss, from the first result and the queries. -/
def lossFrom (e q : FVec F S32x196x256 .f32) : FVec F S_ .f32 :=
  Host.divf (Host.reduceAdd (mulf (subf e q) (subf e q)) (constant S_ .f32 0x00000000#32) reducesTo_S32x196x256_S_d0_1_2 h_S_)
    (constant S_ .f32 0x49C40000#32)

/-! ## The lines read back -/

section Lines
variable (V : Valuation τ sig (Elt F))

theorem score_v16 : after scoreOps V (Proc.devRef .tc (main_v16 : Ref sig .tc)) = planes (V (Proc.devRef .tc (main_arg0 : Ref sig .tc))) (V (Proc.devRef .tc (main_arg1 : Ref sig .tc))) := by after_results <;> rfl
theorem score_kept : after scoreOps V (Proc.devRef .tc (main_arg0 : Ref sig .tc)) = V (Proc.devRef .tc (main_arg0 : Ref sig .tc)) ∧ after scoreOps V (Proc.devRef .tc (main_arg1 : Ref sig .tc)) = V (Proc.devRef .tc (main_arg1 : Ref sig .tc)) := by
  refine ⟨?_, ?_⟩ <;> (after_results <;> rfl)
theorem pick0_kept : after pickOps0 V (Proc.devRef .tc (main_arg0 : Ref sig .tc)) = V (Proc.devRef .tc (main_arg0 : Ref sig .tc)) ∧ after pickOps0 V (Proc.devRef .tc (main_arg1 : Ref sig .tc)) = V (Proc.devRef .tc (main_arg1 : Ref sig .tc)) ∧ after pickOps0 V (Proc.devRef .tc (main_v16 : Ref sig .tc)) = V (Proc.devRef .tc (main_v16 : Ref sig .tc)) := by
  refine ⟨?_, ?_, ?_⟩ <;> (after_results <;> rfl)
theorem pick1_kept : after pickOps1 V (Proc.devRef .tc (main_arg0 : Ref sig .tc)) = V (Proc.devRef .tc (main_arg0 : Ref sig .tc)) ∧ after pickOps1 V (Proc.devRef .tc (main_arg1 : Ref sig .tc)) = V (Proc.devRef .tc (main_arg1 : Ref sig .tc)) ∧ after pickOps1 V (Proc.devRef .tc (main_v16 : Ref sig .tc)) = V (Proc.devRef .tc (main_v16 : Ref sig .tc)) ∧ after pickOps1 V (Proc.devRef .tc (main_v22 : Ref sig .tc)) = V (Proc.devRef .tc (main_v22 : Ref sig .tc)) := by
  refine ⟨?_, ?_, ?_, ?_⟩ <;> (after_results <;> rfl)
theorem pick2_kept : after pickOps2 V (Proc.devRef .tc (main_arg0 : Ref sig .tc)) = V (Proc.devRef .tc (main_arg0 : Ref sig .tc)) ∧ after pickOps2 V (Proc.devRef .tc (main_arg1 : Ref sig .tc)) = V (Proc.devRef .tc (main_arg1 : Ref sig .tc)) ∧ after pickOps2 V (Proc.devRef .tc (main_v16 : Ref sig .tc)) = V (Proc.devRef .tc (main_v16 : Ref sig .tc)) ∧ after pickOps2 V (Proc.devRef .tc (main_v22 : Ref sig .tc)) = V (Proc.devRef .tc (main_v22 : Ref sig .tc)) ∧ after pickOps2 V (Proc.devRef .tc (main_v28 : Ref sig .tc)) = V (Proc.devRef .tc (main_v28 : Ref sig .tc)) := by
  refine ⟨?_, ?_, ?_, ?_, ?_⟩ <;> (after_results <;> rfl)
theorem pick3_kept : after pickOps3 V (Proc.devRef .tc (main_arg0 : Ref sig .tc)) = V (Proc.devRef .tc (main_arg0 : Ref sig .tc)) ∧ after pickOps3 V (Proc.devRef .tc (main_arg1 : Ref sig .tc)) = V (Proc.devRef .tc (main_arg1 : Ref sig .tc)) ∧ after pickOps3 V (Proc.devRef .tc (main_v22 : Ref sig .tc)) = V (Proc.devRef .tc (main_v22 : Ref sig .tc)) ∧ after pickOps3 V (Proc.devRef .tc (main_v28 : Ref sig .tc)) = V (Proc.devRef .tc (main_v28 : Ref sig .tc)) ∧ after pickOps3 V (Proc.devRef .tc (main_v34 : Ref sig .tc)) = V (Proc.devRef .tc (main_v34 : Ref sig .tc)) := by
  refine ⟨?_, ?_, ?_, ?_, ?_⟩ <;> (after_results <;> rfl)
theorem num_kept : after numOps V (Proc.devRef .tc (main_arg0 : Ref sig .tc)) = V (Proc.devRef .tc (main_arg0 : Ref sig .tc)) ∧ after numOps V (Proc.devRef .tc (main_arg1 : Ref sig .tc)) = V (Proc.devRef .tc (main_arg1 : Ref sig .tc)) := by
  refine ⟨?_, ?_⟩ <;> (after_results <;> rfl)
theorem row_kept : after rowOps V (Proc.devRef .tc (main_arg0 : Ref sig .tc)) = V (Proc.devRef .tc (main_arg0 : Ref sig .tc)) ∧ after rowOps V (Proc.devRef .tc (main_arg1 : Ref sig .tc)) = V (Proc.devRef .tc (main_arg1 : Ref sig .tc)) ∧ after rowOps V (Proc.devRef .tc (main_v47 : Ref sig .tc)) = V (Proc.devRef .tc (main_v47 : Ref sig .tc)) := by
  refine ⟨?_, ?_, ?_⟩ <;> (after_results <;> rfl)
theorem loss_kept : after lossOps V (Proc.devRef .tc (main_arg0 : Ref sig .tc)) = V (Proc.devRef .tc (main_arg0 : Ref sig .tc)) ∧ after lossOps V (Proc.devRef .tc (main_arg1 : Ref sig .tc)) = V (Proc.devRef .tc (main_arg1 : Ref sig .tc)) ∧ after lossOps V (Proc.devRef .tc (main_v47 : Ref sig .tc)) = V (Proc.devRef .tc (main_v47 : Ref sig .tc)) := by
  refine ⟨?_, ?_, ?_⟩ <;> (after_results <;> rfl)
theorem pick0_v22 : after pickOps0 V (Proc.devRef .tc (main_v22 : Ref sig .tc)) = best (plane ![0, 0, 0, 0] slices_S4x6272x4x512_S1x6272x1x512_0_0_0_0 (V (Proc.devRef .tc (main_v16 : Ref sig .tc)))) 0#32 := by
  after_results <;> rfl
theorem pick1_v28 : after pickOps1 V (Proc.devRef .tc (main_v28 : Ref sig .tc)) = best (plane ![1, 0, 1, 0] slices_S4x6272x4x512_S1x6272x1x512_1_0_1_0 (V (Proc.devRef .tc (main_v16 : Ref sig .tc)))) 512#32 := by
  after_results <;> rfl
theorem pick2_v34 : after pickOps2 V (Proc.devRef .tc (main_v34 : Ref sig .tc)) = best (plane ![2, 0, 2, 0] slices_S4x6272x4x512_S1x6272x1x512_2_0_2_0 (V (Proc.devRef .tc (main_v16 : Ref sig .tc)))) 1024#32 := by
  after_results <;> rfl
theorem pick3_v40 : after pickOps3 V (Proc.devRef .tc (main_v40 : Ref sig .tc)) = best (plane ![3, 0, 3, 0] slices_S4x6272x4x512_S1x6272x1x512_3_0_3_0 (V (Proc.devRef .tc (main_v16 : Ref sig .tc)))) 1536#32 := by
  after_results <;> rfl
theorem num_v47 : after numOps V (Proc.devRef .tc (main_v47 : Ref sig .tc)) = together (V (Proc.devRef .tc (main_v22 : Ref sig .tc))) (V (Proc.devRef .tc (main_v28 : Ref sig .tc))) (V (Proc.devRef .tc (main_v34 : Ref sig .tc))) (V (Proc.devRef .tc (main_v40 : Ref sig .tc))) := by after_results <;> rfl
theorem row_v55 : after rowOps V (Proc.devRef .tc (main_v55 : Ref sig .tc)) = taken (V (Proc.devRef .tc (main_arg1 : Ref sig .tc))) (V (Proc.devRef .tc (main_v47 : Ref sig .tc))) := by after_results <;> rfl
theorem loss_v57 : after lossOps V (Proc.devRef .tc (main_v57 : Ref sig .tc)) = straight (V (Proc.devRef .tc (main_v55 : Ref sig .tc))) (V (Proc.devRef .tc (main_arg0 : Ref sig .tc))) := by after_results <;> rfl
theorem loss_v61 : after lossOps V (Proc.devRef .tc (main_v61 : Ref sig .tc)) = lossFrom (straight (V (Proc.devRef .tc (main_v55 : Ref sig .tc))) (V (Proc.devRef .tc (main_arg0 : Ref sig .tc)))) (V (Proc.devRef .tc (main_arg0 : Ref sig .tc))) := by after_results <;> rfl
theorem loss_cst : after lossOps V (Proc.devRef .tc (main_cst_9 : Ref sig .tc)) = constant S_ .f32 0x00000000#32 := by after_results <;> rfl
end Lines

/-! ## The whole run -/

/-- The numbers that the reference finds. -/
def numbers (q : FVec F S32x196x256 .f32) (w : FVec F S2048x64 .f32) : IVec S32x196x4 32 :=
  together (best (plane ![0, 0, 0, 0] slices_S4x6272x4x512_S1x6272x1x512_0_0_0_0 (planes q w)) 0#32)
    (best (plane ![1, 0, 1, 0] slices_S4x6272x4x512_S1x6272x1x512_1_0_1_0 (planes q w)) 512#32)
    (best (plane ![2, 0, 2, 0] slices_S4x6272x4x512_S1x6272x1x512_2_0_2_0 (planes q w)) 1024#32)
    (best (plane ![3, 0, 3, 0] slices_S4x6272x4x512_S1x6272x1x512_3_0_3_0 (planes q w)) 1536#32)

/-- The first result. -/
def rows (q : FVec F S32x196x256 .f32) (w : FVec F S2048x64 .f32) : FVec F S32x196x256 .f32 :=
  straight (taken w (numbers q w)) q

section Whole
variable (V : Valuation τ sig (Elt F))

theorem all_args : after ops V (Proc.devRef .tc (main_arg0 : Ref sig .tc)) = V (Proc.devRef .tc (main_arg0 : Ref sig .tc)) ∧ after ops V (Proc.devRef .tc (main_arg1 : Ref sig .tc)) = V (Proc.devRef .tc (main_arg1 : Ref sig .tc)) := by
  simp only [ops, after_append]
  constructor
  · rw [(loss_kept _).1, (row_kept _).1, (num_kept _).1, (pick3_kept _).1, (pick2_kept _).1, (pick1_kept _).1, (pick0_kept _).1, (score_kept _).1]
  · rw [(loss_kept _).2.1, (row_kept _).2.1, (num_kept _).2, (pick3_kept _).2.1, (pick2_kept _).2.1, (pick1_kept _).2.1, (pick0_kept _).2.1, (score_kept _).2]

theorem num_all : after numOps (after pickOps3 (after pickOps2 (after pickOps1 (after pickOps0 (after scoreOps V))))) (Proc.devRef .tc (main_v47 : Ref sig .tc))
    = numbers (V (Proc.devRef .tc (main_arg0 : Ref sig .tc))) (V (Proc.devRef .tc (main_arg1 : Ref sig .tc))) := by
  rw [num_v47, pick3_v40, (pick3_kept _).2.2.1, (pick3_kept _).2.2.2.1, (pick3_kept _).2.2.2.2, pick2_v34, (pick2_kept _).2.2.1, (pick2_kept _).2.2.2.1,
    (pick2_kept _).2.2.2.2, pick1_v28, (pick1_kept _).2.2.1, (pick1_kept _).2.2.2, pick0_v22, (pick0_kept _).2.2, score_v16]
  rfl

theorem args_num : after numOps (after pickOps3 (after pickOps2 (after pickOps1 (after pickOps0 (after scoreOps V))))) (Proc.devRef .tc (main_arg0 : Ref sig .tc)) = V (Proc.devRef .tc (main_arg0 : Ref sig .tc))
    ∧ after numOps (after pickOps3 (after pickOps2 (after pickOps1 (after pickOps0 (after scoreOps V))))) (Proc.devRef .tc (main_arg1 : Ref sig .tc)) = V (Proc.devRef .tc (main_arg1 : Ref sig .tc)) := by
  constructor
  · rw [(num_kept _).1, (pick3_kept _).1, (pick2_kept _).1, (pick1_kept _).1, (pick0_kept _).1, (score_kept _).1]
  · rw [(num_kept _).2, (pick3_kept _).2.1, (pick2_kept _).2.1, (pick1_kept _).2.1, (pick0_kept _).2.1, (score_kept _).2]

theorem all_v47 : after ops V (Proc.devRef .tc (main_v47 : Ref sig .tc)) = numbers (V (Proc.devRef .tc (main_arg0 : Ref sig .tc))) (V (Proc.devRef .tc (main_arg1 : Ref sig .tc))) := by
  simp only [ops, after_append]
  rw [(loss_kept _).2.2, (row_kept _).2.2, num_all]

theorem all_v55 : after rowOps (after numOps (after pickOps3 (after pickOps2 (after pickOps1 (after pickOps0 (after scoreOps V)))))) (Proc.devRef .tc (main_v55 : Ref sig .tc))
    = taken (V (Proc.devRef .tc (main_arg1 : Ref sig .tc))) (numbers (V (Proc.devRef .tc (main_arg0 : Ref sig .tc))) (V (Proc.devRef .tc (main_arg1 : Ref sig .tc)))) := by
  rw [row_v55, num_all, (args_num _).2]

theorem all_v57 : after ops V (Proc.devRef .tc (main_v57 : Ref sig .tc)) = rows (V (Proc.devRef .tc (main_arg0 : Ref sig .tc))) (V (Proc.devRef .tc (main_arg1 : Ref sig .tc))) := by
  simp only [ops, after_append]
  rw [loss_v57, all_v55, (row_kept _).1, (args_num _).1]
  rfl

theorem all_v61 : after ops V (Proc.devRef .tc (main_v61 : Ref sig .tc)) = lossFrom (rows (V (Proc.devRef .tc (main_arg0 : Ref sig .tc))) (V (Proc.devRef .tc (main_arg1 : Ref sig .tc)))) (V (Proc.devRef .tc (main_arg0 : Ref sig .tc))) := by
  simp only [ops, after_append]
  rw [loss_v61, all_v55, (row_kept _).1, (args_num _).1]
  rfl

theorem all_cst : after ops V (Proc.devRef .tc (main_cst_9 : Ref sig .tc)) = constant S_ .f32 0x00000000#32 := by
  simp only [ops, after_append]
  rw [loss_cst]

end Whole

theorem scoreOps_sub : (scoreOps : List (HloOp τ sig (Elt F))).Forall (fun op => op.bufs ⊆ tcRefs τ sig) :=
  ⟨reshape_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., reshape_bufs_sub .., unary_bufs_sub ..⟩
theorem pickOps0_sub : (pickOps0 : List (HloOp τ sig (Elt F))).Forall (fun op => op.bufs ⊆ tcRefs τ sig) :=
  ⟨unary_bufs_sub .., reshape_bufs_sub .., unary_bufs_sub .., nullary_bufs_sub .., nullary_bufs_sub .., nullary_bufs_sub .., quaternary_bufs_sub .., quaternary_bufs_sub .., nullary_bufs_sub .., unary_bufs_sub .., binary_bufs_sub ..⟩
theorem pickOps1_sub : (pickOps1 : List (HloOp τ sig (Elt F))).Forall (fun op => op.bufs ⊆ tcRefs τ sig) :=
  ⟨unary_bufs_sub .., reshape_bufs_sub .., unary_bufs_sub .., nullary_bufs_sub .., nullary_bufs_sub .., nullary_bufs_sub .., quaternary_bufs_sub .., quaternary_bufs_sub .., nullary_bufs_sub .., unary_bufs_sub .., binary_bufs_sub ..⟩
theorem pickOps2_sub : (pickOps2 : List (HloOp τ sig (Elt F))).Forall (fun op => op.bufs ⊆ tcRefs τ sig) :=
  ⟨unary_bufs_sub .., reshape_bufs_sub .., unary_bufs_sub .., nullary_bufs_sub .., nullary_bufs_sub .., nullary_bufs_sub .., quaternary_bufs_sub .., quaternary_bufs_sub .., nullary_bufs_sub .., unary_bufs_sub .., binary_bufs_sub ..⟩
theorem pickOps3_sub : (pickOps3 : List (HloOp τ sig (Elt F))).Forall (fun op => op.bufs ⊆ tcRefs τ sig) :=
  ⟨unary_bufs_sub .., reshape_bufs_sub .., unary_bufs_sub .., nullary_bufs_sub .., nullary_bufs_sub .., nullary_bufs_sub .., quaternary_bufs_sub .., quaternary_bufs_sub .., nullary_bufs_sub .., unary_bufs_sub .., binary_bufs_sub ..⟩
theorem numOps_sub : (numOps : List (HloOp τ sig (Elt F))).Forall (fun op => op.bufs ⊆ tcRefs τ sig) :=
  ⟨unary_bufs_sub .., unary_bufs_sub .., unary_bufs_sub .., unary_bufs_sub .., nary_bufs_sub .., unary_bufs_sub .., reshape_bufs_sub ..⟩
theorem rowOps_sub : (rowOps : List (HloOp τ sig (Elt F))).Forall (fun op => op.bufs ⊆ tcRefs τ sig) :=
  ⟨nullary_bufs_sub .., unary_bufs_sub .., binary_bufs_sub .., nullary_bufs_sub .., unary_bufs_sub .., binary_bufs_sub .., ternary_bufs_sub .., unary_bufs_sub .., binary_bufs_sub .., reshape_bufs_sub ..⟩
theorem lossOps_sub : (lossOps : List (HloOp τ sig (Elt F))).Forall (fun op => op.bufs ⊆ tcRefs τ sig) :=
  ⟨binary_bufs_sub .., binary_bufs_sub .., binary_bufs_sub .., binary_bufs_sub .., nullary_bufs_sub .., binary_bufs_sub .., nullary_bufs_sub .., binary_bufs_sub .., nullary_bufs_sub ..⟩

theorem ops_sub : (ops : List (HloOp τ sig (Elt F))).Forall fun op => op.bufs ⊆ tcRefs τ sig :=
  List.forall_append.mpr ⟨scoreOps_sub, List.forall_append.mpr ⟨pickOps0_sub, List.forall_append.mpr ⟨pickOps1_sub, List.forall_append.mpr ⟨pickOps2_sub,
    List.forall_append.mpr ⟨pickOps3_sub, List.forall_append.mpr ⟨numOps_sub, List.forall_append.mpr ⟨rowOps_sub, lossOps_sub⟩⟩⟩⟩⟩⟩⟩

/-- From any memory, every run of the reference ends with the numbers, the rows and the losses, the arguments unchanged
    and no semaphore raised. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v57) = rows (m ((c.tc : Thread nD τ).loc main_arg0)) (m ((c.tc : Thread nD τ).loc main_arg1))
      ∧ r.2.mem ((c.tc : Thread nD τ).loc main_v47) = numbers (m ((c.tc : Thread nD τ).loc main_arg0)) (m ((c.tc : Thread nD τ).loc main_arg1))
      ∧ r.2.mem ((c.tc : Thread nD τ).loc main_cst_9) = (constant S_ .f32 0x00000000#32 : FVec F S_ .f32)
      ∧ r.2.mem ((c.tc : Thread nD τ).loc main_v61)
          = lossFrom (rows (m ((c.tc : Thread nD τ).loc main_arg0)) (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c main_v57).trans (all_v57 _), (h c main_v47).trans (all_v47 _), (h c main_cst_9).trans (all_cst _),
      (h c main_v61).trans (all_v61 _), (h c main_arg0).trans (all_args _).1, (h c main_arg1).trans (all_args _).2⟩, sem_eq_zero_of_no_sems (by decide) r.2⟩)
    (run_seq scopedRefs_eq scopedSems_eq defs main (fun _ => ops) main_eq (fun _ => ops_sub) m ρ)

end Cert.Proof.VqReference
-- ==== Proof.VqPick.lean ====
/-
  The first index at the least value, over the extended reals: what the kernel's minimum and the reference's
  arg-max of the negated values both find.
-/
module

public import proofs.«01_k».proof.Proof.DistBody
public import proofs.«01_k».proof.ReferenceIdeal
public import Idealize.ShloMosaic.Lib.ValueIdxCore
public import Idealize.ShloMosaic.Lib.Pipeline.Value
public import Idealize.ShloMosaic.Lib.StableHlo.Predicate
public import Idealize.ShloMosaic.PureOps.Ideal.Laws

@[expose] public section

noncomputable section

namespace Cert.Proof.VqPick

open Cert.Proof.DistBody
open Idealize.ShloMosaic Idealize.ShloMosaic.ValueIdx

/-- `n` is the first index at the least value of `f`. -/
def First (f : Fin 512 → EReal) (n : Fin 512) : Prop := ∀ j, f n < f j ∨ (f n = f j ∧ n.val ≤ j.val)

theorem First.le {f : Fin 512 → EReal} {n : Fin 512} (h : First f n) (j : Fin 512) : f n ≤ f j :=
  (h j).elim le_of_lt fun e => e.1.le

theorem First.unique {f : Fin 512 → EReal} {n n' : Fin 512} (h : First f n) (h' : First f n') : n = n' := by
  rcases h n' with a | ⟨a, b⟩
  · exact absurd (h'.le n) (not_le.mpr a)
  · rcases h' n with c | ⟨_, d⟩
    · exact absurd c (by rw [a]; exact lt_irrefl _)
    · exact Fin.ext (Nat.le_antisymm b d)

/-! ## The reference's arg-max -/

/-- A pair of a value and an index that the arg-max would keep against another. -/
def Beats (p q : EReal × BitVec 32) : Prop := q.1 < p.1 ∨ (p.1 = q.1 ∧ p.2.toInt ≤ q.2.toInt)

theorem Beats.refl (p : EReal × BitVec 32) : Beats p p := .inr ⟨rfl, le_refl _⟩

theorem Beats.trans {p q r : EReal × BitVec 32} (h : Beats p q) (h' : Beats q r) : Beats p r := by
  rcases h with a | ⟨a, b⟩ <;> rcases h' with c | ⟨c, d⟩
  · exact .inl (c.trans a)
  · exact .inl (c ▸ a)
  · exact .inl (a ▸ c)
  · exact .inr ⟨a.trans c, b.trans d⟩

/-- One step of the arg-max keeps one of its two pairs, one that beats both. -/
theorem step (p q : Ideal .f32 × BitVec 32) :
    (Cert.ReferenceIdeal.reducer_argmax_f32_i32 (F := Ideal) p q = p ∨ Cert.ReferenceIdeal.reducer_argmax_f32_i32 (F := Ideal) p q = q)
      ∧ Beats (Cert.ReferenceIdeal.reducer_argmax_f32_i32 (F := Ideal) p q) p ∧ Beats (Cert.ReferenceIdeal.reducer_argmax_f32_i32 (F := Ideal) p q) q := by
  obtain ⟨a, i⟩ := p
  obtain ⟨b, j⟩ := q
  have e : Cert.ReferenceIdeal.reducer_argmax_f32_i32 (F := Ideal) (a, i) (b, j)
      = (if (b : EReal) < a then a else b, if (b : EReal) < a ∨ ((a : EReal) = b ∧ i.toInt < j.toInt) then i else j) := by
    unfold Cert.ReferenceIdeal.reducer_argmax_f32_i32
    simp only [Ideal.cmpf_def, Ideal.cmp, IntOp.ori, IntOp.andi, IntOp.cmpi, Scalar.select, BitVec.slt_eq_decide]
    by_cases h1 : (b : EReal) < a <;> by_cases h2 : (a : EReal) = b <;> by_cases h3 : i.toInt < j.toInt <;> simp [h1, h2, h3]
  rw [e]
  by_cases h1 : (b : EReal) < a
  · rw [if_pos h1, if_pos (.inl h1)]
    exact ⟨.inl rfl, .refl _, .inl h1⟩
  · rw [if_neg h1]
    by_cases h2 : (a : EReal) = b ∧ i.toInt < j.toInt
    · rw [if_pos (.inr h2)]
      obtain ⟨h2, h3⟩ := h2
      subst h2
      exact ⟨.inl rfl, .refl _, .inr ⟨rfl, h3.le⟩⟩
    · rw [if_neg (not_or.mpr ⟨h1, h2⟩)]
      refine ⟨.inr rfl, ?_, .refl _⟩
      rcases lt_or_eq_of_le (not_lt.mp h1) with h | h
      · exact .inl h
      · exact .inr ⟨h.symm, not_lt.mp fun h' => h2 ⟨h, h'⟩⟩

/-- So over a list it keeps one of the pairs, one that beats them all. -/
theorem fold_beats (l : List (Ideal .f32 × BitVec 32)) (p : Ideal .f32 × BitVec 32) :
    (l.foldl (Cert.ReferenceIdeal.reducer_argmax_f32_i32 (F := Ideal)) p = p ∨ l.foldl (Cert.ReferenceIdeal.reducer_argmax_f32_i32 (F := Ideal)) p ∈ l)
      ∧ Beats (l.foldl (Cert.ReferenceIdeal.reducer_argmax_f32_i32 (F := Ideal)) p) p
      ∧ ∀ q ∈ l, Beats (l.foldl (Cert.ReferenceIdeal.reducer_argmax_f32_i32 (F := Ideal)) p) q := by
  induction l generalizing p with
  | nil => exact ⟨.inl rfl, .refl _, fun q hq => absurd hq List.not_mem_nil⟩
  | cons a l ih =>
    obtain ⟨h1, h2, h3⟩ := ih (Cert.ReferenceIdeal.reducer_argmax_f32_i32 (F := Ideal) p a)
    obtain ⟨s1, s2, s3⟩ := step p a
    rw [List.foldl_cons]
    refine ⟨?_, h2.trans s2, fun q hq => ?_⟩
    · rcases h1 with h1 | h1
      · rcases s1 with s1 | s1
        · exact .inl (h1.trans s1)
        · exact .inr ((h1.trans s1).symm ▸ List.mem_cons_self)
      · exact .inr (List.mem_cons_of_mem _ h1)
    · rcases List.mem_cons.mp hq with rfl | hq
      · exact h2.trans s3
      · exact h3 q hq

section Argmax
open Cert.ReferenceIdeal Cert.ReferenceIdeal.Facts₀

theorem toInt_small (n : ℕ) (h : n < 2048) : (BitVec.ofNat 32 n).toInt = n := StableHlo.Predicate.toInt_ofNat_small n (by omega)

/-- The arg-max of the negated values along a row is the first index at the least value. -/
theorem argmax_first [Cert.ReferenceIdeal.Facts] (d : FVec Ideal S6272x512 .f32) (x : FVec Ideal S6272x512 .f32) (y : IVec S6272x512 32) (u : FVec Ideal S_ .f32) (v : IVec S_ 32)
    (hx : ∀ i, x i = -d i) (hy : ∀ i, y i = BitVec.ofNat 32 (i 1).val) (hu : ∀ i, u i = (⊥ : EReal)) (hv : ∀ i, v i = 0#32) (i : Fin 6272) :
    ∃ n : Fin 512, First (fun j => d (ix2 i j)) n
      ∧ (Host.argReduce reducer_argmax_f32_i32 x y u v reducesTo_S6272x512_S6272_d1 h_S_ (ix1 i)).2 = BitVec.ofNat 32 n.val := by
  rw [Idealize.ShloMosaic.Ideal.argReduce_eq_reduce2, Host.reduce2_eq_foldl_fiber]
  rw [hu, hv]
  have hmem : ∀ q : EReal × BitVec 32, q ∈ Host.argReduceFiber x y reducesTo_S6272x512_S6272_d1 (ix1 i) ↔ ∃ j : Fin 512, q = (-d (ix2 i j), BitVec.ofNat 32 j.val) := by
    intro q
    unfold Host.argReduceFiber
    simp only [List.mem_map, List.mem_filter, List.mem_finRange, true_and, decide_eq_true_eq]
    constructor
    · rintro ⟨n, hn, rfl⟩
      have e : S6272x512.rowMajor.symm n = ix2 i (S6272x512.rowMajor.symm n 1) := by
        funext a
        match a with
        | ⟨0, _⟩ =>
          refine Fin.ext ?_
          have := congrArg (fun z : S6272.Idx => (z 0).val) hn
          exact this
        | ⟨1, _⟩ => rfl
      refine ⟨S6272x512.rowMajor.symm n 1, ?_⟩
      rw [hx, hy]
      exact congrArg (fun z : S6272x512.Idx => ((-d z : EReal), BitVec.ofNat 32 (S6272x512.rowMajor.symm n 1).val)) e
    · rintro ⟨j, rfl⟩
      refine ⟨S6272x512.rowMajor (ix2 i j), ?_, ?_⟩
      · rw [Equiv.symm_apply_apply]
        funext b
        match b with
        | ⟨0, _⟩ => exact Fin.ext rfl
      · rw [Equiv.symm_apply_apply, hx, hy]
  obtain ⟨h1, h2, h3⟩ := fold_beats (Host.argReduceFiber x y reducesTo_S6272x512_S6272_d1 (ix1 i)) ((⊥ : EReal), 0#32)
  generalize hr : List.foldl (reducer_argmax_f32_i32 (F := Ideal)) ((⊥ : EReal), 0#32) (Host.argReduceFiber x y reducesTo_S6272x512_S6272_d1 (ix1 i)) = r at h1 h2 h3
  rcases h1 with rfl | h1
  · refine ⟨0, fun j => ?_, rfl⟩
    rcases h3 _ ((hmem _).mpr ⟨j, rfl⟩) with h | ⟨h, _⟩
    · exact absurd h not_lt_bot
    · refine .inr ⟨?_, Nat.zero_le _⟩
      rcases h3 _ ((hmem _).mpr ⟨0, rfl⟩) with h' | ⟨h', _⟩
      · exact absurd h' not_lt_bot
      · exact neg_injective (h'.symm.trans h)
  · obtain ⟨n, rfl⟩ := (hmem _).mp h1
    refine ⟨n, fun j => ?_, rfl⟩
    rcases h3 _ ((hmem _).mpr ⟨j, rfl⟩) with h | ⟨h, h'⟩
    · exact .inl (EReal.neg_lt_neg_iff.mp h)
    · refine .inr ⟨neg_injective h, ?_⟩
      simp only [toInt_small _ (show n.val < 2048 by omega), toInt_small _ (show j.val < 2048 by omega)] at h'
      exact_mod_cast h'

end Argmax

/-! ## The kernel's minimum -/

section Nearest
open Cert.KernelIdeal Cert.KernelIdeal.Gen

theorem col_apply {α : Type} (v : S784.Idx → α) (h : S784.ShapeCasts S784x1) (i : Fin 784) : shapeCast S784x1 v h (ix2 i 0) = v (ix1 i) := by
  refine shapeCast_apply v h _ _ ?_
  rw [Shape.rowMajor_val_one, Shape.rowMajor_val_two]
  show i.val = i.val * 1 + 0
  omega

theorem lift_row (i : Fin 784) (j : Fin 512) : (reduces_S784x512_S784).lift (ix1 i) j = ix2 i j := by
  funext a
  match a with
  | ⟨0, _⟩ => exact Fin.ext rfl
  | ⟨1, _⟩ => exact Fin.ext rfl

/-- A fold that keeps one of its two arguments keeps a member. -/
theorem fold_mem {β γ : Type} (op : β → β → β) [Std.Commutative op] [Std.Associative op] (hop : ∀ a b, op a b = a ∨ op a b = b) (b : β) (f : γ → β) (s : Finset γ) :
    s.fold op b f = b ∨ ∃ x ∈ s, s.fold op b f = f x := by
  classical
  induction s using Finset.induction_on with
  | empty => exact .inl rfl
  | insert a s ha ih =>
    rw [Finset.fold_insert ha]
    rcases hop (f a) (s.fold op b f) with h | h
    · exact .inr ⟨a, Finset.mem_insert_self a s, h⟩
    · rcases ih with ih | ⟨x, hx, ih⟩
      · exact .inl (h.trans ih)
      · exact .inr ⟨x, Finset.mem_insert_of_mem hx, h.trans ih⟩

/-- A fold bounded by both its arguments is bounded by every member. -/
theorem fold_le {β γ : Type} (op : β → β → β) [Std.Commutative op] [Std.Associative op] (key : β → EReal) (h1 : ∀ a b, key (op a b) ≤ key a) (h2 : ∀ a b, key (op a b) ≤ key b)
    (b : β) (f : γ → β) (s : Finset γ) : ∀ x ∈ s, key (s.fold op b f) ≤ key (f x) := by
  classical
  induction s using Finset.induction_on with
  | empty => exact fun x hx => absurd hx (Finset.notMem_empty x)
  | insert a s ha ih =>
    intro x hx
    rw [Finset.fold_insert ha]
    rcases Finset.mem_insert.mp hx with rfl | hx
    · exact h1 _ _
    · exact (h2 _ _).trans (ih x hx)

theorem fold_leI {γ : Type} (op : BitVec 32 → BitVec 32 → BitVec 32) [Std.Commutative op] [Std.Associative op] (h1 : ∀ a b, (op a b).toInt ≤ a.toInt) (h2 : ∀ a b, (op a b).toInt ≤ b.toInt)
    (b : BitVec 32) (f : γ → BitVec 32) (s : Finset γ) : ∀ x ∈ s, (s.fold op b f).toInt ≤ (f x).toInt := by
  classical
  induction s using Finset.induction_on with
  | empty => exact fun x hx => absurd hx (Finset.notMem_empty x)
  | insert a s ha ih =>
    intro x hx
    rw [Finset.fold_insert ha]
    rcases Finset.mem_insert.mp hx with rfl | hx
    · exact h1 _ _
    · exact (h2 _ _).trans (ih x hx)

theorem ofBits_top : (FloatOps.ofBits (F := Ideal) .f32 0x7F800000#32 : EReal) = ⊤ := by
  show Ideal.ofBits .f32 0x7F800000#32 = ⊤
  simp [Ideal.ofBits, Ideal.ieee]

theorem ofBits_bot : (FloatOps.ofBits (F := Ideal) .f32 0xFF800000#32 : EReal) = ⊥ := by
  show Ideal.ofBits .f32 0xFF800000#32 = ⊥
  simp [Ideal.ofBits, Ideal.ieee]

/-- The least value of a row is one of the row's, and at most each. -/
theorem least_spec (d : FVec Ideal S784x512 .f32) (i : Fin 784) :
    (∃ j : Fin 512, least d (ix2 i 0) = d (ix2 i j)) ∧ ∀ j : Fin 512, (least d (ix2 i 0) : EReal) ≤ d (ix2 i j) := by
  have e : (least d (ix2 i 0) : EReal) = (Finset.univ : Finset (Fin 512)).fold (FloatOps.minimumf (F := Ideal) (φ := .f32)) (⊤ : EReal) (fun j => d (ix2 i j)) := by
    unfold least
    rw [col_apply]
    refine (multiReduction_minimumf_eq_fold d 0x7F800000#32 reduces_S784x512_S784 (.inl rfl) rfl (ix1 i)).trans ?_
    rw [Shape.Reduces.fold_filter_drop_single, ofBits_top]
    refine Finset.fold_congr fun j _ => ?_
    exact congrArg d (lift_row i j)
  have hle : ∀ j : Fin 512, (least d (ix2 i 0) : EReal) ≤ d (ix2 i j) := by
    intro j
    rw [e]
    exact fold_le (FloatOps.minimumf (F := Ideal) (φ := .f32)) id (fun a b => min_le_left a b) (fun a b => min_le_right a b) (⊤ : EReal) (fun j => d (ix2 i j)) Finset.univ j (Finset.mem_univ j)
  refine ⟨?_, hle⟩
  rcases fold_mem (FloatOps.minimumf (F := Ideal) (φ := .f32)) (fun a b => min_choice a b) (⊤ : EReal) (fun j : Fin 512 => d (ix2 i j)) Finset.univ with h | ⟨j, _, h⟩
  · refine ⟨0, ?_⟩
    have h0 := hle 0
    rw [e, h] at h0 ⊢
    exact (top_le_iff.mp h0).symm
  · exact ⟨j, e.trans h⟩

/-- The number found for a row is the first index at its least value, counted from `o`. -/
theorem nearest_first (o : BitVec 32) (d : FVec Ideal S784x512 .f32) (i : Fin 784) :
    ∃ n : Fin 512, First (fun j => d (ix2 i j)) n ∧ nearest o d (ix2 i 0) = IntOp.addi (BitVec.ofNat 32 n.val) o ∧ least d (ix2 i 0) = d (ix2 i n) := by
  obtain ⟨⟨j0, hj0⟩, hle⟩ := least_spec d i
  set f : Fin 512 → BitVec 32 := fun j => if (d (ix2 i j) : EReal) = least d (ix2 i 0) then BitVec.ofNat 32 j.val else 512#32 with hf
  haveI : Std.Commutative (IKind.minsi).op := inferInstance
  haveI : Std.Associative (IKind.minsi).op := inferInstance
  have e : nearest o d (ix2 i 0) = IntOp.addi ((Finset.univ : Finset (Fin 512)).fold (IKind.minsi).op 2147483647#32 f) o := by
    unfold nearest
    rw [col_apply]
    show IntOp.addi _ _ = IntOp.addi _ _
    refine congrArg₂ IntOp.addi ?_ rfl
    refine (multiReductionI_eq_fold .minsi _ _ reduces_S784x512_S784 rfl (ix1 i)).trans ?_
    rw [Shape.Reduces.fold_filter_drop_single]
    refine Finset.fold_congr fun (j : Fin 512) _ => ?_
    show (if Ideal.cmp .oeq (d _) (broadcastTo S784x512 (least d) broadcasts_S784x1_S784x512 _) = 1#1 then _ else _) = _
    rw [show (reduces_S784x512_S784).lift (ix1 i) j = ix2 i j from lift_row i j, broadcastTo_apply (least d) broadcasts_S784x1_S784x512 (ix2 i j) (ix2 i 0) (by
      intro a
      match a with
      | ⟨0, _⟩ => rfl
      | ⟨1, _⟩ => rfl), iota_single_apply]
    simp only [Ideal.cmp, StableHlo.Predicate.ofBool_eq_one_iff, decide_eq_true_eq, hf]
    rfl
  have hmin : ∀ a b : BitVec 32, (IKind.minsi).op a b = a ∨ (IKind.minsi).op a b = b := by
    intro a b
    show IntOp.minsi a b = a ∨ IntOp.minsi a b = b
    unfold IntOp.minsi
    split <;> simp
  have hl : ∀ a b : BitVec 32, ((IKind.minsi).op a b).toInt ≤ a.toInt ∧ ((IKind.minsi).op a b).toInt ≤ b.toInt := by
    intro a b
    show (IntOp.minsi a b).toInt ≤ a.toInt ∧ (IntOp.minsi a b).toInt ≤ b.toInt
    unfold IntOp.minsi
    by_cases h : a.toInt < b.toInt
    · rw [if_pos (by rw [BitVec.slt_eq_decide]; exact decide_eq_true h)]
      exact ⟨le_refl _, h.le⟩
    · rw [if_neg (by rw [BitVec.slt_eq_decide]; exact fun h' => h (of_decide_eq_true h'))]
      exact ⟨not_lt.mp h, le_refl _⟩
  have hle' := fold_leI (IKind.minsi).op (fun a b => (hl a b).1) (fun a b => (hl a b).2) 2147483647#32 f Finset.univ
  have hj : ((Finset.univ : Finset (Fin 512)).fold (IKind.minsi).op 2147483647#32 f).toInt ≤ j0.val := by
    refine (hle' j0 (Finset.mem_univ _)).trans ?_
    rw [hf]
    simp only [hj0, if_true]
    rw [toInt_small _ (by omega)]
  rcases fold_mem (IKind.minsi).op hmin 2147483647#32 f Finset.univ with h | ⟨n, _, h⟩
  · rw [h] at hj
    have : (2147483647#32 : BitVec 32).toInt = 2147483647 := by decide
    omega
  · by_cases hn : (d (ix2 i n) : EReal) = least d (ix2 i 0)
    · have hfn : f n = BitVec.ofNat 32 n.val := by rw [hf]; exact if_pos hn
      refine ⟨n, fun j => ?_, ?_, hn.symm⟩
      · rcases lt_or_eq_of_le (hn.trans_le (hle j)) with hlt | heq
        · exact .inl hlt
        · refine .inr ⟨heq, ?_⟩
          have := hle' j (Finset.mem_univ _)
          have hfj : f j = BitVec.ofNat 32 j.val := by rw [hf]; exact if_pos (heq.symm.trans hn)
          rw [h, hfn, hfj, toInt_small _ (by omega), toInt_small _ (by omega)] at this
          exact_mod_cast this
      · rw [e, h, hfn]
    · have hfn : f n = 512#32 := by rw [hf]; exact if_neg hn
      rw [h, hfn] at hj
      have : (512#32 : BitVec 32).toInt = 512 := by decide
      omega

end Nearest

end Cert.Proof.VqPick

end
-- ==== Proof.VqDist.lean ====
/-
  The distance kernel's arithmetic over the extended reals, entry by entry.
-/
module

public import proofs.«01_k».proof.Proof.VqPick
public import Idealize.ShloMosaic.Lib.MatmulPlain
public import Idealize.ShloMosaic.Lib.Pipeline.ValueKit.Tiles

@[expose] public section

noncomputable section

namespace Cert.Proof.VqDist

open Cert.KernelIdeal Cert.KernelIdeal.Gen Cert.Proof.DistBody Cert.Proof.VqPick
open Idealize.ShloMosaic Idealize.ShloMosaic.ValueIdx
open scoped BigOperators

/-- The squared distance of two vectors as both programs compute it: |x|² − 2 x·y + |y|². -/
def score (x y : Fin 64 → EReal) : EReal := (∑ k, x k * x k) - (Ideal.ofBits .f32 0x40000000#32 : EReal) * (∑ k, x k * y k) + ∑ k, y k * y k

/-- The first index at the least value. -/
theorem exists_first (f : Fin 512 → EReal) : ∃ n, First f n := by
  obtain ⟨n, hn, _⟩ := nearest_first 0#32 (fun i => f (i 1) : FVec Ideal S784x512 .f32) 0
  exact ⟨n, hn⟩

def pick (f : Fin 512 → EReal) : Fin 512 := Classical.choose (exists_first f)

theorem pick_first (f : Fin 512 → EReal) : First f (pick f) := Classical.choose_spec (exists_first f)

theorem first_eq {f : Fin 512 → EReal} {n : Fin 512} (h : First f n) : n = pick f := h.unique (pick_first f)

/-! ## One block's distances -/

theorem lift_x (i : Fin 784) (k : Fin 64) : (reduces_S784x64_S784).lift (ix1 i) k = ix2 i k := by
  funext a
  match a with
  | ⟨0, _⟩ => exact Fin.ext rfl
  | ⟨1, _⟩ => exact Fin.ext rfl

theorem lift_w (j : Fin 512) (k : Fin 64) : (reduces_S64x512_S512).lift (ix1 j) k = ix2 k j := by
  funext a
  match a with
  | ⟨0, _⟩ => exact Fin.ext rfl
  | ⟨1, _⟩ => exact Fin.ext rfl

theorem dist_apply (x : FVec Ideal S784x64 .f32) (w : FVec Ideal S64x512 .f32) (i : Fin 784) (j : Fin 512) :
    dist x w (ix2 i j) = score (fun k => x (ix2 i k)) (fun k => w (ix2 k j)) := by
  have e1 : broadcastTo S784x512 (shapeCast S784x1 (multiReduction .add [1] S784 (mulf x x) 0x00000000#32 reduces_S784x64_S784 (.inl rfl) rfl) shapeCasts_S784_S784x1) broadcasts_S784x1_S784x512 (ix2 i j)
      = ∑ k : Fin 64, (x (ix2 i k) * x (ix2 i k) : EReal) := by
    rw [broadcastTo_apply _ broadcasts_S784x1_S784x512 (ix2 i j) (ix2 i 0) (by
      intro a
      match a with
      | ⟨0, _⟩ => rfl
      | ⟨1, _⟩ => rfl), col_apply]
    refine (Ideal.multiReduction_add_single (mulf x x) 0x00000000#32 reduces_S784x64_S784 (.inl rfl) rfl (ix1 i)).trans ?_
    refine Finset.sum_congr rfl fun (k : Fin 64) _ => ?_
    exact congrArg (mulf x x) (lift_x i k)
  have e2 : broadcastTo S784x512 (shapeCast S1x512 (multiReduction .add [0] S512 (mulf w w) 0x00000000#32 reduces_S64x512_S512 (.inl rfl) rfl) shapeCasts_S512_S1x512) broadcasts_S1x512_S784x512 (ix2 i j)
      = ∑ k : Fin 64, (w (ix2 k j) * w (ix2 k j) : EReal) := by
    rw [broadcastTo_apply _ broadcasts_S1x512_S784x512 (ix2 i j) (ix2 0 j) (by
      intro a
      match a with
      | ⟨0, _⟩ => rfl
      | ⟨1, _⟩ => rfl)]
    rw [shapeCast_apply _ shapeCasts_S512_S1x512 (ix2 0 j) (ix1 j) (by
      rw [Shape.rowMajor_val_one, Shape.rowMajor_val_two]
      show j.val = 0 * 512 + j.val
      omega)]
    refine (Ideal.multiReduction_add_single (mulf w w) 0x00000000#32 reduces_S64x512_S512 (.inl rfl) rfl (ix1 j)).trans ?_
    refine Finset.sum_congr rfl fun (k : Fin 64) _ => ?_
    exact congrArg (mulf w w) (lift_w j k)
  have e3 : matmul dot_S784x64_S64x512_S784x512_1_0_0_1_n_n none x w (constant S784x512 .f32 0x00000000#32) (ix2 i j) = ∑ k : Fin 64, (x (ix2 i k) * w (ix2 k j) : EReal) := by
    refine (Ideal.matmul_plain_apply (M := 784) (K := 64) (N := 512) none x w (constant S784x512 .f32 0x00000000#32) i j).trans ?_
    show Ideal.ofBits .f32 0x00000000#32 + _ = _
    rw [Ideal.ofBits_zero_f32, zero_add]
  unfold DistBody.dist score
  exact congrArg₂ (fun a b : EReal => a + b) (congrArg₂ (fun a b : EReal => a - b) e1 (congrArg (fun a : EReal => (Ideal.ofBits .f32 0x40000000#32 : EReal) * a) e3)) e2

/-- Column `c` of piece `k`. -/
theorem part_apply (k : Fin 4) (x : Vec Ideal S784x256 .f32) (i : Fin 784) (c : Fin 64) :
    part k x (ix2 i c) = x (ix2 i ⟨64 * k.val + c.val, by omega⟩) := by
  have self : ∀ (o : ℕ) (h : S784x256.Slices ![0, o] S784x64) (z : S784x256.Idx), (z 0).val = i.val → (z 1).val = o + c.val →
      extractStridedSlice S784x64 ![0, o] (shapeCast S784x256 x shapeCasts_S784x256_S784x256) h (ix2 i c) = x z := by
    intro o h z h0 h1
    rw [extractStridedSlice_apply _ _ h (ix2 i c) z (by
      intro a
      match a with
      | ⟨0, _⟩ => exact h0.trans (Nat.zero_add _).symm
      | ⟨1, _⟩ => exact h1)]
    exact shapeCast_apply x _ z z rfl
  match k with
  | 0 => exact self 0 slices_S784x256_o0_0_S784x64 _ rfl rfl
  | 1 => exact self 64 slices_S784x256_o0_64_S784x64 _ rfl rfl
  | 2 => exact self 128 slices_S784x256_o0_128_S784x64 _ rfl rfl
  | 3 => exact self 192 slices_S784x256_o0_192_S784x64 _ rfl rfl

/-- Row `c` of the transposed table's block `k`. -/
theorem tabl_apply (k : Fin 4) (w : Vec Ideal S64x2048 .f32) (c : Fin 64) (j : Fin 512) :
    tabl k w (ix2 c j) = w (ix2 c ⟨512 * k.val + j.val, by omega⟩) := by
  have self : ∀ (o : ℕ) (inb : ∀ a, (![0, o] : Fin 2 → ℕ) a + S64x512.size a ≤ S64x2048.size a) (z : S64x2048.Idx), (z 0).val = c.val → (z 1).val = o + j.val →
      shapeCast S64x512 (View.ld w (Rect.unit (s := S64x2048) ![0, o] S64x512.size inb)) shapeCasts_S64x512_S64x512 (ix2 c j) = w z := by
    intro o inb z h0 h1
    rw [shapeCast_apply _ _ (ix2 c j) (ix2 c j : S64x512.Idx) rfl]
    refine View.ld_unit_apply_of w ![0, o] S64x512.size inb (ix2 c j : S64x512.Idx) z fun a => ?_
    match a with
    | ⟨0, _⟩ => exact h0.trans (Nat.zero_add _).symm
    | ⟨1, _⟩ => exact h1
  match k with
  | 0 => exact self 0 _ _ rfl rfl
  | 1 => exact self 512 _ _ rfl rfl
  | 2 => exact self 1024 _ _ rfl rfl
  | 3 => exact self 1536 _ _ rfl rfl

/-- The distances of a block's row `i`, piece `k`. -/
def blkScore (k : Fin 4) (x : Vec Ideal S784x256 .f32) (w : Vec Ideal S64x2048 .f32) (i : Fin 784) (j : Fin 512) : EReal :=
  score (fun c => x (ix2 i ⟨64 * k.val + c.val, by omega⟩)) (fun c => w (ix2 c ⟨512 * k.val + j.val, by omega⟩))

theorem distOf_apply (k : Fin 4) (x : Vec Ideal S784x256 .f32) (w : Vec Ideal S64x2048 .f32) (i : Fin 784) (j : Fin 512) :
    distOf k x w (ix2 i j) = blkScore k x w i j := by
  unfold distOf blkScore
  rw [dist_apply]
  simp only [part_apply, tabl_apply]

theorem cols_apply (x : Vec Ideal S784x256 .f32) (w : Vec Ideal S64x2048 .f32) (i : Fin 784) (k : Fin 4) :
    cols x w (ix2 i k) = BitVec.ofNat 32 (512 * k.val + (pick (blkScore k x w i)).val) := by
  obtain ⟨n, hn, e, _⟩ := nearest_first (BitVec.ofNat 32 (512 * k.val)) (distOf k x w) i
  rw [cols_at k x w (ix2 i 0) (ix2 i k) rfl rfl, e]
  have : n = pick (blkScore k x w i) := first_eq (by
    have : (fun j => distOf k x w (ix2 i j)) = blkScore k x w i := funext fun j => distOf_apply k x w i j
    rw [← this]; exact hn)
  rw [← this, Nat.add_comm]
  show BitVec.ofNat 32 n.val + BitVec.ofNat 32 (512 * k.val) = _
  rw [← BitVec.ofNat_add]

/-! ## One block's loss -/

def midEquiv : S1x784x1.Idx ≃ Fin 784 where
  toFun i := i 1
  invFun i := ix3 0 i 0
  left_inv i := by
    funext a
    match a with
    | ⟨0, _⟩ => exact (Subsingleton.elim (α := Fin 1) _ _)
    | ⟨1, _⟩ => rfl
    | ⟨2, _⟩ => exact (Subsingleton.elim (α := Fin 1) _ _)
  right_inv i := rfl

theorem total_apply (d : FVec Ideal S784x512 .f32) : total d = ∑ i : Fin 784, (least d (ix2 i 0) : EReal) := by
  unfold total extractAt
  rw [shapeCast_apply _ shapeCasts_S1_S1x1x1 _ (ix1 0) (by
    rw [Shape.rowMajor_val_one, Shape.rowMajor_val_three]
    rfl)]
  refine (Ideal.multiReduction_add_total _ 0x00000000#32 reduces_S1x784x1_S1 (by decide) (.inl rfl) rfl (ix1 0)).trans ?_
  refine Fintype.sum_equiv midEquiv _ _ fun i => ?_
  refine shapeCast_apply (least d) shapeCasts_S784x1_S1x784x1 i _ ?_
  have h0 : (i 0).val < 1 := (i 0).isLt
  have h2 : (i 2).val < 1 := (i 2).isLt
  rw [Shape.rowMajor_val_two, Shape.rowMajor_val_three]
  show (i 1).val * 1 + 0 = ((i 0).val * 784 + (i 1).val) * 1 + (i 2).val
  omega

theorem least_eq (k : Fin 4) (x : Vec Ideal S784x256 .f32) (w : Vec Ideal S64x2048 .f32) (i : Fin 784) :
    (least (distOf k x w) (ix2 i 0) : EReal) = blkScore k x w i (pick (blkScore k x w i)) := by
  obtain ⟨n, hn, _, e⟩ := nearest_first 0#32 (distOf k x w) i
  have hf : (fun j => distOf k x w (ix2 i j)) = blkScore k x w i := funext fun j => distOf_apply k x w i j
  rw [hf] at hn
  rw [e, distOf_apply, first_eq hn]

theorem zero_sum (a b c d : Ideal .f32) :
    (Scalar.addf (Scalar.addf (Scalar.addf (Scalar.addf (Scalar.ofBits (F := Ideal) .f32 0x00000000#32) a) b) c) d : EReal) = ((a : EReal) + b + c) + d := by
  show ((((Ideal.ofBits .f32 0x00000000#32 : EReal) + a) + b) + c) + d = ((a : EReal) + b + c) + d
  rw [Ideal.ofBits_zero_f32, zero_add]

theorem lossOf_eq (x : Vec Ideal S784x256 .f32) (w : Vec Ideal S64x2048 .f32) :
    (lossOf x w : EReal) = ∑ k : Fin 4, (total (distOf k x w) : EReal) := by
  rw [Fin.sum_univ_four]
  exact zero_sum _ _ _ _

theorem lossOf_apply (x : Vec Ideal S784x256 .f32) (w : Vec Ideal S64x2048 .f32) :
    (lossOf x w : EReal) = ∑ k : Fin 4, ∑ i : Fin 784, blkScore k x w i (pick (blkScore k x w i)) := by
  rw [lossOf_eq]
  refine Finset.sum_congr rfl fun k _ => ?_
  rw [total_apply]
  exact Finset.sum_congr rfl fun i _ => least_eq k x w i

end Cert.Proof.VqDist

end
-- ==== Proof.VqValue.lean ====
/-
  What the distance kernel leaves in its results, entry by entry.
-/
module

public import proofs.«01_k».proof.Proof.VqRegion
public import proofs.«01_k».proof.Proof.VqDist

@[expose] public section

noncomputable section

namespace Cert.Proof.VqValue

open Cert.KernelIdeal Cert.KernelIdeal.Gen Cert.Proof.VqGhost Cert.Proof.DistBody Cert.Proof.VqRegion Cert.Proof.VqDist
open Idealize.ShloMosaic Idealize.ShloMosaic.TcCoe Idealize.ShloMosaic.ValueIdx
open Idealize.ShloMosaic.Pipeline (Dat Window)
open scoped BigOperators

variable {F : FTy → Type} [FloatOps F] (V : Dev nD → Valuation τ sig (Elt F)) (c : Dev nD)

abbrev pt (t : Fin 8) : Fin cfg0.N := ⟨t.val, lt_of_lt_of_eq t.isLt (show 8 = cfg0.N from N_0.symm)⟩

theorem pt_lt (t : Fin cfg0.N) : t.val < 8 := lt_of_lt_of_eq t.isLt (show cfg0.N = 8 from N_0)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- Row `i` of the queries' block at point `t`. -/
theorem iblk0 (t : Fin cfg0.N) (i : Fin 784) (k : Fin 256) (j : Fin 6272) (hj : j.val = 784 * t.val + i.val) :
    iblk V c 0 t (ix2 i k : S784x256.Idx) = (V c (Proc.devRef .tc main_v0) : S6272x256.Idx → Elt F .f32) (ix2 j k) := by
  show (V c (Proc.devRef .tc main_v0) : S6272x256.Idx → Elt F .f32) ((win0_0.rect t).emb (ix2 i k : S784x256.Idx)) = _
  congr 1
  funext a
  refine Fin.ext ?_
  match a with
  | ⟨0, _⟩ =>
    rw [show ((win0_0.rect t).emb (ix2 i k : S784x256.Idx) ⟨0, by decide⟩ : ℕ) = _ from win0_0.rect_emb_val t (ix2 i k : S784x256.Idx) 0, (index0 t).1]
    show t.val * 784 + i.val = j.val
    omega
  | ⟨1, _⟩ =>
    rw [show ((win0_0.rect t).emb (ix2 i k : S784x256.Idx) ⟨1, by decide⟩ : ℕ) = _ from win0_0.rect_emb_val t (ix2 i k : S784x256.Idx) 1, (index0 t).2]
    show 0 * 256 + k.val = k.val
    omega

/-- The table's block is the whole transposed table. -/
theorem iblk1 (t : Fin cfg0.N) (y : S64x2048.Idx) :
    iblk V c 1 t y = (V c (Proc.devRef .tc main_v1) : S64x2048.Idx → Elt F .f32) y := by
  show (V c (Proc.devRef .tc main_v1) : S64x2048.Idx → Elt F .f32) ((win0_1.rect t).emb y) = _
  congr 1
  funext a
  refine Fin.ext ?_
  match a with
  | ⟨0, _⟩ => exact win0_1.rect_emb_val_of_index_zero t 0 (index1 t).1 y
  | ⟨1, _⟩ => exact win0_1.rect_emb_val_of_index_zero t 1 (index1 t).2 y

theorem inj2 : ∀ t t' : Fin cfg0.N, win0_2.index t = win0_2.index t' → t = t' :=
  fun t t' h => Fin.ext (by rw [← (index2 t).1, ← (index2 t').1, h])

theorem apart2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (inj2 t t' h)

theorem apart3 : ∀ t t' : Fin cfg0.N, (cfg0.win 3).flush t = true → (cfg0.win 3).flush t' = true → t ≠ t' →
    Disjoint ((cfg0.win 3).blk t).view.set ((cfg0.win 3).blk t').view.set :=
  fun t t' h h' hne => absurd (Fin.ext (by
    have := (flush0_3 t).mp h; have := (flush0_3 t').mp h'; have := pt_lt t; have := pt_lt t'; omega)) hne

/-- The rows found, by block. -/
theorem nums_apply (t : Fin cfg0.N) (i : Fin 784) (k : Fin 4) (j : Fin 6272) (hj : j.val = 784 * t.val + i.val) :
    (nums V c : S6272x4.Idx → Elt F .i32) (ix2 j k) = cols (iblk V c 0 t) (iblk V c 1 t) (ix2 i k) := by
  have he : (ix2 j k : S6272x4.Idx) = ((cfg0.win 2).blk t).view.emb (ix2 i k : S784x4.Idx) := by
    funext a
    refine Fin.ext ?_
    match a with
    | ⟨0, _⟩ =>
      refine Eq.trans ?_ (win0_2.rect_emb_val t (ix2 i k : S784x4.Idx) 0).symm
      rw [(index2 t).1]
      show j.val = t.val * 784 + i.val
      omega
    | ⟨1, _⟩ =>
      refine Eq.trans ?_ (win0_2.rect_emb_val t (ix2 i k : S784x4.Idx) 1).symm
      rw [(index2 t).2]
      show k.val = 0 * 4 + k.val
      omega
  have h := (dats V 0 c).arrAt_emb_eq_flushed 2 apart2 t (flush0_2 t) (ix2 i k : S784x4.Idx)
  rw [← he] at h
  refine h.trans ?_
  show (dats V 0 c).after 2 t (ix2 i k : S784x4.Idx) = _
  rw [after2]

/-- The loss is that accumulated over all the points. -/
theorem loss_apply :
    (loss V c : S1x1.Idx → Elt F .f32) (ix2 0 0) = sums V c 7 (pt 7).isLt (ix2 0 0) := by
  have he : (ix2 0 0 : S1x1.Idx) = ((cfg0.win 3).blk (pt 7)).view.emb (ix2 0 0 : S1x1.Idx) := by
    funext a
    refine Fin.ext ?_
    match a with
    | ⟨0, _⟩ => exact (win0_3.rect_emb_val_of_index_zero (pt 7) 0 (index3 _).1 (ix2 0 0 : S1x1.Idx)).symm
    | ⟨1, _⟩ => exact (win0_3.rect_emb_val_of_index_zero (pt 7) 1 (index3 _).2 (ix2 0 0 : S1x1.Idx)).symm
  have h := (dats V 0 c).arrAt_emb_eq_flushed 3 apart3 (pt 7) ((flush0_3 (pt 7)).mpr rfl) (ix2 0 0 : S1x1.Idx)
  rw [← he] at h
  refine h.trans ?_
  show (dats V 0 c).after 3 (pt 7) (ix2 0 0 : S1x1.Idx) = _
  rw [after3]
  rfl

/-! ## Over the extended reals, in the queries and the table -/

section Ideal
open Cert.Proof.VqPick

variable (q : S32x196x256.Idx → EReal) (w : S2048x64.Idx → EReal)

/-- Piece `b` of query `a`. -/
def piece (a : Fin 6272) (b : Fin 4) (k : Fin 64) : EReal := q (ix3 ⟨a.val / 196, by omega⟩ ⟨a.val % 196, by omega⟩ ⟨64 * b.val + k.val, by omega⟩)

/-- Row `j` of the table's block `b`. -/
def entry (b : Fin 4) (j : Fin 512) (k : Fin 64) : EReal := w (ix2 ⟨512 * b.val + j.val, by omega⟩ k)

/-- Their squared distance. -/
def sc (a : Fin 6272) (b : Fin 4) (j : Fin 512) : EReal := score (piece q a b) (entry w b j)

/-- The table row nearest to a piece. -/
def found (a : Fin 6272) (b : Fin 4) : Fin 2048 := ⟨512 * b.val + (pick (sc q w a b)).val, by have := (pick (sc q w a b)).isLt; omega⟩

/-- The sum of the least squared distances. -/
def lossAll : EReal := ∑ a : Fin 6272, ∑ b : Fin 4, sc q w a b (pick (sc q w a b))

variable (V : Dev nD → Valuation τ sig (Elt Ideal)) (c : Dev nD)
  (hq : (V c (Proc.devRef .tc main_v0) : S6272x256.Idx → EReal) = shapeCast S6272x256 q shapeCasts_S32x196x256_S6272x256)
  (hw : (V c (Proc.devRef .tc main_v1) : S64x2048.Idx → EReal) = transpose S64x2048 [1, 0] w transposes_S2048x64_S64x2048_1_0)

include hq hw

theorem blk_eq (t : Fin cfg0.N) (i : Fin 784) (k : Fin 4) (a : Fin 6272) (ha : a.val = 784 * t.val + i.val) :
    blkScore k (iblk V c 0 t) (iblk V c 1 t) i = sc q w a k := by
  funext j
  unfold blkScore sc
  congr 1
  · funext x
    refine (iblk0 V c t i _ a ha).trans ?_
    rw [hq]
    refine shapeCast_apply q shapeCasts_S32x196x256_S6272x256 _ _ ?_
    rw [Shape.rowMajor_val_three, Shape.rowMajor_val_two]
    show (a.val / 196 * 196 + a.val % 196) * 256 + (64 * k.val + x.val) = a.val * 256 + (64 * k.val + x.val)
    omega
  · funext x
    refine (iblk1 V c t _).trans ?_
    rw [hw]
    refine transpose_apply [1, 0] w transposes_S2048x64_S64x2048_1_0 _ _ fun z => ?_
    match z with
    | ⟨0, _⟩ => rfl
    | ⟨1, _⟩ => rfl

theorem nums_eq (a : Fin 6272) (k : Fin 4) :
    (nums V c : S6272x4.Idx → BitVec 32) (ix2 a k) = BitVec.ofNat 32 (found q w a k).val := by
  have ha : a.val = 784 * (pt ⟨a.val / 784, by omega⟩).val + (⟨a.val % 784, by omega⟩ : Fin 784).val := by
    show a.val = 784 * (a.val / 784) + a.val % 784
    omega
  refine (nums_apply V c (pt ⟨a.val / 784, by omega⟩) ⟨a.val % 784, by omega⟩ k a ha).trans ?_
  refine (cols_apply _ _ _ k).trans ?_
  rw [blk_eq q w V c hq hw _ _ k a ha]
  rfl

omit hq hw in
theorem add_one (z : FVec Ideal S1x1 .f32) (l : Ideal .f32) :
    (addf (shapeCast S1x1 z shapeCasts_S1x1_S1x1) (broadcast S1x1 l) (ix2 0 0) : EReal) = (z (ix2 0 0) : EReal) + (l : EReal) :=
  congrArg (fun u : EReal => u + (l : EReal)) (shapeCast_apply z shapeCasts_S1x1_S1x1 (ix2 0 0) (ix2 0 0 : S1x1.Idx) rfl)

omit hq hw in
theorem accum_apply (x : Vec Ideal S784x256 .f32) (y : Vec Ideal S64x2048 .f32) (z : Vec Ideal S1x1 .f32) :
    (accum x y z (ix2 0 0) : EReal) = (z (ix2 0 0) : EReal) + (lossOf x y : EReal) := add_one z _

omit hq hw in
theorem zero1_apply : (zero1 (F := Ideal) (ix2 0 0) : EReal) = 0 := Ideal.ofBits_zero_f32

omit hq hw in
theorem sum_of_steps {N : ℕ} (S L : (n : ℕ) → n < N → EReal) (h0 : ∀ h, S 0 h = L 0 h)
    (hs : ∀ n (h : n + 1 < N), S (n + 1) h = S n (Nat.lt_of_succ_lt h) + L (n + 1) h) (n : ℕ) (hn : n < N) :
    S n hn = ∑ t : Fin (n + 1), L t.val (Nat.lt_of_lt_of_le t.isLt hn) := by
  induction n with
  | zero => rw [h0, Fin.sum_univ_one]; rfl
  | succ n ih => rw [hs, ih, Fin.sum_univ_castSucc (n := n + 1)]; rfl

omit hq hw in
theorem sums_apply (n : ℕ) (hn : n < cfg0.N) :
    (sums V c n hn (ix2 0 0) : EReal) = ∑ t : Fin (n + 1), (lossOf (iblk V c 0 ⟨t.val, Nat.lt_of_lt_of_le t.isLt hn⟩) (iblk V c 1 ⟨t.val, Nat.lt_of_lt_of_le t.isLt hn⟩) : EReal) := by
  refine sum_of_steps (fun n hn => (sums V c n hn (ix2 0 0) : EReal)) (fun n hn => (lossOf (iblk V c 0 ⟨n, hn⟩) (iblk V c 1 ⟨n, hn⟩) : EReal)) (fun h => ?_) (fun n h => ?_) n hn
  · refine (accum_apply _ _ _).trans ?_
    rw [zero1_apply, zero_add]
  · exact accum_apply _ _ _

theorem loss_eq : ((loss V c : S1x1.Idx → EReal) (ix2 0 0)) = lossAll q w := by
  refine (loss_apply V c).trans ?_
  refine (sums_apply V c 7 (pt 7).isLt).trans ?_
  have h : ∀ t : Fin 8, (lossOf (iblk V c 0 (pt t)) (iblk V c 1 (pt t)) : EReal)
      = ∑ i : Fin 784, ∑ k : Fin 4, sc q w (finProdFinEquiv (t, i) : Fin (8 * 784)) k (pick (sc q w (finProdFinEquiv (t, i) : Fin (8 * 784)) k)) := by
    intro t
    rw [lossOf_apply, Finset.sum_comm]
    refine Finset.sum_congr rfl fun i _ => Finset.sum_congr rfl fun k _ => ?_
    rw [blk_eq q w V c hq hw (pt t) i k (finProdFinEquiv (t, i) : Fin (8 * 784)) (by
      show i.val + 784 * t.val = 784 * t.val + i.val
      omega)]
  refine (Finset.sum_congr rfl fun t _ => h t).trans ?_
  unfold lossAll
  rw [← Fintype.sum_prod_type' (f := fun (t : Fin 8) (i : Fin 784) => ∑ k : Fin 4, sc q w (finProdFinEquiv (t, i) : Fin (8 * 784)) k (pick (sc q w (finProdFinEquiv (t, i) : Fin (8 * 784)) k)))]
  exact Fintype.sum_equiv (finProdFinEquiv : Fin 8 × Fin 784 ≃ Fin (8 * 784)) _ (fun a : Fin (8 * 784) => ∑ k : Fin 4, sc q w a k (pick (sc q w a k))) fun x => rfl

end Ideal

end Cert.Proof.VqValue

end
-- ==== Proof.VqMath.lean ====
/-
  What the reference computes over the extended reals, entry by entry.
-/
module

public import proofs.«01_k».proof.Proof.VqReference
public import proofs.«01_k».proof.Proof.VqValue
public import proofs.«01_k».proof.Proof.GatherMath
public import Idealize.ShloMosaic.Lib.StackMember
public import Idealize.ShloMosaic.Lib.Pointwise.Reduce

@[expose] public section

noncomputable section

namespace Cert.Proof.VqMath

open Cert.ReferenceIdeal Cert.ReferenceIdeal.Gen
open Cert.Proof.VqReference Cert.Proof.VqPick Cert.Proof.VqDist Cert.Proof.VqValue Cert.Proof.GatherMath
open Idealize.ShloMosaic hiding ix1 ix2 ix3 ix4
open Idealize.ShloMosaic.ValueIdx
open scoped BigOperators

variable (q : S32x196x256.Idx → EReal) (w : S2048x64.Idx → EReal)

/-! ## The distances -/

/-- The sums of squares of a matrix's rows. -/
theorem squares_apply {n : ℕ} (x : FVec Ideal ⟨2, ![n, 64]⟩ .f32) (h' : Shape.ReducesTo ⟨2, ![n, 64]⟩ [1] ⟨1, ![n]⟩) (h : Shape.Reduces ⟨2, ![n, 64]⟩ [1] ⟨1, ![n]⟩)
    (i : Fin n) : (Host.reduceAdd (mulf x x) (constant S_ .f32 0x00000000#32) h' h_S_ (ix1 i) : EReal) = ∑ k : Fin 64, (x (ix2 i k) * x (ix2 i k) : EReal) := by
  have hl : ∀ k : Fin 64, h.lift (ix1 i) k = ix2 i k := by
    intro k
    funext a
    match a with
    | ⟨0, _⟩ => exact Fin.ext rfl
    | ⟨1, _⟩ => exact Fin.ext rfl
  refine (Ideal.hostReduceAdd_single h' h (mulf x x) _ (ix1 i)).trans ?_
  refine (congrArg (fun u : EReal => u + _) Ideal.ofBits_zero_f32).trans ((zero_add _).trans ?_)
  refine Finset.sum_congr rfl fun (k : Fin 64) _ => ?_
  exact congrArg (mulf x x) (hl k)

theorem dists_apply (n : Fin 25088) (r : Fin 2048) :
    (dists (F := Ideal) q w (ix2 n r) : EReal)
      = score (fun k => shapeCast S25088x64 q shapeCasts_S32x196x256_S25088x64 (ix2 n k)) (fun k => w (ix2 r k)) := by
  have e1 : (broadcastInDim S25088x2048 ![0, 1] bcast_S25088x1_S25088x2048_0_1
        (broadcastInDim S25088x1 ![0] bcast_S25088_S25088x1_0
          (Host.reduceAdd (F := Ideal) (mulf (shapeCast S25088x64 q shapeCasts_S32x196x256_S25088x64) (shapeCast S25088x64 q shapeCasts_S32x196x256_S25088x64))
            (constant S_ .f32 0x00000000#32) reducesTo_S25088x64_S25088_d1 h_S_)) (ix2 n r) : EReal)
      = ∑ k : Fin 64, ((shapeCast S25088x64 q shapeCasts_S32x196x256_S25088x64 (ix2 n k) : EReal) * shapeCast S25088x64 q shapeCasts_S32x196x256_S25088x64 (ix2 n k)) := by
    rw [broadcastInDim_apply ![0, 1] bcast_S25088x1_S25088x2048_0_1 _ (ix2 n r) (ix2 n 0) (fun a => by
      match a with
      | ⟨0, _⟩ => rfl
      | ⟨1, _⟩ => rfl)]
    rw [broadcastInDim_apply ![0] bcast_S25088_S25088x1_0 _ (ix2 n 0) (ix1 n) (fun a => by
      match a with
      | ⟨0, _⟩ => rfl)]
    exact squares_apply _ _ (by decide) n
  have e2 : (broadcastInDim S25088x2048 ![0, 1] bcast_S1x2048_S25088x2048_0_1
      (broadcastInDim S1x2048 ![1] bcast_S2048_S1x2048_1
        (Host.reduceAdd (F := Ideal) (mulf w w) (constant S_ .f32 0x00000000#32) reducesTo_S2048x64_S2048_d1 h_S_)) (ix2 n r) : EReal)
      = ∑ k : Fin 64, (w (ix2 r k) * w (ix2 r k) : EReal) := by
    rw [broadcastInDim_apply ![0, 1] bcast_S1x2048_S25088x2048_0_1 _ (ix2 n r) (ix2 0 r) (fun a => by
      match a with
      | ⟨0, _⟩ => rfl
      | ⟨1, _⟩ => rfl)]
    rw [broadcastInDim_apply ![1] bcast_S2048_S1x2048_1 _ (ix2 0 r) (ix1 r) (fun a => by
      match a with
      | ⟨0, _⟩ => rfl)]
    exact squares_apply w _ (by decide) r
  have e3 : (Host.dotGeneral (F := Ideal) (φ₁ := .f32) (φ₂ := .f32) dot_S25088x64_S64x2048_S25088x2048_1_0_0_1_n_n none (shapeCast S25088x64 q shapeCasts_S32x196x256_S25088x64)
          (transpose S64x2048 [1, 0] w transposes_S2048x64_S64x2048_1_0) (ix2 n r) : EReal)
      = ∑ k : Fin 64, ((shapeCast S25088x64 q shapeCasts_S32x196x256_S25088x64 (ix2 n k) : EReal) * w (ix2 r k)) := by
    refine (StackMember.dotGeneral_plain_apply (m := 25088) (k := 64) (n := 2048) none _ _ n r).trans ?_
    refine Finset.sum_congr rfl fun (k : Fin 64) _ => ?_
    refine congrArg (fun u : EReal => (shapeCast S25088x64 q shapeCasts_S32x196x256_S25088x64 (ix2 n k) : EReal) * u) ?_
    refine transpose_apply [1, 0] w transposes_S2048x64_S64x2048_1_0 _ (ix2 r k) fun z => ?_
    match z with
    | ⟨0, _⟩ => rfl
    | ⟨1, _⟩ => rfl
  unfold dists score
  exact congrArg₂ (fun a b : EReal => a + b) (congrArg₂ (fun a b : EReal => a - b) e1 (congrArg (fun a : EReal => (Ideal.ofBits .f32 0x40000000#32 : EReal) * a) e3)) e2

/-- Plane `b` of the distances: those of each query's piece `b` to the table's block `b`. -/
theorem plane_apply (b : Fin 4) (off : Fin 4 → ℕ) (h : S4x6272x4x512.Slices off S1x6272x1x512) (h0 : off 0 = b.val) (h1 : off 1 = 0) (h2 : off 2 = b.val) (h3 : off 3 = 0)
    (a : Fin 6272) (j : Fin 512) : (plane (F := Ideal) off h (planes (F := Ideal) q w) (ix2 a j) : EReal) = sc q w a b j := by
  unfold plane planes
  rw [shapeCast_apply _ shapeCasts_S1x6272x1x512_S6272x512 (ix2 a j) (ix4 0 a 0 j) (by
    rw [Shape.rowMajor_val_four, Shape.rowMajor_val_two]
    show ((0 * 6272 + a.val) * 1 + 0) * 512 + j.val = a.val * 512 + j.val
    omega)]
  rw [extractStridedSlice_apply off _ h (ix4 0 a 0 j) (ix4 b a b j) (fun z => by
    match z with
    | ⟨0, _⟩ => exact h0.symm
    | ⟨1, _⟩ => exact (congrArg (· + a.val) h1 |>.trans (Nat.zero_add _)).symm
    | ⟨2, _⟩ => exact h2.symm
    | ⟨3, _⟩ => exact (congrArg (· + j.val) h3 |>.trans (Nat.zero_add _)).symm)]
  rw [transpose_apply [1, 0, 2, 3] _ transposes_S6272x4x4x512_S4x6272x4x512_1_0_2_3 (ix4 b a b j) (ix4 a b b j) (fun z => by
    match z with
    | ⟨0, _⟩ => rfl
    | ⟨1, _⟩ => rfl
    | ⟨2, _⟩ => rfl
    | ⟨3, _⟩ => rfl)]
  rw [shapeCast_apply _ shapeCasts_S25088x2048_S6272x4x4x512 (ix4 a b b j) (ix2 ⟨4 * a.val + b.val, by omega⟩ ⟨512 * b.val + j.val, by omega⟩) (by
    rw [Shape.rowMajor_val_four, Shape.rowMajor_val_two]
    show (4 * a.val + b.val) * 2048 + (512 * b.val + j.val) = ((a.val * 4 + b.val) * 4 + b.val) * 512 + j.val
    omega)]
  refine (dists_apply q w _ _).trans ?_
  unfold sc
  congr 1
  funext k
  refine shapeCast_apply q shapeCasts_S32x196x256_S25088x64 _ _ ?_
  rw [Shape.rowMajor_val_three, Shape.rowMajor_val_two]
  show (a.val / 196 * 196 + a.val % 196) * 256 + (64 * b.val + k.val) = (4 * a.val + b.val) * 64 + k.val
  omega

/-! ## The numbers -/

theorem best_apply (d : FVec Ideal S6272x512 .f32) (b : Fin 4) (a : Fin 6272) :
    best (F := Ideal) d (BitVec.ofNat 32 (512 * b.val)) (ix1 a) = BitVec.ofNat 32 (512 * b.val + (pick fun j => d (ix2 a j)).val) := by
  obtain ⟨n, hn, e⟩ := argmax_first d (Host.negf d) (iotaInDim S6272x512 32 1) (constant S_ .f32 0xFF800000#32) (constantI S_ 32 0#32)
    (fun _ => rfl) (fun _ => rfl) (fun _ => ofBits_bot) (fun _ => rfl) a
  unfold best
  refine (congrArg₂ (fun u v : BitVec 32 => u + v) e rfl).trans ?_
  rw [← first_eq hn, Nat.add_comm]
  exact (BitVec.ofNat_add _ _).symm

/-- Number `k` of query (b, t). -/
theorem together_apply (l : Fin 4 → IVec S6272 32) (b : Fin 32) (t : Fin 196) (k : Fin 4) :
    together (l 0) (l 1) (l 2) (l 3) (ix3 b t k) = l k (ix1 ⟨196 * b.val + t.val, by omega⟩) := by
  unfold together
  rw [shapeCast_apply _ shapeCasts_S6272x4_S32x196x4 (ix3 b t k) (ix2 ⟨196 * b.val + t.val, by omega⟩ k) (by
    rw [Shape.rowMajor_val_three, Shape.rowMajor_val_two]
    show (196 * b.val + t.val) * 4 + k.val = (b.val * 196 + t.val) * 4 + k.val
    omega)]
  rw [transpose_apply [1, 0] _ transposes_S4x6272_S6272x4_1_0 _ (ix2 k ⟨196 * b.val + t.val, by omega⟩) (fun z => by
    match z with
    | ⟨0, _⟩ => rfl
    | ⟨1, _⟩ => rfl)]
  refine (concatenate_ofFn_unit_apply (t := S4x6272) 0 (fun n : Fin 4 => broadcastInDim S1x6272 ![1] bcast_S6272_S1x6272_1 (l n))
    concatenates_S1x6272_S1x6272_S1x6272_S1x6272_S4x6272_d0 rfl rfl (ix2 k ⟨196 * b.val + t.val, by omega⟩) k rfl
    (ix2 0 ⟨196 * b.val + t.val, by omega⟩) (fun z hz => by
      match z with
      | ⟨0, _⟩ => exact absurd rfl hz
      | ⟨1, _⟩ => rfl)).trans ?_
  refine broadcastInDim_apply ![1] bcast_S6272_S1x6272_1 (l k) _ _ fun z => ?_
  match z with
  | ⟨0, _⟩ => rfl

theorem together_four (l0 l1 l2 l3 : IVec S6272 32) (b : Fin 32) (t : Fin 196) (k : Fin 4) :
    together l0 l1 l2 l3 (ix3 b t k) = (![l0, l1, l2, l3] : Fin 4 → IVec S6272 32) k (ix1 ⟨196 * b.val + t.val, by omega⟩) :=
  together_apply ![l0, l1, l2, l3] b t k

theorem numbers_apply (b : Fin 32) (t : Fin 196) (k : Fin 4) :
    numbers (F := Ideal) q w (ix3 b t k) = BitVec.ofNat 32 (found q w ⟨196 * b.val + t.val, by omega⟩ k).val := by
  have hp : ∀ (b' : Fin 4) (off : Fin 4 → ℕ) (h : S4x6272x4x512.Slices off S1x6272x1x512), off 0 = b'.val → off 1 = 0 → off 2 = b'.val → off 3 = 0 →
      ∀ a : Fin 6272, best (F := Ideal) (plane (F := Ideal) off h (planes (F := Ideal) q w)) (BitVec.ofNat 32 (512 * b'.val)) (ix1 a) = BitVec.ofNat 32 (found q w a b').val := by
    intro b' off h h0 h1 h2 h3 a
    refine (best_apply _ b' a).trans ?_
    rw [show (fun j => (plane (F := Ideal) off h (planes (F := Ideal) q w) (ix2 a j) : EReal)) = sc q w a b' from
      funext fun j => plane_apply q w b' off h h0 h1 h2 h3 a j]
    rfl
  unfold numbers
  rw [together_four]
  match k with
  | 0 => exact hp 0 _ slices_S4x6272x4x512_S1x6272x1x512_0_0_0_0 rfl rfl rfl rfl _
  | 1 => exact hp 1 _ slices_S4x6272x4x512_S1x6272x1x512_1_0_1_0 rfl rfl rfl rfl _
  | 2 => exact hp 2 _ slices_S4x6272x4x512_S1x6272x1x512_2_0_2_0 rfl rfl rfl rfl _
  | 3 => exact hp 3 _ slices_S4x6272x4x512_S1x6272x1x512_3_0_3_0 rfl rfl rfl rfl _

end Cert.Proof.VqMath

end
-- ==== Proof.VqSum.lean ====
/-
  For queries and a table that are real numbers: the rows the reference takes, its first result, and its sum of squares.
-/
module

public import proofs.«01_k».proof.Proof.VqMath

@[expose] public section

noncomputable section

namespace Cert.Proof.VqSum

open Cert.ReferenceIdeal Cert.ReferenceIdeal.Gen
open Cert.Proof.VqReference Cert.Proof.VqPick Cert.Proof.VqDist Cert.Proof.VqValue Cert.Proof.VqMath Cert.Proof.GatherMath
open Idealize.ShloMosaic hiding ix1 ix2 ix3 ix4
open Idealize.ShloMosaic.ValueIdx
open scoped BigOperators

variable (q : S32x196x256.Idx → EReal) (w : S2048x64.Idx → EReal)

/-- Every number is a row of the table. -/
theorem numbers_lt (i : S32x196x4.Idx) : (numbers (F := Ideal) q w i).toNat < 2048 := by
  have h : numbers (F := Ideal) q w i = _ := (congrArg _ (ValueIdx.eq_ix3 i)).trans (numbers_apply q w (i 0) (i 1) (i 2))
  rw [h, BitVec.toNat_ofNat]
  exact lt_of_le_of_lt (Nat.mod_le _ _) (Fin.isLt _)

/-- The numbers as the reference reads them are the numbers. -/
theorem read_eq (ix : IVec S32x196x4 32) (h : ∀ i, (ix i).toNat < 2048) (b : Fin 32) (t : Fin 196) (k : Fin 4) :
    broadcastInDim S32x196x4x1 ![0, 1, 2] bcast_S32x196x4_S32x196x4x1_0_1_2
      (select (cmpi .slt ix (broadcastInDim S32x196x4 ![] bcast_S_S32x196x4 (constantI S_ 32 0#32)))
        (addi ix (broadcastInDim S32x196x4 ![] bcast_S_S32x196x4 (constantI S_ 32 2048#32))) ix) (ix4 b t k 0) = ix (ix3 b t k) := by
  rw [broadcastInDim_apply ![0, 1, 2] bcast_S32x196x4_S32x196x4x1_0_1_2 _ _ (ix3 b t k) (fun d => by
    match d with
    | ⟨0, _⟩ => rfl
    | ⟨1, _⟩ => rfl
    | ⟨2, _⟩ => rfl)]
  exact wrapped _ (h _)

/-- Entry `k` of the row taken for piece `b` of query `a`. -/
theorem taken_apply (a : Fin 6272) (b : Fin 4) (k : Fin 64) :
    (taken (F := Ideal) w (numbers (F := Ideal) q w) (ix3 ⟨a.val / 196, by omega⟩ ⟨a.val % 196, by omega⟩ ⟨64 * b.val + k.val, by omega⟩) : EReal) = w (ix2 (found q w a b) k) := by
  unfold taken
  rw [shapeCast_apply _ shapeCasts_S32x196x4x64_S32x196x256 _ (ix4 ⟨a.val / 196, by omega⟩ ⟨a.val % 196, by omega⟩ b k) (by
    rw [Shape.rowMajor_val_four, Shape.rowMajor_val_three]
    show ((a.val / 196 * 196 + a.val % 196) * 4 + b.val) * 64 + k.val = (a.val / 196 * 196 + a.val % 196) * 256 + (64 * b.val + k.val)
    omega)]
  refine (rows_apply _ w _ _ (found q w a b) ((read_eq _ (numbers_lt q w) _ _ _).trans ((numbers_apply q w _ _ _).trans ?_))).trans rfl
  rw [show (⟨196 * (a.val / 196) + a.val % 196, by omega⟩ : Fin 6272) = a from Fin.ext (by show 196 * (a.val / 196) + a.val % 196 = a.val; omega)]

/-- An index of the queries is one of a query, one of a piece and one within the piece. -/
def parts : Fin 6272 × Fin 4 × Fin 64 ≃ S32x196x256.Idx where
  toFun x := ix3 ⟨x.1.val / 196, by omega⟩ ⟨x.1.val % 196, by omega⟩ ⟨64 * x.2.1.val + x.2.2.val, by omega⟩
  invFun i := (⟨196 * (i 0).val + (i 1).val, by have h0 : (i 0).val < 32 := (i 0).isLt; have h1 : (i 1).val < 196 := (i 1).isLt; omega⟩,
    ⟨(i 2).val / 64, by have h2 : (i 2).val < 256 := (i 2).isLt; omega⟩, ⟨(i 2).val % 64, by omega⟩)
  left_inv x := by
    obtain ⟨a, b, k⟩ := x
    refine Prod.ext (Fin.ext ?_) (Prod.ext (Fin.ext ?_) (Fin.ext ?_))
    · show 196 * (a.val / 196) + a.val % 196 = a.val; omega
    · show (64 * b.val + k.val) / 64 = b.val; omega
    · show (64 * b.val + k.val) % 64 = k.val; omega
  right_inv i := by
    have h0 : (i 0).val < 32 := (i 0).isLt
    have h1 : (i 1).val < 196 := (i 1).isLt
    funext z
    refine Fin.ext ?_
    match z with
    | ⟨0, _⟩ => show (196 * (i 0).val + (i 1).val) / 196 = (i 0).val; omega
    | ⟨1, _⟩ => show (196 * (i 0).val + (i 1).val) % 196 = (i 1).val; omega
    | ⟨2, _⟩ => show 64 * ((i 2).val / 64) + (i 2).val % 64 = (i 2).val; omega

/-! ## Real queries and table -/

theorem ofBits_two : (Ideal.ofBits .f32 0x40000000#32 : EReal) = ((2 : ℝ) : EReal) := by
  simp [Ideal.ofBits, Ideal.ieee]
  rw [← EReal.coe_mul]
  norm_num

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The computed distance of real vectors is the sum of the squared differences. -/
theorem score_real (x y : Fin 64 → ℝ) : score (fun k => (x k : EReal)) (fun k => (y k : EReal)) = ∑ k, ((y k : EReal) - x k) * ((y k : EReal) - x k) := by
  unfold score
  rw [ofBits_two]
  simp only [← EReal.coe_mul, ← EReal.coe_sub, ← coe_sum, ← EReal.coe_add]
  congr 1
  rw [Finset.mul_sum, ← Finset.sum_sub_distrib, ← Finset.sum_add_distrib]
  exact Finset.sum_congr rfl fun k _ => by ring

variable (q' : S32x196x256.Idx → ℝ) (w' : S2048x64.Idx → ℝ)

theorem straight_real (e : S32x196x256.Idx → EReal) : straight (F := Ideal) e (fun i => (q' i : EReal)) = e :=
  funext fun i => EReal.sub_add_cancel (a := e i) (b := q' i)

theorem sc_real (a : Fin 6272) (b : Fin 4) (j : Fin 512) :
    sc (fun i => (q' i : EReal)) (fun i => (w' i : EReal)) a b j
      = ∑ k, (entry (fun i => (w' i : EReal)) b j k - piece (fun i => (q' i : EReal)) a b k) * (entry (fun i => (w' i : EReal)) b j k - piece (fun i => (q' i : EReal)) a b k) :=
  score_real _ _

/-- The sum of all the squared differences is the sum of the least distances. -/
theorem squares_real (e : FVec Ideal S32x196x256 .f32) (he : e = taken (F := Ideal) (fun i => (w' i : EReal)) (numbers (F := Ideal) (fun i => (q' i : EReal)) (fun i => (w' i : EReal)))) (i : S_.Idx) :
    (Host.reduceAdd (F := Ideal) (mulf (subf e (fun i => (q' i : EReal))) (subf e (fun i => (q' i : EReal)))) (constant S_ .f32 0x00000000#32)
      reducesTo_S32x196x256_S_d0_1_2 h_S_ i : EReal) = lossAll (fun i => (q' i : EReal)) (fun i => (w' i : EReal)) := by
  refine (Ideal.hostReduceAdd_total reducesTo_S32x196x256_S_d0_1_2 (fun b => b.elim0) _ _ i).trans ?_
  refine (congrArg (fun u : EReal => u + _) Ideal.ofBits_zero_f32).trans ((zero_add _).trans ?_)
  rw [← Equiv.sum_comp parts, Fintype.sum_prod_type]
  unfold lossAll
  refine Finset.sum_congr rfl fun a _ => ?_
  rw [Fintype.sum_prod_type]
  refine Finset.sum_congr rfl fun b _ => ?_
  rw [sc_real]
  refine Finset.sum_congr rfl fun k _ => ?_
  have h : (e (parts (a, b, k)) : EReal) = entry (fun i => (w' i : EReal)) b (pick (sc (fun i => (q' i : EReal)) (fun i => (w' i : EReal)) a b)) k := by
    rw [he]; exact taken_apply _ _ a b k
  show ((e (parts (a, b, k)) : EReal) - (q' (parts (a, b, k)) : EReal)) * ((e (parts (a, b, k)) : EReal) - (q' (parts (a, b, k)) : EReal)) = _
  rw [h]
  rfl

end Cert.Proof.VqSum

end
-- ==== Proof.VqClaims.lean ====
/-
  The whole kernel's claims over the extended reals: its run, the reference's, and that for finite arguments both end
  with the same four results.
-/
module

public import proofs.«01_k».proof.Defs
public import proofs.«01_k».proof.Proof.VqLaunch
public import proofs.«01_k».proof.Proof.VqSum
public import Idealize.ShloMosaic.Lib.ReduceAll

@[expose] public section

noncomputable section

namespace Cert.Proof.VqClaims

open Cert.Proof.GatherSpec Cert.Proof.GatherMath
open Cert.Proof.VqReference Cert.Proof.VqValue Cert.Proof.VqMath Cert.Proof.VqSum
open Idealize.ShloMosaic hiding ix1 ix2 ix3 ix4
open Idealize.ShloMosaic.ValueIdx Idealize.SL.Sem

/-- The facts that the precondition states about its shapes. -/
instance pre_facts : Cert.Pre_finite.Facts where
  bcast_S_S32x196x256 := by decide
  reducesTo_S32x196x256_S_d0_1_2 := by decide
  h_S_ := by decide
  bcast_S_S2048x64 := by decide
  reducesTo_S2048x64_S_d0_1 := by decide

/-! ## What the precondition says -/

theorem real_of_abs (x : EReal) (h : FloatOps.cmpf (F := Ideal) (φ := .f32) .olt (FloatOps.hostAbsf (F := Ideal) (φ := .f32) x) (FloatOps.ofBits (F := Ideal) .f32 0x7F800000#32) = 1#1) :
    (x.toReal : EReal) = x := by
  rw [show FloatOps.ofBits (F := Ideal) .f32 0x7F800000#32 = (⊤ : EReal) from VqPick.ofBits_top] at h
  have h' : max x (-x) < ⊤ := of_decide_eq_true ((StableHlo.Predicate.ofBool_eq_one_iff _).mp h)
  refine EReal.coe_toReal (fun e => ?_) (fun e => ?_)
  · subst e; simp at h'
  · subst e; simp at h'

/-- Finite arguments are real numbers. -/
theorem real_of_pre (q : Cert.Pre_finite.S32x196x256.Idx → EReal) (w : Cert.Pre_finite.S2048x64.Idx → EReal)
    (h : (Cert.Pre_finite.fn (F := Ideal) q w).1 = (fun _ => 1#1) ∧ (Cert.Pre_finite.fn (F := Ideal) q w).2 = (fun _ => 1#1)) :
    q = (fun i => ((q i).toReal : EReal)) ∧ w = fun i => ((w i).toReal : EReal) := by
  haveI : Subsingleton Cert.Pre_finite.S_.Idx := ⟨fun a b => funext fun k => k.elim0⟩
  obtain ⟨e1, e2⟩ := h
  have e1 := congrFun e1 (fun a => a.elim0)
  have e2 := congrFun e2 (fun a => a.elim0)
  simp only [Cert.Pre_finite.fn] at e1 e2
  refine ⟨funext fun i => ?_, funext fun i => ?_⟩
  · exact (real_of_abs (q i) (Host.reduce_andi_all _ _ _ _ _ e1 i)).symm
  · exact (real_of_abs (w i) (Host.reduce_andi_all _ _ _ _ _ e2 i)).symm

section Real
open Cert.ReferenceIdeal Cert.ReferenceIdeal.Gen

variable (q : S32x196x256.Idx → EReal) (w : S2048x64.Idx → EReal) (hq : q = fun i => ((q i).toReal : EReal))

include hq

theorem rows_real : rows (F := Ideal) q w = taken (F := Ideal) w (numbers (F := Ideal) q w) := by
  have h := straight_real (fun i => (q i).toReal) (taken (F := Ideal) w (numbers (F := Ideal) q w))
  rwa [← hq] at h

theorem sum_real (hw : w = fun i => ((w i).toReal : EReal)) (i : S_.Idx) :
    (Host.reduceAdd (F := Ideal) (mulf (subf (taken (F := Ideal) w (numbers (F := Ideal) q w)) q) (subf (taken (F := Ideal) w (numbers (F := Ideal) q w)) q))
      (constant S_ .f32 0x00000000#32) reducesTo_S32x196x256_S_d0_1_2 h_S_ i : EReal) = lossAll q w := by
  have h := squares_real (fun i => (q i).toReal) (fun i => (w i).toReal) _ rfl i
  rwa [← hq, ← hw] at h

end Real

/-! ## The kernel's results are the reference's -/

section Same
open Cert.KernelIdeal Cert.KernelIdeal.Gen

variable (q : S32x196x256.Idx → EReal) (w : S2048x64.Idx → EReal) (N : S6272x4.Idx → BitVec 32)
  (hN : ∀ (a : Fin 6272) (k : Fin 4), N (ix2 a k) = BitVec.ofNat 32 (found q w a k).val)

include hN

theorem nums_same : shapeCast S32x196x4 N shapeCasts_S6272x4_S32x196x4 = numbers (F := Ideal) q w := by
  funext i
  have h0 : (i 0).val < 32 := (i 0).isLt
  have h1 : (i 1).val < 196 := (i 1).isLt
  have e : numbers (F := Ideal) q w i = _ := (congrArg _ (ValueIdx.eq_ix3 i)).trans (numbers_apply q w (i 0) (i 1) (i 2))
  rw [e, shapeCast_apply N shapeCasts_S6272x4_S32x196x4 i (ix2 ⟨196 * (i 0).val + (i 1).val, by omega⟩ (i 2)) (by
    rw [Shape.rowMajor_val_three, Shape.rowMajor_val_two]
    show (196 * (i 0).val + (i 1).val) * 4 + (i 2).val = ((i 0).val * 196 + (i 1).val) * 4 + (i 2).val
    omega)]
  exact hN _ _

theorem flat_same : shapeCast S25088 N shapeCasts_S6272x4_S25088 = shapeCast SIx (numbers (F := Ideal) q w : SIdx.Idx → BitVec 32) (by decide) := by
  funext i
  have hi : (i 0).val < 25088 := (i 0).isLt
  rw [← nums_same q w N hN]
  rw [shapeCast_apply N shapeCasts_S6272x4_S25088 i (ix2 ⟨(i 0).val / 4, by omega⟩ ⟨(i 0).val % 4, by omega⟩) (by
    rw [Shape.rowMajor_val_one, Shape.rowMajor_val_two]
    show (i 0).val / 4 * 4 + (i 0).val % 4 = (i 0).val
    omega)]
  symm
  refine (shapeCast_apply (s := SIdx) (t := SIx) _ _ i (ix3 ⟨(i 0).val / 784, by omega⟩ ⟨(i 0).val / 4 % 196, by omega⟩ ⟨(i 0).val % 4, by omega⟩) (by
    rw [Shape.rowMajor_val_one, Shape.rowMajor_val_three]
    show ((i 0).val / 784 * 196 + (i 0).val / 4 % 196) * 4 + (i 0).val % 4 = (i 0).val
    omega)).trans ?_
  refine shapeCast_apply N shapeCasts_S6272x4_S32x196x4 _ _ ?_
  rw [Shape.rowMajor_val_three, Shape.rowMajor_val_two]
  show (i 0).val / 4 * 4 + (i 0).val % 4 = ((i 0).val / 784 * 196 + (i 0).val / 4 % 196) * 4 + (i 0).val % 4
  omega

/-- Every number that the kernel finds is a row of the table. -/
theorem flat_inTable (n : ℕ) : (word (shapeCast S25088 N shapeCasts_S6272x4_S25088 : S25088.Idx → BitVec 32) n).toNat < 2048 := by
  rw [flat_same q w N hN]
  exact numbers_lt q w _

theorem rows_same : (gathered (VqLaunch.padded (F := Ideal) w) (shapeCast S25088 N shapeCasts_S6272x4_S25088 : S25088.Idx → BitVec 32) : SOut.Idx → EReal)
    = taken (F := Ideal) w (numbers (F := Ideal) q w) := by
  rw [flat_same q w N hN]
  exact gathered_eq _ w _ _ _ (numbers (F := Ideal) q w) _ _ (numbers_lt q w) _ (read_eq _ (numbers_lt q w))

omit hN in
/-- The mean losses are equal when the sums are. -/
theorem mean_same (L : S1x1.Idx → EReal) (s : FVec Ideal S_ .f32) (h : ∀ i, (s i : EReal) = L (ix2 0 0)) :
    (Host.divf (F := Ideal) (shapeCast S_ L shapeCasts_S1x1_S_) (constant S_ .f32 0x49C40000#32) : FVec Ideal S_ .f32) = Host.divf s (constant S_ .f32 0x49C40000#32) := by
  have e : (shapeCast S_ L shapeCasts_S1x1_S_ : S_.Idx → EReal) = s := funext fun i => by
    rw [h, shapeCast_apply L shapeCasts_S1x1_S_ i (ix2 0 0) (by
      rw [Shape.rowMajor_val_two]
      have := (S_.rowMajor i).isLt
      have hn : S_.numel = 1 := rfl
      show 0 * 1 + 0 = (S_.rowMajor i).val
      omega)]
  rw [e]

end Same

/-! ## The runs -/

section Run
open Cert.KernelIdeal

variable (m : (ℓ : Loc nD τ sig) → Buf (Elt Ideal) ℓ)

/-- The arguments. -/
abbrev qOf (c : Dev nD) : S32x196x256.Idx → EReal := m ((c.tc : Thread nD τ).loc main_arg0)
abbrev wOf (c : Dev nD) : S2048x64.Idx → EReal := m ((c.tc : Thread nD τ).loc main_arg1)

theorem nums_found (c : Dev nD) (a : Fin 6272) (k : Fin 4) :
    (VqLaunch.nums1 m c : S6272x4.Idx → BitVec 32) (ix2 a k) = BitVec.ofNat 32 (found (qOf m c) (wOf m c) a k).val :=
  nums_eq (qOf m c) (wOf m c) (VqLaunch.V1 m) c (VqLaunch.V1_v0 m c) (VqLaunch.V1_v1 m c) a k

theorem loss_sum (c : Dev nD) : (VqLaunch.loss1 m c : S1x1.Idx → EReal) (ix2 0 0) = lossAll (qOf m c) (wOf m c) :=
  loss_eq (qOf m c) (wOf m c) (VqLaunch.V1 m) c (VqLaunch.V1_v0 m c) (VqLaunch.V1_v1 m c)

theorem inTable (c : Dev nD) (n : ℕ) :
    (word (shapeCast S25088 (VqLaunch.nums1 m c) Gen.facts₀.shapeCasts_S6272x4_S25088 : S25088.Idx → BitVec 32) n).toNat < 2048 :=
  flat_inTable (qOf m c) (wOf m c) _ (nums_found m c) n

end Run

/-! ## The claims -/

theorem frame_pi : Cert.quiescent_KernelIdeal := fun m g _ =>
  (θ_run _ _ _).mono (fun _ r => ⟨fun c => ⟨(r.1 c).2.2.2.2.1, (r.1 c).2.2.2.2.2⟩, r.2⟩) (VqLaunch.run_args m g (inTable m))

theorem frame_pi_finite : Cert.quiescent_KernelIdeal_pre_finite := fun m g _ => frame_pi m g trivial

theorem frame_ri : Cert.quiescent_ReferenceIdeal := fun m g _ =>
  (θ_run _ _ _).mono (fun _ r => ⟨fun c => ⟨(r.1 c).2.2.2.2.1, (r.1 c).2.2.2.2.2⟩, r.2⟩) (VqReference.run (F := Ideal) m g)

theorem frame_ri_finite : Cert.quiescent_ReferenceIdeal_pre_finite := fun m g _ => frame_ri m g trivial

theorem algebraic : Cert.algebraic_KernelIdeal_ReferenceIdeal_pre_finite := by
  intro m g m' g' h hm
  refine ⟨_, _, _, _, (θ_run _ _ _).mono (fun _ r c => r.1 c) (VqLaunch.run_args m g (inTable m)), ?_⟩
  refine (θ_run _ _ _).mono (fun r e c => ?_) (VqReference.run (F := Ideal) m' g')
  obtain ⟨e0, e1, e2, e3, e4, e5⟩ := e.1 c
  rw [(hm c).1, (hm c).2] at e0 e1 e3
  obtain ⟨hq, hw⟩ := real_of_pre _ _ (h c)
  have hr := rows_real (qOf m c) (wOf m c) hq
  refine ⟨e0.trans ?_, e1.trans ?_, e2, e3.trans ?_, e4, e5⟩
  · exact hr.trans (rows_same (qOf m c) (wOf m c) _ (nums_found m c)).symm
  · exact (nums_same (qOf m c) (wOf m c) _ (nums_found m c)).symm
  · refine (mean_same _ _ fun i => ?_).symm
    refine Eq.trans ?_ (loss_sum m c).symm
    rw [hr]
    exact sum_real (qOf m c) (wOf m c) hq hw i

end Cert.Proof.VqClaims

end
-- ==== Proof.lean ====
/-
  The claims of Defs.lean, put together: each program's run is proved in its own module under Proof/.
-/
module

public import proofs.«01_k».proof.Defs
public import proofs.«01_k».proof.Proof.Gen.Gather
public import proofs.«01_k».proof.Proof.Gen.GatherIdeal
public import proofs.«01_k».proof.Proof.Gen.GatherReference
public import proofs.«01_k».proof.Proof.Gen.GatherReferenceIdeal
public import proofs.«01_k».proof.Proof.GatherClaims
public import proofs.«01_k».proof.Proof.VqClaims
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal

@[expose] public section

noncomputable section

namespace Cert.Proof

open Idealize.ShloMosaic Idealize.SL.Sem

theorem claim : Cert.Claim :=
  ⟨Cert.KernelIdeal.Gen.facts, Cert.ReferenceIdeal.Gen.facts, Cert.Gather.Gen.facts, Cert.GatherIdeal.Gen.facts, Cert.GatherReferenceIdeal.Gen.facts,
    Cert.GatherReference.Gen.facts, VqClaims.pre_facts, GatherClaims.pre_facts, VqClaims.frame_pi, VqClaims.frame_pi_finite, VqClaims.frame_ri,
    VqClaims.frame_ri_finite, GatherClaims.frame_p, GatherClaims.frame_pi, GatherClaims.frame_ri, GatherClaims.frame_r, VqClaims.algebraic, trivial,
    GatherClaims.bitexact, GatherClaims.algebraic⟩

end Cert.Proof

end
